-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x8192x64x128 : S_.BroadcastsInDim S1x8192x64x128 (![] : Fin 0 → Fin S1x8192x64x128.rank)
  reducesTo_S1x8192x64x128_S_d0_1_2_3 : S1x8192x64x128.ReducesTo [0, 1, 2, 3] S_

variable [Facts]

def fn {F : FTy → Type} [FloatOps F] (main_arg0 : FVec F S1x1024x1024 .f32) (main_arg1 : FVec F S1024x8192 .f32) (main_arg2 : FVec F S1x8192x64x128 .f32) (main_arg3 : FVec F S1x8192x64x128 .f32) (main_arg4 : FVec F S8192x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x8192x64x128 .f32 := Host.absf main_arg2
  let main_cst_2 : FVec F S_ .f32 := constant S_ .f32 0x7F800000#32
  let main_v10 : FVec F S1x8192x64x128 .f32 := broadcastInDim S1x8192x64x128 ![] bcast_S_S1x8192x64x128 main_cst_2
  let main_v11 : IVec S1x8192x64x128 1 := cmpf .olt main_v9 main_v10
  let main_c_3 : IVec S_ 1 := constantI S_ 1 1#1
  let main_v12 : IVec S_ 1 := (fun x v => Host.reduce IntOp.andi x v reducesTo_S1x8192x64x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S1024x16x128 : Shape := ⟨3, ![1024, 16, 128]⟩
abbrev S2x512x8x128 : Shape := ⟨4, ![2, 512, 8, 128]⟩
abbrev S4x512x16x128 : Shape := ⟨4, ![4, 512, 16, 128]⟩
abbrev S3x512x16x128 : Shape := ⟨4, ![3, 512, 16, 128]⟩
abbrev S512x1024 : Shape := ⟨2, ![512, 1024]⟩
abbrev S256x1024 : Shape := ⟨2, ![256, 1024]⟩
abbrev S128x1024 : Shape := ⟨2, ![128, 1024]⟩
abbrev S8 : Shape := ⟨1, ![8]⟩
abbrev S14 : Shape := ⟨1, ![14]⟩
abbrev S2 : Shape := ⟨1, ![2]⟩
abbrev S3 : Shape := ⟨1, ![3]⟩
abbrev S6 : Shape := ⟨1, ![6]⟩
abbrev S_ : Shape := ⟨0, ![]⟩
abbrev S1 : Shape := ⟨1, ![1]⟩
abbrev S1x512x8x128 : Shape := ⟨4, ![1, 512, 8, 128]⟩
abbrev S512x8x128 : Shape := ⟨3, ![512, 8, 128]⟩
abbrev S1x512x16x128 : Shape := ⟨4, ![1, 512, 16, 128]⟩
abbrev S512x16x128 : Shape := ⟨3, ![512, 16, 128]⟩
abbrev S1024x8x128 : Shape := ⟨3, ![1024, 8, 128]⟩
abbrev S1024x1x128 : Shape := ⟨3, ![1024, 1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 19
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x16x128, .bf16⟩
  | .local _ .vmem, ⟨5, _⟩ => ⟨S1024x1024, .bf16⟩
  | .local _ .vmem, ⟨6, _⟩ => ⟨S2x512x8x128, .f32⟩
  | .local _ .vmem, ⟨7, _⟩ => ⟨S2x512x8x128, .f32⟩
  | .local _ .vmem, ⟨8, _⟩ => ⟨S4x512x16x128, .bf16⟩
  | .local _ .vmem, ⟨9, _⟩ => ⟨S3x512x16x128, .bf16⟩
  | .local _ .vmem, ⟨10, _⟩ => ⟨S512x1024, .bf16⟩
  | .local _ .vmem, ⟨11, _⟩ => ⟨S512x1024, .bf16⟩
  | .local _ .vmem, ⟨12, _⟩ => ⟨S256x1024, .bf16⟩
  | .local _ .vmem, ⟨13, _⟩ => ⟨S256x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S256x1024, .bf16⟩
  | .local _ .vmem, ⟨18, _⟩ => ⟨S512x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_64 : BitVec 32 := 0#32
  let v95 : BitVec 1 := Scalar.cmpi .eq v2 c0_i32_64
  let v96 : BitVec 32 := Scalar.extui v95
  let c0_i32_107 : BitVec 32 := 0#32
  let v97 : BitVec 1 := Scalar.cmpi .ne v96 c0_i32_107
  v97

def k0_dev8 : Nat :=
  let c0_i32_538 : BitVec 32 := 0#32
  let c3_i32_536 : BitVec 32 := 3#32
  let c1_i32_537 : BitVec 32 := 1#32
  let v702 : BitVec 32 := Scalar.muli c3_i32_536 c1_i32_537
  let v703 : BitVec 32 := Scalar.addi c0_i32_538 v702
  v703.toNat
def k0_dev9 : Nat :=
  let c0_i32_605 : BitVec 32 := 0#32
  let c4_i32_603 : BitVec 32 := 4#32
  let c1_i32_604 : BitVec 32 := 1#32
  let v752 : BitVec 32 := Scalar.muli c4_i32_603 c1_i32_604
  let v753 : BitVec 32 := Scalar.addi c0_i32_605 v752
  v753.toNat
def k0_dev10 : Nat :=
  let c0_i32_671 : BitVec 32 := 0#32
  let c1_i32_669 : BitVec 32 := 1#32
  let c1_i32_670 : BitVec 32 := 1#32
  let v802 : BitVec 32 := Scalar.muli c1_i32_669 c1_i32_670
  let v803 : BitVec 32 := Scalar.addi c0_i32_671 v802
  v803.toNat
def k0_dev11 : Nat :=
  let c0_i32_738 : BitVec 32 := 0#32
  let c3_i32_736 : BitVec 32 := 3#32
  let c1_i32_737 : BitVec 32 := 1#32
  let v851 : BitVec 32 := Scalar.muli c3_i32_736 c1_i32_737
  let v852 : BitVec 32 := Scalar.addi c0_i32_738 v851
  v852.toNat
def k0_dev12 : Nat :=
  let c0_i32_813 : BitVec 32 := 0#32
  let c4_i32_811 : BitVec 32 := 4#32
  let c1_i32_812 : BitVec 32 := 1#32
  let v907 : BitVec 32 := Scalar.muli c4_i32_811 c1_i32_812
  let v908 : BitVec 32 := Scalar.addi c0_i32_813 v907
  v908.toNat
def k0_dev13 : Nat :=
  let c0_i32_887 : BitVec 32 := 0#32
  let c1_i32_885 : BitVec 32 := 1#32
  let c1_i32_886 : BitVec 32 := 1#32
  let v963 : BitVec 32 := Scalar.muli c1_i32_885 c1_i32_886
  let v964 : BitVec 32 := Scalar.addi c0_i32_887 v963
  v964.toNat
def k0_dev14 : Nat :=
  let c0_i32_962 : BitVec 32 := 0#32
  let c7_i32_960 : BitVec 32 := 7#32
  let c1_i32_961 : BitVec 32 := 1#32
  let v1017 : BitVec 32 := Scalar.muli c7_i32_960 c1_i32_961
  let v1018 : BitVec 32 := Scalar.addi c0_i32_962 v1017
  v1018.toNat
def k0_dev15 : Nat :=
  let c0_i32_1036 : BitVec 32 := 0#32
  let c4_i32_1034 : BitVec 32 := 4#32
  let c1_i32_1035 : BitVec 32 := 1#32
  let v1072 : BitVec 32 := Scalar.muli c4_i32_1034 c1_i32_1035
  let v1073 : BitVec 32 := Scalar.addi c0_i32_1036 v1072
  v1073.toNat
def k0_dev16 : Nat :=
  let c0_i32_1110 : BitVec 32 := 0#32
  let c2_i32_1108 : BitVec 32 := 2#32
  let c1_i32_1109 : BitVec 32 := 1#32
  let v1128 : BitVec 32 := Scalar.muli c2_i32_1108 c1_i32_1109
  let v1129 : BitVec 32 := Scalar.addi c0_i32_1110 v1128
  v1129.toNat
def k0_dev17 : Nat :=
  let c0_i32_1184 : BitVec 32 := 0#32
  let c3_i32_1182 : BitVec 32 := 3#32
  let c1_i32_1183 : BitVec 32 := 1#32
  let v1182 : BitVec 32 := Scalar.muli c3_i32_1182 c1_i32_1183
  let v1183 : BitVec 32 := Scalar.addi c0_i32_1184 v1182
  v1183.toNat
def k0_dev18 : Nat :=
  let c0_i32_1259 : BitVec 32 := 0#32
  let c4_i32_1257 : BitVec 32 := 4#32
  let c1_i32_1258 : BitVec 32 := 1#32
  let v1236 : BitVec 32 := Scalar.muli c4_i32_1257 c1_i32_1258
  let v1237 : BitVec 32 := Scalar.addi c0_i32_1259 v1236
  v1237.toNat
def k0_dev19 : Nat :=
  let c0_i32_1334 : BitVec 32 := 0#32
  let c2_i32_1332 : BitVec 32 := 2#32
  let c1_i32_1333 : BitVec 32 := 1#32
  let v1291 : BitVec 32 := Scalar.muli c2_i32_1332 c1_i32_1333
  let v1292 : BitVec 32 := Scalar.addi c0_i32_1334 v1291
  v1292.toNat
def k0_dev20 : Nat :=
  let c0_i32_1409 : BitVec 32 := 0#32
  let c3_i32_1407 : BitVec 32 := 3#32
  let c1_i32_1408 : BitVec 32 := 1#32
  let v1345 : BitVec 32 := Scalar.muli c3_i32_1407 c1_i32_1408
  let v1346 : BitVec 32 := Scalar.addi c0_i32_1409 v1345
  v1346.toNat
def k0_dev21 : Nat :=
  let c0_i32_1484 : BitVec 32 := 0#32
  let c4_i32_1482 : BitVec 32 := 4#32
  let c1_i32_1483 : BitVec 32 := 1#32
  let v1399 : BitVec 32 := Scalar.muli c4_i32_1482 c1_i32_1483
  let v1400 : BitVec 32 := Scalar.addi c0_i32_1484 v1399
  v1400.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_112 : BitVec 32 := 3#32
  let v107 : BitVec 1 := Scalar.cmpi .eq v2 c3_i32_112
  let v108 : BitVec 32 := Scalar.extui v107
  let c0_i32_127 : BitVec 32 := 0#32
  let v109 : BitVec 1 := Scalar.cmpi .ne v108 c0_i32_127
  v109

def k0_dev22 : Nat :=
  let c0_i32_473 : BitVec 32 := 0#32
  let c6_i32_471 : BitVec 32 := 6#32
  let c1_i32_472 : BitVec 32 := 1#32
  let v658 : BitVec 32 := Scalar.muli c6_i32_471 c1_i32_472
  let v659 : BitVec 32 := Scalar.addi c0_i32_473 v658
  v659.toNat
def k0_dev23 : Nat :=
  let c0_i32_491 : BitVec 32 := 0#32
  let c6_i32_489 : BitVec 32 := 6#32
  let c1_i32_490 : BitVec 32 := 1#32
  let v675 : BitVec 32 := Scalar.muli c6_i32_489 c1_i32_490
  let v676 : BitVec 32 := Scalar.addi c0_i32_491 v675
  v676.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_128 : BitVec 32 := 4#32
  let v110 : BitVec 1 := Scalar.cmpi .eq v2 c4_i32_128
  let v111 : BitVec 32 := Scalar.extui v110
  let c0_i32_150 : BitVec 32 := 0#32
  let v112 : BitVec 1 := Scalar.cmpi .ne v111 c0_i32_150
  v112

def k0_dev24 : Nat :=
  let c0_i32_473 : BitVec 32 := 0#32
  let c5_i32_471 : BitVec 32 := 5#32
  let c1_i32_472 : BitVec 32 := 1#32
  let v658 : BitVec 32 := Scalar.muli c5_i32_471 c1_i32_472
  let v659 : BitVec 32 := Scalar.addi c0_i32_473 v658
  v659.toNat
def k0_dev25 : Nat :=
  let c0_i32_491 : BitVec 32 := 0#32
  let c5_i32_489 : BitVec 32 := 5#32
  let c1_i32_490 : BitVec 32 := 1#32
  let v675 : BitVec 32 := Scalar.muli c5_i32_489 c1_i32_490
  let v676 : BitVec 32 := Scalar.addi c0_i32_491 v675
  v676.toNat
def k0_dev26 : Nat :=
  let c0_i32_508 : BitVec 32 := 0#32
  let c7_i32_506 : BitVec 32 := 7#32
  let c1_i32_507 : BitVec 32 := 1#32
  let v692 : BitVec 32 := Scalar.muli c7_i32_506 c1_i32_507
  let v693 : BitVec 32 := Scalar.addi c0_i32_508 v692
  v693.toNat
def k0_dev27 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v462 : BitVec 32 := Scalar.addi v2 c4_i32_306
  let c8_i32_307 : BitVec 32 := 8#32
  let c0_i32_308 : BitVec 32 := 0#32
  let v463 : BitVec 1 := Scalar.cmpi .eq c8_i32_307 c0_i32_308
  let c1_i32_309 : BitVec 32 := 1#32
  let v464 : BitVec 32 := Scalar.select v463 c1_i32_309 c8_i32_307
  let v465 : BitVec 32 := Scalar.remsi v462 v464
  let c0_i32_311 : BitVec 32 := 0#32
  let v467 : BitVec 1 := Scalar.cmpi .slt v465 c0_i32_311
  let c0_i32_312 : BitVec 32 := 0#32
  let v468 : BitVec 1 := Scalar.cmpi .slt v464 c0_i32_312
  let v469 : BitVec 1 := Scalar.xori v467 v468
  let c0_i32_310 : BitVec 32 := 0#32
  let v466 : BitVec 1 := Scalar.cmpi .ne v465 c0_i32_310
  let v470 : BitVec 1 := Scalar.andi v469 v466
  let v471 : BitVec 32 := Scalar.addi v465 v464
  let v472 : BitVec 32 := Scalar.select v470 v471 v465
  let c1_i32_328 : BitVec 32 := 1#32
  let v497 : BitVec 32 := Scalar.muli v472 c1_i32_328
  let v498 : BitVec 32 := Scalar.addi c0_i32_329 v497
  v498.toNat
def k0_dev28 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_313 : BitVec 32 := 3#32
  let v473 : BitVec 32 := Scalar.addi v2 c3_i32_313
  let c2_i32_314 : BitVec 32 := 2#32
  let c4_i32_267 : BitVec 32 := 4#32
  let c0_i32_268 : BitVec 32 := 0#32
  let v380 : BitVec 1 := Scalar.cmpi .eq c4_i32_267 c0_i32_268
  let c1_i32_269 : BitVec 32 := 1#32
  let v381 : BitVec 32 := Scalar.select v380 c1_i32_269 c4_i32_267
  let v382 : BitVec 32 := Scalar.remsi v2 v381
  let c0_i32_271 : BitVec 32 := 0#32
  let v384 : BitVec 1 := Scalar.cmpi .slt v382 c0_i32_271
  let c0_i32_272 : BitVec 32 := 0#32
  let v385 : BitVec 1 := Scalar.cmpi .slt v381 c0_i32_272
  let v386 : BitVec 1 := Scalar.xori v384 v385
  let c0_i32_270 : BitVec 32 := 0#32
  let v383 : BitVec 1 := Scalar.cmpi .ne v382 c0_i32_270
  let v387 : BitVec 1 := Scalar.andi v386 v383
  let v388 : BitVec 32 := Scalar.addi v382 v381
  let v389 : BitVec 32 := Scalar.select v387 v388 v382
  let v474 : BitVec 32 := Scalar.muli c2_i32_314 v389
  let v475 : BitVec 32 := Scalar.subi v473 v474
  let c1_i32_342 : BitVec 32 := 1#32
  let v522 : BitVec 32 := Scalar.muli v475 c1_i32_342
  let v523 : BitVec 32 := Scalar.addi c0_i32_343 v522
  v523.toNat
def k0_dev29 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_315 : BitVec 32 := 1#32
  let v476 : BitVec 32 := Scalar.addi v2 c1_i32_315
  let c2_i32_322 : BitVec 32 := 2#32
  let c4_i32_267 : BitVec 32 := 4#32
  let c0_i32_268 : BitVec 32 := 0#32
  let v380 : BitVec 1 := Scalar.cmpi .eq c4_i32_267 c0_i32_268
  let c1_i32_269 : BitVec 32 := 1#32
  let v381 : BitVec 32 := Scalar.select v380 c1_i32_269 c4_i32_267
  let v382 : BitVec 32 := Scalar.remsi v2 v381
  let c0_i32_271 : BitVec 32 := 0#32
  let v384 : BitVec 1 := Scalar.cmpi .slt v382 c0_i32_271
  let c0_i32_272 : BitVec 32 := 0#32
  let v385 : BitVec 1 := Scalar.cmpi .slt v381 c0_i32_272
  let v386 : BitVec 1 := Scalar.xori v384 v385
  let c0_i32_270 : BitVec 32 := 0#32
  let v383 : BitVec 1 := Scalar.cmpi .ne v382 c0_i32_270
  let v387 : BitVec 1 := Scalar.andi v386 v383
  let v388 : BitVec 32 := Scalar.addi v382 v381
  let v389 : BitVec 32 := Scalar.select v387 v388 v382
  let c2_i32_316 : BitVec 32 := 2#32
  let c0_i32_317 : BitVec 32 := 0#32
  let v477 : BitVec 1 := Scalar.cmpi .eq c2_i32_316 c0_i32_317
  let c1_i32_318 : BitVec 32 := 1#32
  let v478 : BitVec 32 := Scalar.select v477 c1_i32_318 c2_i32_316
  let v479 : BitVec 32 := Scalar.remsi v389 v478
  let c0_i32_320 : BitVec 32 := 0#32
  let v481 : BitVec 1 := Scalar.cmpi .slt v479 c0_i32_320
  let c0_i32_321 : BitVec 32 := 0#32
  let v482 : BitVec 1 := Scalar.cmpi .slt v478 c0_i32_321
  let v483 : BitVec 1 := Scalar.xori v481 v482
  let c0_i32_319 : BitVec 32 := 0#32
  let v480 : BitVec 1 := Scalar.cmpi .ne v479 c0_i32_319
  let v484 : BitVec 1 := Scalar.andi v483 v480
  let v485 : BitVec 32 := Scalar.addi v479 v478
  let v486 : BitVec 32 := Scalar.select v484 v485 v479
  let v487 : BitVec 32 := Scalar.muli c2_i32_322 v486
  let v488 : BitVec 32 := Scalar.subi v476 v487
  let c1_i32_356 : BitVec 32 := 1#32
  let v547 : BitVec 32 := Scalar.muli v488 c1_i32_356
  let v548 : BitVec 32 := Scalar.addi c0_i32_357 v547
  v548.toNat
def k0_dev30 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_315 : BitVec 32 := 1#32
  let v476 : BitVec 32 := Scalar.addi v2 c1_i32_315
  let c2_i32_322 : BitVec 32 := 2#32
  let c4_i32_267 : BitVec 32 := 4#32
  let c0_i32_268 : BitVec 32 := 0#32
  let v380 : BitVec 1 := Scalar.cmpi .eq c4_i32_267 c0_i32_268
  let c1_i32_269 : BitVec 32 := 1#32
  let v381 : BitVec 32 := Scalar.select v380 c1_i32_269 c4_i32_267
  let v382 : BitVec 32 := Scalar.remsi v2 v381
  let c0_i32_271 : BitVec 32 := 0#32
  let v384 : BitVec 1 := Scalar.cmpi .slt v382 c0_i32_271
  let c0_i32_272 : BitVec 32 := 0#32
  let v385 : BitVec 1 := Scalar.cmpi .slt v381 c0_i32_272
  let v386 : BitVec 1 := Scalar.xori v384 v385
  let c0_i32_270 : BitVec 32 := 0#32
  let v383 : BitVec 1 := Scalar.cmpi .ne v382 c0_i32_270
  let v387 : BitVec 1 := Scalar.andi v386 v383
  let v388 : BitVec 32 := Scalar.addi v382 v381
  let v389 : BitVec 32 := Scalar.select v387 v388 v382
  let c2_i32_316 : BitVec 32 := 2#32
  let c0_i32_317 : BitVec 32 := 0#32
  let v477 : BitVec 1 := Scalar.cmpi .eq c2_i32_316 c0_i32_317
  let c1_i32_318 : BitVec 32 := 1#32
  let v478 : BitVec 32 := Scalar.select v477 c1_i32_318 c2_i32_316
  let v479 : BitVec 32 := Scalar.remsi v389 v478
  let c0_i32_320 : BitVec 32 := 0#32
  let v481 : BitVec 1 := Scalar.cmpi .slt v479 c0_i32_320
  let c0_i32_321 : BitVec 32 := 0#32
  let v482 : BitVec 1 := Scalar.cmpi .slt v478 c0_i32_321
  let v483 : BitVec 1 := Scalar.xori v481 v482
  let c0_i32_319 : BitVec 32 := 0#32
  let v480 : BitVec 1 := Scalar.cmpi .ne v479 c0_i32_319
  let v484 : BitVec 1 := Scalar.andi v483 v480
  let v485 : BitVec 32 := Scalar.addi v479 v478
  let v486 : BitVec 32 := Scalar.select v484 v485 v479
  let v487 : BitVec 32 := Scalar.muli c2_i32_322 v486
  let v488 : BitVec 32 := Scalar.subi v476 v487
  let c1_i32_372 : BitVec 32 := 1#32
  let v570 : BitVec 32 := Scalar.muli v488 c1_i32_372
  let v571 : BitVec 32 := Scalar.addi c0_i32_373 v570
  v571.toNat
def k0_dev31 (d0 : Dev nD) : Nat :=
  let c0_i32_395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_313 : BitVec 32 := 3#32
  let v473 : BitVec 32 := Scalar.addi v2 c3_i32_313
  let c2_i32_314 : BitVec 32 := 2#32
  let c4_i32_267 : BitVec 32 := 4#32
  let c0_i32_268 : BitVec 32 := 0#32
  let v380 : BitVec 1 := Scalar.cmpi .eq c4_i32_267 c0_i32_268
  let c1_i32_269 : BitVec 32 := 1#32
  let v381 : BitVec 32 := Scalar.select v380 c1_i32_269 c4_i32_267
  let v382 : BitVec 32 := Scalar.remsi v2 v381
  let c0_i32_271 : BitVec 32 := 0#32
  let v384 : BitVec 1 := Scalar.cmpi .slt v382 c0_i32_271
  let c0_i32_272 : BitVec 32 := 0#32
  let v385 : BitVec 1 := Scalar.cmpi .slt v381 c0_i32_272
  let v386 : BitVec 1 := Scalar.xori v384 v385
  let c0_i32_270 : BitVec 32 := 0#32
  let v383 : BitVec 1 := Scalar.cmpi .ne v382 c0_i32_270
  let v387 : BitVec 1 := Scalar.andi v386 v383
  let v388 : BitVec 32 := Scalar.addi v382 v381
  let v389 : BitVec 32 := Scalar.select v387 v388 v382
  let v474 : BitVec 32 := Scalar.muli c2_i32_314 v389
  let v475 : BitVec 32 := Scalar.subi v473 v474
  let c1_i32_394 : BitVec 32 := 1#32
  let v593 : BitVec 32 := Scalar.muli v475 c1_i32_394
  let v594 : BitVec 32 := Scalar.addi c0_i32_395 v593
  v594.toNat
def k0_dev32 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_306 : BitVec 32 := 4#32
  let v462 : BitVec 32 := Scalar.addi v2 c4_i32_306
  let c8_i32_307 : BitVec 32 := 8#32
  let c0_i32_308 : BitVec 32 := 0#32
  let v463 : BitVec 1 := Scalar.cmpi .eq c8_i32_307 c0_i32_308
  let c1_i32_309 : BitVec 32 := 1#32
  let v464 : BitVec 32 := Scalar.select v463 c1_i32_309 c8_i32_307
  let v465 : BitVec 32 := Scalar.remsi v462 v464
  let c0_i32_311 : BitVec 32 := 0#32
  let v467 : BitVec 1 := Scalar.cmpi .slt v465 c0_i32_311
  let c0_i32_312 : BitVec 32 := 0#32
  let v468 : BitVec 1 := Scalar.cmpi .slt v464 c0_i32_312
  let v469 : BitVec 1 := Scalar.xori v467 v468
  let c0_i32_310 : BitVec 32 := 0#32
  let v466 : BitVec 1 := Scalar.cmpi .ne v465 c0_i32_310
  let v470 : BitVec 1 := Scalar.andi v469 v466
  let v471 : BitVec 32 := Scalar.addi v465 v464
  let v472 : BitVec 32 := Scalar.select v470 v471 v465
  let c1_i32_416 : BitVec 32 := 1#32
  let v616 : BitVec 32 := Scalar.muli v472 c1_i32_416
  let v617 : BitVec 32 := Scalar.addi c0_i32_417 v616
  v617.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x8192x64x128, .f32⟩
  | .hbm, ⟨3, _⟩ => ⟨S1x8192x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S1x8192, .i32⟩
  | .hbm, ⟨47, _⟩ => ⟨S1024x8192, .i32⟩
  | .hbm, ⟨48, _⟩ => ⟨S1024x8192, .i32⟩
  | .hbm, ⟨49, _⟩ => ⟨S1024x8192, .i1⟩
  | .hbm, ⟨50, _⟩ => ⟨S1x64x1024x8192, .f32⟩
  | .hbm, ⟨51, _⟩ => ⟨S_, .f32⟩
  | .hbm, ⟨52, _⟩ => ⟨S1x64x1024x8192, .f32⟩
  | .hbm, ⟨53, _⟩ => ⟨S1x64x1024x8192, .f32⟩
  | .hbm, ⟨54, _⟩ => ⟨S1x1x1024x8192, .i1⟩
  | .hbm, ⟨55, _⟩ => ⟨S_, .f32⟩
  | .hbm, ⟨56, _⟩ => ⟨S_, .f32⟩
  | .hbm, ⟨57, _⟩ => ⟨S1x64x1024x8192, .i1⟩
  | .hbm, ⟨58, _⟩ => ⟨S1x64x1024x8192, .f32⟩
  | .hbm, ⟨59, _⟩ => ⟨S1x64x1024x8192, .f32⟩
  | .hbm, ⟨60, _⟩ => ⟨S_, .f32⟩
  | .hbm, ⟨61, _⟩ => ⟨S1x64x1024, .f32⟩
  | .hbm, ⟨62, _⟩ => ⟨S1x64x1024x1, .f32⟩
  | .hbm, ⟨63, _⟩ => ⟨S1x64x1024x8192, .f32⟩
  | .hbm, ⟨64, _⟩ => ⟨S1x64x1024x8192, .f32⟩
  | .hbm, ⟨65, _⟩ => ⟨S1x64x1024x8192, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x64x1024, .f32⟩
  | .hbm, ⟨71, _⟩ => ⟨S1x64x1024x1, .f32⟩
  | .hbm, ⟨72, _⟩ => ⟨S_, .f32⟩
  | .hbm, ⟨73, _⟩ => ⟨S_, .f32⟩
  | .hbm, ⟨74, _⟩ => ⟨S1x64x1024x1, .i1⟩
  | .hbm, ⟨75, _⟩ => ⟨S1x64x1024x1, .f32⟩
  | .hbm, ⟨76, _⟩ => ⟨S1x64x1024x1, .f32⟩
  | .hbm, ⟨77, _⟩ => ⟨S1x64x1024x8192, .f32⟩
  | .hbm, ⟨78, _⟩ => ⟨S1x64x1024x8192, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x64x1024x8192, .i1⟩
  | .hbm, ⟨83, _⟩ => ⟨S1x64x1024x8192, .f32⟩
  | .hbm, ⟨84, _⟩ => ⟨S1x64x1024x8192, .f32⟩
  | .hbm, ⟨85, _⟩ => ⟨S1x64x128x1024, .f32⟩
  | .hbm, ⟨86, _⟩ => ⟨S1x1024x64x128, .f32⟩
  | .hbm, ⟨87, _⟩ => ⟨S1x1024x8192, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Text.lean ====
/- The kernel's body in sections, with the device, the fragment, the head and the exchange as variables: the entry
   barrier, device 0's distribution of the keys and values, the two relays, attention, the six exchanges, the final
   waits. It is the printed body by unfolding. -/
module

public import proofs.«01_k».proof.Proof.Gen.KernelIdeal.Skeleton
public import proofs.«01_k».proof.Proof.Gen.KernelIdeal.Launch
public import Idealize.ShloMosaic.Lib.Tactic

@[expose] public section

set_option maxRecDepth 65536

noncomputable section

namespace Cert.KernelIdeal.Att

open Idealize.ShloMosaic Idealize.ShloMosaic.TcCoe
open Idealize.SL Idealize.SL.RA Idealize.SL.BI
open Idealize.SL.Sem
open Cert.KernelIdeal.Gen

variable {F : FTy → Type} [FloatOps F] [Named F]

/-- The body's programs. -/
abbrev P (F : FTy → Type) (α : Type) := Prog (TpuEff nD τ sig (Elt F) Λ₀ .tc) α

/-! ## Memory -/

/-- A half of the key/value buffer: its keys `512 h` and up. -/
def kvHalf (h : Fin 2) : Memref sig .tc .vmem S512x16x128 .bf16 :=
  (Memref.whole cc0_scratch0).slice (Rect.unit (s := S1024x16x128) ![512 * h.val, 0, 0] S512x16x128.size (by revert h; decide)) (fun _ => rfl)
/-- A slot of the staging buffer. -/
def stSlot (j : Fin 4) : Memref sig .tc .vmem S512x16x128 .bf16 :=
  ((Memref.whole cc0_scratch4).slice (Rect.unit (s := S4x512x16x128) ![j.val, 0, 0, 0] S1x512x16x128.size (by revert j; decide)) (fun _ => rfl)).squeeze S512x16x128 squeezes_S1x512x16x128_S512x16x128
/-- A slot of the relay buffer. -/
def rbSlot (s : Fin 3) : Memref sig .tc .vmem S512x16x128 .bf16 :=
  ((Memref.whole cc0_scratch5).slice (Rect.unit (s := S3x512x16x128) ![s.val, 0, 0, 0] S1x512x16x128.size (by revert s; decide)) (fun _ => rfl)).squeeze S512x16x128 squeezes_S1x512x16x128_S512x16x128
/-- A slot of the landing buffer of the keys (`w = 0`) or of the values (`w = 1`). -/
def tmpB (w : Fin 2) : Memref sig .tc .vmem S2x512x8x128 .f32 := match w with | 0 => Memref.whole cc0_scratch2 | 1 => Memref.whole cc0_scratch3
def tmpSlot (w t : Fin 2) : Memref sig .tc .vmem S512x8x128 .f32 :=
  ((tmpB w).slice (Rect.unit (s := S2x512x8x128) ![t.val, 0, 0, 0] S1x512x8x128.size (by revert t; decide)) (fun _ => rfl)).squeeze S512x8x128 squeezes_S1x512x8x128_S512x8x128
/-- The keys' or the values' array. -/
def hbm (w : Fin 2) : Memref sig .tc .hbm S1x1024x64x128 .f32 := match w with | 0 => Memref.whole main_arg2 | 1 => Memref.whole main_arg3

/-- The device whose heads fragment `i` carries, and the half of the keys. -/
def frDev : Fin 16 → Fin 8 := ![6, 5, 1, 6, 5, 1, 7, 7, 2, 3, 4, 2, 3, 4, 0, 0]
def frHalf : Fin 16 → Fin 2 := ![0, 0, 0, 1, 1, 1, 0, 1, 0, 0, 0, 1, 1, 1, 0, 1]
/-- Fragment `i` of the keys' or values' array. -/
def frag (w : Fin 2) (i : Fin 16) : Memref sig .tc .hbm S512x8x128 .f32 :=
  ((hbm w).slice (Rect.unit (s := S1x1024x64x128) ![0, 512 * (frHalf i).val, 8 * (frDev i).val, 0] S1x512x8x128.size (by revert i; decide)) (fun _ => rfl)).squeeze S512x8x128 squeezes_S1x512x8x128_S512x8x128

/-- The six exchanges' shapes and buffers: what is sent, and where it lands. -/
def exS : Fin 6 → Shape := ![S512x1024, S256x1024, S128x1024, S128x1024, S256x1024, S512x1024]
def srcB : (j : Fin 6) → Memref sig .tc .vmem (exS j) .bf16
  | 0 => Memref.whole cc0_scratch6 | 1 => Memref.whole cc0_scratch8 | 2 => Memref.whole cc0_scratch10
  | 3 => Memref.whole cc0_scratch10 | 4 => Memref.whole cc0_scratch8 | 5 => Memref.whole cc0_scratch6
def dstB : (j : Fin 6) → Memref sig .tc .vmem (exS j) .bf16
  | 0 => Memref.whole cc0_scratch7 | 1 => Memref.whole cc0_scratch9 | 2 => Memref.whole cc0_scratch11
  | 3 => Memref.whole cc0_scratch12 | 4 => Memref.whole cc0_scratch13 | 5 => Memref.whole cc0_scratch14

/-! ## Semaphores -/

def barS : Sem sig := (SemArray.scalar (sig.barrier 0 rfl) : Sems sig S_).sem
def copyS (i : Fin 8) : DmaSem sig := ⟨4 + i.val, by revert i; decide⟩
def kvsS (i : Fin 14) : DmaSem sig := ⟨12 + i.val, by revert i; decide⟩
def kvrS (i : Fin 2) : DmaSem sig := ⟨26 + i.val, by revert i; decide⟩
def rlsS (i : Fin 3) : DmaSem sig := ⟨28 + i.val, by revert i; decide⟩
def rlrS (i : Fin 3) : DmaSem sig := ⟨31 + i.val, by revert i; decide⟩
def arsS (i : Fin 6) : DmaSem sig := ⟨34 + i.val, by revert i; decide⟩
def arrS (i : Fin 6) : DmaSem sig := ⟨40 + i.val, by revert i; decide⟩

/-! ## What the stores write -/

/-- A fragment's keys or values, rounded. -/
def castV (v : Vec F S1x512x8x128 .f32) : Vec F S512x8x128 .bf16 :=
  shapeCast S512x8x128 (truncf .bf16 (shapeCast S512x8x128 v shapeCasts_S1x512x8x128_S512x8x128 : FVec F S512x8x128 .f32) bitsLt_bf16_f32 : FVec F S512x8x128 .bf16) shapeCasts_S512x8x128_S512x8x128
/-- The same with a leading axis of one. -/
def castV1 (v : Vec F S1x512x8x128 .f32) : Vec F S1x512x8x128 .bf16 :=
  shapeCast S1x512x8x128 (castV v) shapeCasts_S512x8x128_S1x512x8x128

/-- Which keys a row attends to: its own block of 64 and the blocks before it. -/
def maskV : IVec S1024x1024 1 :=
  k0_pay41 k0_pay37 (iota .tc S1024x1024 32 [1] iota_S1024x1024_d1_w32) k0_pay38 k0_pay39 k0_pay40

/-- One head's attention: the scores scaled, masked, normalised, and their sum of the values. -/
def headF (m : IVec S1024x1024 1) (q : FVec F S1024x1x128 .bf16) (k v : Vec F S1024x1x128 .bf16) : FVec F S1024x128 .bf16 :=
  let s : FVec F S1024x1024 .f32 := mulf (matmul dot_S1024x128_S1024x128_S1024x1024_1_1_0_0_n_n none
      (shapeCast S1024x128 q shapeCasts_S1024x1x128_S1024x128 : FVec F S1024x128 .bf16)
      (shapeCast S1024x128 k shapeCasts_S1024x1x128_S1024x128 : FVec F S1024x128 .bf16) (constant S1024x1024 .f32 0x00000000#32))
    (broadcast S1024x1024 (Scalar.ofBits .f32 0x3DB504F3#32 : F .f32))
  let w : FVec F S1024x1024 .f32 := select m s (broadcast S1024x1024 (Named.named κ "mask" 0xCE6E6B28#32 : F .f32))
  let x : FVec F S1024 .f32 := multiReduction .maximumf [1] S1024 w 0xFF800000#32 reduces_S1024x1024_S1024 (.inl rfl) rfl
  let e : FVec F S1024x1024 .f32 := exp (subf w (broadcastTo S1024x1024 (shapeCast S1024x1 x shapeCasts_S1024_S1024x1 : FVec F S1024x1 .f32) broadcasts_S1024x1_S1024x1024))
  let d : FVec F S1024 .f32 := multiReduction .add [1] S1024 e 0x00000000#32 reduces_S1024x1024_S1024 (.inl rfl) rfl
  let p : FVec F S1024x1024 .bf16 := truncf .bf16 (divf e (broadcastTo S1024x1024 (shapeCast S1024x1 d shapeCasts_S1024_S1024x1 : FVec F S1024x1 .f32) broadcasts_S1024x1_S1024x1024)) bitsLt_bf16_f32
  shapeCast S1024x128 (truncf .bf16 (matmul dot_S1024x1024_S1024x128_S1024x128_1_0_0_1_n_n none p
      (shapeCast S1024x128 v shapeCasts_S1024x1x128_S1024x128 : FVec F S1024x128 .bf16) (constant S1024x128 .f32 0x00000000#32) : FVec F S1024x128 .f32) bitsLt_bf16_f32 : FVec F S1024x128 .bf16) shapeCasts_S1024x128_S1024x128

/-- Head `h`'s queries. -/
theorem qSlices (h : Fin 8) : S1024x8x128.Slices ![0, h.val, 0] S1024x1x128 := by
  revert h; decide
def qHead (q : FVec F S1024x8x128 .bf16) (h : Fin 8) : FVec F S1024x1x128 .bf16 :=
  extractStridedSlice S1024x1x128 ![0, h.val, 0] q (qSlices h)

/-! ## The device's words -/

/-- The floor of a quotient, and the remainder with the divisor's sign, as the text computes them. -/
def floorW (x y : BitVec 32) : BitVec 32 :=
  Scalar.select (Scalar.andi
      (Scalar.cmpi .ne (Scalar.subi (Scalar.extui (Scalar.cmpi .sgt x 0#32)) (Scalar.extui (Scalar.cmpi .slt x 0#32)) : BitVec 32)
        (Scalar.subi (Scalar.extui (Scalar.cmpi .sgt y 0#32)) (Scalar.extui (Scalar.cmpi .slt y 0#32))))
      (Scalar.cmpi .ne (Scalar.remsi x y) 0#32))
    (Scalar.subi (Scalar.divsi x y) 1#32) (Scalar.divsi x y)
def modW (x y : BitVec 32) : BitVec 32 :=
  let z : BitVec 32 := Scalar.select (Scalar.cmpi .eq y 0#32) 1#32 y
  let r : BitVec 32 := Scalar.remsi x z
  Scalar.select (Scalar.andi (Scalar.xori (Scalar.cmpi .slt r 0#32) (Scalar.cmpi .slt z 0#32)) (Scalar.cmpi .ne r 0#32)) (Scalar.addi r z) r
/-- The device's index, and its place along each of the three exchanges. -/
def meW (c : Dev nD) : BitVec 32 := Scalar.remsi (Scalar.divsi (Dev.word c) 1#32) 8#32
def zbW (c : Dev nD) : BitVec 32 := floorW (meW c) 4#32
def ybW (c : Dev nD) : BitVec 32 := floorW (modW (meW c) 4#32) 2#32
def xbW (c : Dev nD) : BitVec 32 :=
  modW (Scalar.addi (floorW (modW (meW c) 4#32) 2#32) (modW (modW (meW c) 4#32) 2#32)) 2#32
/-- The devices signalled at entry, and the device of each exchange. -/
def barDev (c : Dev nD) : Fin 7 → Dev nD
  | 0 => ⟨k0_dev1 c, Facts₀.k0_dev1_lt c⟩ | 1 => ⟨k0_dev2 c, Facts₀.k0_dev2_lt c⟩ | 2 => ⟨k0_dev3 c, Facts₀.k0_dev3_lt c⟩
  | 3 => ⟨k0_dev4 c, Facts₀.k0_dev4_lt c⟩ | 4 => ⟨k0_dev5 c, Facts₀.k0_dev5_lt c⟩ | 5 => ⟨k0_dev6 c, Facts₀.k0_dev6_lt c⟩
  | 6 => ⟨k0_dev7 c, Facts₀.k0_dev7_lt c⟩
def exDev (c : Dev nD) : Fin 6 → Dev nD
  | 0 => ⟨k0_dev27 c, Facts₀.k0_dev27_lt c⟩ | 1 => ⟨k0_dev28 c, Facts₀.k0_dev28_lt c⟩ | 2 => ⟨k0_dev29 c, Facts₀.k0_dev29_lt c⟩
  | 3 => ⟨k0_dev30 c, Facts₀.k0_dev30_lt c⟩ | 4 => ⟨k0_dev31 c, Facts₀.k0_dev31_lt c⟩ | 5 => ⟨k0_dev32 c, Facts₀.k0_dev32_lt c⟩

/-! ## Side conditions at a symbolic place -/

theorem kvHalf_words : ∀ h : Fin 2, (kvHalf h).view.WordExact
  | 0 => (Memref.isWhole_whole cc0_scratch0).wordExact_slice rfl _ wordsbf16_S1024x16x128_S512x16x128_0_0_0
  | 1 => (Memref.isWhole_whole cc0_scratch0).wordExact_slice rfl _ wordsbf16_S1024x16x128_S512x16x128_512_0_0
theorem stSlot_words : ∀ j : Fin 4, (stSlot j).view.WordExact
  | 0 => ((Memref.isWhole_whole cc0_scratch4).wordExact_slice rfl _ wordsbf16_S4x512x16x128_S1x512x16x128_0_0_0_0).reshape _ _
  | 1 => ((Memref.isWhole_whole cc0_scratch4).wordExact_slice rfl _ wordsbf16_S4x512x16x128_S1x512x16x128_1_0_0_0).reshape _ _
  | 2 => ((Memref.isWhole_whole cc0_scratch4).wordExact_slice rfl _ wordsbf16_S4x512x16x128_S1x512x16x128_2_0_0_0).reshape _ _
  | 3 => ((Memref.isWhole_whole cc0_scratch4).wordExact_slice rfl _ wordsbf16_S4x512x16x128_S1x512x16x128_3_0_0_0).reshape _ _
theorem rbSlot_words : ∀ s : Fin 3, (rbSlot s).view.WordExact
  | 0 => ((Memref.isWhole_whole cc0_scratch5).wordExact_slice rfl _ wordsbf16_S3x512x16x128_S1x512x16x128_0_0_0_0).reshape _ _
  | 1 => ((Memref.isWhole_whole cc0_scratch5).wordExact_slice rfl _ wordsbf16_S3x512x16x128_S1x512x16x128_1_0_0_0).reshape _ _
  | 2 => ((Memref.isWhole_whole cc0_scratch5).wordExact_slice rfl _ wordsbf16_S3x512x16x128_S1x512x16x128_2_0_0_0).reshape _ _
theorem frag_words (w : Fin 2) (i : Fin 16) : (frag w i).view.WordExact := (View.wordExact_bits rfl).reshape _ _
theorem tmpSlot_words (w t : Fin 2) : (tmpSlot w t).view.WordExact := (View.wordExact_bits rfl).reshape _ _
theorem srcB_words : ∀ j : Fin 6, (srcB j).view.WordExact
  | 0 => (Memref.isWhole_whole cc0_scratch6).wordExact | 1 => (Memref.isWhole_whole cc0_scratch8).wordExact
  | 2 => (Memref.isWhole_whole cc0_scratch10).wordExact | 3 => (Memref.isWhole_whole cc0_scratch10).wordExact
  | 4 => (Memref.isWhole_whole cc0_scratch8).wordExact | 5 => (Memref.isWhole_whole cc0_scratch6).wordExact
theorem dstB_words : ∀ j : Fin 6, (dstB j).view.WordExact
  | 0 => (Memref.isWhole_whole cc0_scratch7).wordExact | 1 => (Memref.isWhole_whole cc0_scratch9).wordExact
  | 2 => (Memref.isWhole_whole cc0_scratch11).wordExact | 3 => (Memref.isWhole_whole cc0_scratch12).wordExact
  | 4 => (Memref.isWhole_whole cc0_scratch13).wordExact | 5 => (Memref.isWhole_whole cc0_scratch14).wordExact

/-- The half (keys or values) of a staging slot, as a rectangle of the staging buffer; of a half of the key/value
    buffer; of a slot of a landing buffer; one head of the key/value buffer; one head of the context. -/
abbrev stR (j : Fin 4) (w : Fin 2) : Rect S4x512x16x128 :=
  Rect.unit (s := S4x512x16x128) ![j.val, 0, 8 * w.val, 0] S1x512x8x128.size (by revert j w; decide)
abbrev kvR (h w : Fin 2) : Rect S1024x16x128 :=
  Rect.unit (s := S1024x16x128) ![512 * h.val, 8 * w.val, 0] S512x8x128.size (by revert h w; decide)
abbrev halfR (w : Fin 2) : Rect S512x16x128 :=
  Rect.unit (s := S512x16x128) ![0, 8 * w.val, 0] S512x8x128.size (by revert w; decide)
abbrev tmpR (t : Fin 2) : Rect S2x512x8x128 :=
  Rect.unit (s := S2x512x8x128) ![t.val, 0, 0, 0] S1x512x8x128.size (by revert t; decide)
abbrev headR (w : Fin 2) (h : Fin 8) : Rect S1024x16x128 :=
  Rect.unit (s := S1024x16x128) ![0, 8 * w.val + h.val, 0] S1024x1x128.size (by revert w h; decide)
abbrev ctxR (h : Fin 8) : Rect S1024x1024 :=
  Rect.unit (s := S1024x1024) ![0, 128 * h.val] S1024x128.size (by revert h; decide)

theorem stR_packed : ∀ (j : Fin 4) (w : Fin 2), (stR j w).PackedRows (EltTy.packing .bf16)
  | 0, 0 => packedbf16_S4x512x16x128_S1x512x8x128_0_0_0_0 | 0, 1 => packedbf16_S4x512x16x128_S1x512x8x128_0_0_8_0
  | 1, 0 => packedbf16_S4x512x16x128_S1x512x8x128_1_0_0_0 | 1, 1 => packedbf16_S4x512x16x128_S1x512x8x128_1_0_8_0
  | 2, 0 => packedbf16_S4x512x16x128_S1x512x8x128_2_0_0_0 | 2, 1 => packedbf16_S4x512x16x128_S1x512x8x128_2_0_8_0
  | 3, 0 => packedbf16_S4x512x16x128_S1x512x8x128_3_0_0_0 | 3, 1 => packedbf16_S4x512x16x128_S1x512x8x128_3_0_8_0
theorem kvR_packed : ∀ h w : Fin 2, (kvR h w).PackedRows (EltTy.packing .bf16)
  | 0, 0 => packedbf16_S1024x16x128_S512x8x128_0_0_0 | 0, 1 => packedbf16_S1024x16x128_S512x8x128_0_8_0
  | 1, 0 => packedbf16_S1024x16x128_S512x8x128_512_0_0 | 1, 1 => packedbf16_S1024x16x128_S512x8x128_512_8_0
theorem ctxR_packed : ∀ h : Fin 8, (ctxR h).PackedRows (EltTy.packing .bf16)
  | 0 => packedbf16_S1024x1024_S1024x128_0_0 | 1 => packedbf16_S1024x1024_S1024x128_0_128
  | 2 => packedbf16_S1024x1024_S1024x128_0_256 | 3 => packedbf16_S1024x1024_S1024x128_0_384
  | 4 => packedbf16_S1024x1024_S1024x128_0_512 | 5 => packedbf16_S1024x1024_S1024x128_0_640
  | 6 => packedbf16_S1024x1024_S1024x128_0_768 | 7 => packedbf16_S1024x1024_S1024x128_0_896

/-! ## Where the fragments go -/

/-- A place a fragment lands: a half of the key/value buffer, or a slot of the relay buffer. -/
abbrev Land := Fin 2 ⊕ Fin 3
def landM : Land → Memref sig .tc .vmem S512x16x128 .bf16 | .inl h => kvHalf h | .inr s => rbSlot s
def landS : Land → DmaSem sig | .inl h => kvrS h | .inr s => rlrS s
theorem landM_words : ∀ l : Land, (landM l).view.WordExact | .inl h => kvHalf_words h | .inr s => rbSlot_words s
/-- The device a fragment is sent to, and where it lands there. -/
def dstDev : Fin 14 → Dev nD := ![3, 4, 1, 3, 4, 1, 7, 4, 2, 3, 4, 2, 3, 4]
def dstLand : Fin 14 → Land := ![.inr 0, .inr 0, .inl 0, .inr 1, .inr 1, .inl 1, .inl 0, .inr 2, .inl 0, .inl 0, .inl 0, .inl 1, .inl 1, .inl 1]
/-- The staging slot and the landing slot of a fragment. -/
def slotOf (i : Fin 14) : Fin 4 := ⟨i.val % 4, Nat.mod_lt _ (by decide)⟩
def parOf (i : Fin 16) : Fin 2 := ⟨i.val % 2, Nat.mod_lt _ (by decide)⟩
def copyOf (w : Fin 2) (i : Fin 16) : DmaSem sig := copyS ⟨2 * (i.val % 2) + w.val, by have := Nat.mod_lt i.val (y := 2) (by decide); have := w.isLt; omega⟩

/-! ## The sections -/

/-- Start fragment `i`'s copy of the keys or values into its landing slot; await it. -/
def copyStart (w : Fin 2) (i : Fin 16) : P F PUnit :=
  Prog.lift (.enqueueDma (frag w i) (.here (tmpSlot w (parOf i))) (.dma (copyOf w i)) (frag_words w i) (tmpSlot_words w _) ⟨Or.inl rfl, trivial⟩)
def copyWait (w : Fin 2) (i : Fin 16) : P F PUnit :=
  Prog.lift (.waitDma2 (copyOf w i) (frag w i) (tmpSlot w (parOf i)) (frag_words w i) (tmpSlot_words w _))
def startP (i : Fin 16) : P F PUnit := do copyStart 0 i; copyStart 1 i
/-- Await fragment `i`'s copy and store it, rounded, in the half of its staging slot. -/
def stageP (i : Fin 14) (w : Fin 2) : P F PUnit := do
  copyWait w (i.castLE (by decide))
  let v : Vec F S1x512x8x128 .f32 ← Prog.lift (.load (tmpB w) (tmpR (parOf (i.castLE (by decide)))).toLoadRect (View.loadsAt_vmem h_S1x512x8x128))
  let _ : Vec F S512x8x128 .bf16 ← Prog.lift (.load (stSlot (slotOf i)) (halfR w).toLoadRect (View.loadsAt_vmem h_S512x8x128))
  Prog.lift (.store (Memref.whole cc0_scratch4) (stR (slotOf i) w) (castV1 v) Finset.univ (View.stores_vmem h_S1x512x8x128 ((Memref.isWhole_whole cc0_scratch4).storeExact_slice rfl _ (stR_packed _ w)) (fun _ => rfl)) (.inl rfl))
/-- A fragment of device 0's own heads goes into its own key/value buffer. -/
def ownP (i : Fin 2) (w : Fin 2) : P F PUnit := do
  copyWait w (i.natAdd 14)
  let v : Vec F S1x512x8x128 .f32 ← Prog.lift (.load (tmpB w) (tmpR (parOf (i.natAdd 14))).toLoadRect (View.loadsAt_vmem h_S1x512x8x128))
  let _ : Vec F S512x8x128 .bf16 ← Prog.lift (.load (kvHalf i) (halfR w).toLoadRect (View.loadsAt_vmem h_S512x8x128))
  Prog.lift (.store (Memref.whole cc0_scratch0) (kvR i w) (castV v) Finset.univ (View.stores_vmem h_S512x8x128 ((Memref.isWhole_whole cc0_scratch0).storeExact_slice rfl _ (kvR_packed i w)) (fun _ => rfl)) (.inl rfl))
/-- Send a filled staging slot; await that it has left. -/
def sendP (i : Fin 14) : P F PUnit :=
  Prog.lift (.enqueueDma (stSlot (slotOf i)) (.remote (Dev.tc (dstDev i)) (landM (dstLand i)) (.dma (kvsS i))) (.dma (landS (dstLand i))) (stSlot_words _) (landM_words _) ⟨⟨rfl, Or.inl rfl⟩, trivial⟩)
def sentP (i : Fin 14) : P F PUnit :=
  Prog.lift (.waitDma2 (kvsS i) (landM (dstLand i)) (stSlot (slotOf i)) (landM_words _) (stSlot_words _))
/-- One fragment: start the next one's copies, free the staging slot (its send of four fragments ago), stage, send. -/
def fragP (i : Fin 14) : P F PUnit := do
  startP ⟨i.val + 1, by omega⟩
  if h : 4 ≤ i.val then sentP ⟨i.val - 4, by omega⟩ else pure ⟨⟩
  stageP i 0
  stageP i 1
  sendP i
/-- Device 0's distribution. -/
def distP : P F PUnit := do
  startP 0
  fragP 0; fragP 1; fragP 2; fragP 3; fragP 4; fragP 5; fragP 6
  fragP 7; fragP 8; fragP 9; fragP 10; fragP 11; fragP 12; fragP 13
  startP 15
  ownP 0 0; ownP 0 1
  ownP 1 0; ownP 1 1
  sentP 10; sentP 11; sentP 12; sentP 13

/-- A relay: await the slot's arrival, send it on; await at the end that it has left. -/
def relayWait (s : Fin 3) : P F PUnit :=
  Prog.lift (.waitDma2 (rlrS s) (stSlot 0) (rbSlot s) (stSlot_words _) (rbSlot_words _))
def relaySend (n : Dev nD) (s : Fin 3) (h : Fin 2) : P F PUnit :=
  Prog.lift (.enqueueDma (rbSlot s) (.remote (Dev.tc n) (kvHalf h) (.dma (rlsS s))) (.dma (kvrS h)) (rbSlot_words _) (kvHalf_words _) ⟨⟨rfl, Or.inl rfl⟩, trivial⟩)
def relaySent (s : Fin 3) (h : Fin 2) : P F PUnit :=
  Prog.lift (.waitDma2 (rlsS s) (kvHalf h) (rbSlot s) (kvHalf_words _) (rbSlot_words _))
/-- Await a half of the keys and values. -/
def kvWait (h : Fin 2) : P F PUnit :=
  Prog.lift (.waitDma2 (kvrS h) (stSlot 0) (kvHalf h) (stSlot_words _) (kvHalf_words _))

/-- The entry barrier: signal the seven others, await their seven signals. -/
def enterP (c : Dev nD) : P F PUnit := do
  semSignalWord (barDev c 0) barS 1#32
  semSignalWord (barDev c 1) barS 1#32
  semSignalWord (barDev c 2) barS 1#32
  semSignalWord (barDev c 3) barS 1#32
  semSignalWord (barDev c 4) barS 1#32
  semSignalWord (barDev c 5) barS 1#32
  semSignalWord (barDev c 6) barS 1#32
  semWaitWord barS 7#32

/-- One head. -/
def headP (m : IVec S1024x1024 1) (q : FVec F S1024x8x128 .bf16) (h : Fin 8) : P F PUnit := do
  let k : Vec F S1024x1x128 .bf16 ← Prog.lift (.load (Memref.whole cc0_scratch0) (headR 0 h).toLoadRect (View.loadsAt_vmem h_S1024x1x128))
  let v : Vec F S1024x1x128 .bf16 ← Prog.lift (.load (Memref.whole cc0_scratch0) (headR 1 h).toLoadRect (View.loadsAt_vmem h_S1024x1x128))
  let _ : Vec F S1024x128 .bf16 ← Prog.lift (.load (Memref.whole cc0_scratch1) (ctxR h).toLoadRect (View.loadsAt_vmem h_S1024x128))
  Prog.lift (.store (Memref.whole cc0_scratch1) (ctxR h) (headF m (qHead q h) k v) Finset.univ (View.stores_vmem h_S1024x128 ((Memref.isWhole_whole cc0_scratch1).storeExact_slice rfl _ (ctxR_packed h)) (fun _ => rfl)) (.inl rfl))

/-- A load of a whole buffer; a store of one (the text reads it first, and drops what it read). -/
def loadAll {s : Shape} {e : EltTy} (m : Memref sig .tc .vmem s e) (o : Fin s.rank → Nat) (ho : ∀ a, o a + s.size a ≤ s.size a) (h : 0 < s.numel) :
    P F (Vec F s e) :=
  Prog.lift (.load m (Rect.unit o s.size ho).toLoadRect (View.loadsAt_vmem h))
def storeAll {s : Shape} {e : EltTy} (m : Memref sig .tc .vmem s e) (o : Fin s.rank → Nat) (ho : ∀ a, o a + s.size a ≤ s.size a) (h : 0 < s.numel)
    (hs : (m.access (Rect.unit o s.size ho)).Stores Finset.univ) (v : Vec F s e) : P F PUnit := do
  let _ ← loadAll m o ho h
  Prog.lift (.store m (Rect.unit o s.size ho) v Finset.univ hs (.inl rfl))

/-- The three shapes' loads and stores. -/
def load512 (m : Memref sig .tc .vmem S512x1024 .bf16) : P F (Vec F S512x1024 .bf16) := loadAll m ![0, 0] inb_S512x1024_S512x1024_0_0 h_S512x1024
def load256 (m : Memref sig .tc .vmem S256x1024 .bf16) : P F (Vec F S256x1024 .bf16) := loadAll m ![0, 0] inb_S256x1024_S256x1024_0_0 h_S256x1024
def load128 (m : Memref sig .tc .vmem S128x1024 .bf16) : P F (Vec F S128x1024 .bf16) := loadAll m ![0, 0] inb_S128x1024_S128x1024_0_0 h_S128x1024
def store512 (v : Vec F S512x1024 .bf16) : P F PUnit :=
  storeAll (Memref.whole cc0_scratch6) ![0, 0] inb_S512x1024_S512x1024_0_0 h_S512x1024
    (View.stores_vmem h_S512x1024 ((Memref.isWhole_whole cc0_scratch6).storeExact_slice rfl _ packedbf16_S512x1024_S512x1024_0_0) (fun _ => rfl)) v
def store256 (v : Vec F S256x1024 .bf16) : P F PUnit :=
  storeAll (Memref.whole cc0_scratch8) ![0, 0] inb_S256x1024_S256x1024_0_0 h_S256x1024
    (View.stores_vmem h_S256x1024 ((Memref.isWhole_whole cc0_scratch8).storeExact_slice rfl _ packedbf16_S256x1024_S256x1024_0_0) (fun _ => rfl)) v
def store128 (v : Vec F S128x1024 .bf16) : P F PUnit :=
  storeAll (Memref.whole cc0_scratch10) ![0, 0] inb_S128x1024_S128x1024_0_0 h_S128x1024
    (View.stores_vmem h_S128x1024 ((Memref.isWhole_whole cc0_scratch10).storeExact_slice rfl _ packedbf16_S128x1024_S128x1024_0_0) (fun _ => rfl)) v

/-- One exchange's send, arrival and departure. -/
def exSend (c : Dev nD) (j : Fin 6) : P F PUnit :=
  Prog.lift (.enqueueDma (srcB j) (.remote (Dev.tc (exDev c j)) (dstB j) (.dma (arsS j))) (.dma (arrS j)) (srcB_words j) (dstB_words j) ⟨⟨rfl, Or.inl rfl⟩, trivial⟩)
def exWait (j : Fin 6) : P F PUnit := Prog.lift (.waitDma2 (arrS j) (srcB j) (dstB j) (srcB_words j) (dstB_words j))
def exSent (j : Fin 6) : P F PUnit := Prog.lift (.waitDma2 (arsS j) (dstB j) (srcB j) (dstB_words j) (srcB_words j))

/-- The halving exchanges, from the device's partial product, and the doubling ones. -/
def halveP (c : Dev nD) (p : FVec F S1024x1024 .f32) : P F PUnit := do
  store512 (k0_pay57 p (zbW c))
  exSend c 0
  exWait 0
  let a ← load512 (Memref.whole cc0_scratch7)
  store256 (k0_pay59 p (zbW c) (ybW c) a)
  exSend c 1
  exWait 1
  let b ← load256 (Memref.whole cc0_scratch9)
  store128 (k0_pay62 (k0_pay60 p (zbW c) (ybW c) a b) (Scalar.cmpi .eq (xbW c) 0#32) (k0_pay61 p (zbW c) (ybW c) a b))
  exSend c 2
  exWait 2
  let d ← load128 (Memref.whole cc0_scratch11)
  exSent 2
  store128 (k0_pay63 (xbW c) (k0_pay60 p (zbW c) (ybW c) a b) d)
def doubleP (c : Dev nD) : P F PUnit := do
  exSend c 3
  exWait 3
  let a₁ ← load128 (Memref.whole cc0_scratch10)
  let a₂ ← load128 (Memref.whole cc0_scratch12)
  let a₃ ← load128 (Memref.whole cc0_scratch12)
  let a₄ ← load128 (Memref.whole cc0_scratch10)
  exSent 1
  store256 (k0_pay64 (xbW c) a₁ a₂ a₃ a₄)
  exSend c 4
  exWait 4
  let b₁ ← load256 (Memref.whole cc0_scratch8)
  let b₂ ← load256 (Memref.whole cc0_scratch13)
  let b₃ ← load256 (Memref.whole cc0_scratch13)
  let b₄ ← load256 (Memref.whole cc0_scratch8)
  exSent 0
  store512 (k0_pay65 (ybW c) b₁ b₂ b₃ b₄)
  exSend c 5
  exWait 5
  let d₁ ← load512 (Memref.whole cc0_scratch6)
  let d₂ ← load512 (Memref.whole cc0_scratch14)
  let d₃ ← load512 (Memref.whole cc0_scratch14)
  let d₄ ← load512 (Memref.whole cc0_scratch6)
  storeAll (Memref.whole cc0_stg3_0) ![0, 0, 0] inb_S1x1024x1024_S1x1024x1024_0_0_0 h_S1x1024x1024 (View.stores_vmem_bits_univ h_S1x1024x1024 rfl)
    (k0_pay67 (Scalar.cmpi .eq (zbW c) 0#32) (k0_pay66 d₁ d₂) d₃ d₄)
  exSent 3
  exSent 4
  exSent 5

/-- Whether a device's word says it is device `n`, as the text asks it. -/
def isDev (c : Dev nD) (n : BitVec 32) : Prop := Scalar.cmpi .ne (Scalar.extui (Scalar.cmpi .eq (meW c) n) : BitVec 32) 0#32 = 1#1
instance (c : Dev nD) (n : BitVec 32) : Decidable (isDev c n) := inferInstanceAs (Decidable (_ = _))

/-- The keys and values: device 0 distributes, devices 3 and 4 relay, the others await theirs; the loads of the
    rows and of the queries' matrix come between. -/
def relay3 : P F PUnit := do relayWait 0; relaySend 6 0 0; relayWait 1; relaySend 6 1 1
def relay4 : P F PUnit := do relayWait 0; relaySend 5 0 0; relayWait 1; relaySend 5 1 1; relayWait 2; relaySend 7 2 1
def loadX : P F (Vec F S1x1024x1024 .f32) := loadAll (Memref.whole cc0_stg0_0) ![0, 0, 0] inb_S1x1024x1024_S1x1024x1024_0_0_0 h_S1x1024x1024
def loadSq (m : Memref sig .tc .vmem S1024x1024 .f32) : P F (Vec F S1024x1024 .f32) := loadAll m ![0, 0] inb_S1024x1024_S1024x1024_0_0 h_S1024x1024
def attnP (m : IVec S1024x1024 1) (q : FVec F S1024x8x128 .bf16) : P F (FVec F S1024x1024 .f32) := do
  headP m q 0; headP m q 1; headP m q 2; headP m q 3; headP m q 4; headP m q 5; headP m q 6; headP m q 7
  let x : Vec F S1024x1024 .bf16 ← loadAll (Memref.whole cc0_scratch1) ![0, 0] inb_S1024x1024_S1024x1024_0_0 h_S1024x1024
  let w ← loadSq (Memref.whole cc0_stg2_0)
  pure (k0_pay56 x w)

/-- The body, in the printed text's windows where a window ends a condition. -/
def partA (c : Dev nD) : P F (Σ' (_ : FVec F S1024x1024 .bf16), Vec F S1024x1024 .f32) := do
  if _h : k0_cond1 c = 1#1 then do distP else do pure ⟨⟩
  let x ← loadX
  let w ← loadSq (Memref.whole cc0_stg1_0)
  pure ⟨k0_pay35 x, w⟩
def partB (c : Dev nD) (x : FVec F S1024x1024 .bf16) (w : Vec F S1024x1024 .f32) : P F (Σ' (_ : FVec F S1024x8x128 .bf16), BitVec 32) := do
  if _h : k0_cond2 c = 1#1 then do relay3 else do pure ⟨⟩
  if _h : k0_cond3 c = 1#1 then do relay4 else do pure ⟨⟩
  pure ⟨k0_pay36 x w, Scalar.extui (Scalar.cmpi .ne (meW c) 0#32)⟩
def partC (n : BitVec 32) : P F (Σ' (_ : IVec S1024x1024 32) (_ : IVec S1024x1024 32) (_ : IVec S1024x1024 32) (_ : IVec S1024x1024 1), IVec S1024x1024 32) := do
  if _h : Scalar.cmpi .ne n 0#32 = 1#1 then do (do kvWait 0; kvWait 1) else do pure ⟨⟩
  pure ⟨k0_pay37, iota .tc S1024x1024 32 [1] iota_S1024x1024_d1_w32, k0_pay38, k0_pay39, k0_pay40⟩
def partD (c : Dev nD) : P F PUnit := do
  if _h : isDev c 3#32 then do (do relaySent 0 0; relaySent 1 1) else do pure ⟨⟩
  if _h : isDev c 4#32 then do (do relaySent 0 0; relaySent 1 1; relaySent 2 1) else do pure ⟨⟩
  pure ⟨⟩
def bodyP : P F PUnit := do
  let c : Dev nD ← Prog.lift .deviceId
  enterP c
  let ⟨x, w⟩ ← partA c
  let ⟨q, n⟩ ← partB c x w
  let ⟨v140, v141, v143, v157, v158⟩ ← partC n
  let p ← attnP (k0_pay41 v140 v141 v143 v157 v158) q
  halveP c p
  doubleP c
  partD c

end Cert.KernelIdeal.Att
-- ==== Proof.Proto.lean ====
/- The protocol: the cells of the kernel's semaphores, who pays which and in what order, what each payment hands over,
   the levels of the waits. -/
module

public import proofs.«01_k».proof.Proof.Text
public import Idealize.ShloMosaic.Lib.Pipeline.Launch
public import Idealize.ShloMosaic.Lib.Pipeline.Kit
public import Idealize.ShloMosaic.Lib.Pipeline.BigSepL
public import Idealize.ShloMosaic.Lib.Rounds
public import Idealize.ShloMosaic.Lib.Transfers
public import Idealize.ShloMosaic.Lib.MemrefSat
public import Idealize.ShloMosaic.Lib.ValueIdxCoords

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

/-! ## The algebra: the pipeline's rounds, the kernel's rounds with the paying device as a duty's name, counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## The cells -/

/-- The kernel's semaphores beside the copies' own: entry barrier, fragment sends, key/value arrivals, relay sends, relay
    arrivals, exchange sends, exchange arrivals. -/
abbrev Kd : Type := Unit ⊕ Fin 14 ⊕ Fin 2 ⊕ Fin 3 ⊕ Fin 3 ⊕ Fin 6 ⊕ Fin 6
@[match_pattern] abbrev kBar : Kd := .inl ()
@[match_pattern] abbrev kKvs (i : Fin 14) : Kd := .inr (.inl i)
@[match_pattern] abbrev kKvr (h : Fin 2) : Kd := .inr (.inr (.inl h))
@[match_pattern] abbrev kRls (s : Fin 3) : Kd := .inr (.inr (.inr (.inl s)))
@[match_pattern] abbrev kRlr (s : Fin 3) : Kd := .inr (.inr (.inr (.inr (.inl s))))
@[match_pattern] abbrev kArs (j : Fin 6) : Kd := .inr (.inr (.inr (.inr (.inr (.inl j)))))
@[match_pattern] abbrev kArr (j : Fin 6) : Kd := .inr (.inr (.inr (.inr (.inr (.inr j)))))

instance decEx : DecidableEq (Fin 3 ⊕ Fin 6 ⊕ Fin 6) := inferInstance
instance decKv : DecidableEq (Fin 2 ⊕ Fin 3 ⊕ Fin 3 ⊕ Fin 6 ⊕ Fin 6) := inferInstance
instance decKd : DecidableEq Kd := inferInstance
instance decPay : DecidableEq (Dev nD × Kd) := instDecidableEqProd
instance decMem (x : Dev nD × Kd) (l : List (Dev nD × Kd)) : Decidable (x ∈ l) :=
  @List.instDecidableMemOfLawfulBEq (Dev nD × Kd) instBEqOfDecidableEq inferInstance x l

def csem : Kd → SemLoc sig
  | kBar => .reg barS | kKvs i => .dma (kvsS i) | kKvr h => .dma (kvrS h) | kRls s => .dma (rlsS s) | kRlr s => .dma (rlrS s)
  | kArs j => .dma (arsS j) | kArr j => .dma (arrS j)
def kindOf : SemLoc sig → Option Kd
  | .reg _ => some kBar
  | .dma q =>
    if h : q.val < 12 then none
    else if h₁ : q.val < 26 then some (kKvs ⟨q.val - 12, by omega⟩)
    else if h₂ : q.val < 28 then some (kKvr ⟨q.val - 26, by omega⟩)
    else if h₃ : q.val < 31 then some (kRls ⟨q.val - 28, by omega⟩)
    else if h₄ : q.val < 34 then some (kRlr ⟨q.val - 31, by omega⟩)
    else if h₅ : q.val < 40 then some (kArs ⟨q.val - 34, by omega⟩)
    else some (kArr ⟨q.val - 40, by have : q.val < 46 := q.isLt; omega⟩)
theorem kindOf_csem : ∀ k : Kd, kindOf (csem k) = some k
  | kBar => rfl
  | kKvs i => by fin_cases i <;> rfl
  | kKvr i => by fin_cases i <;> rfl
  | kRls i => by fin_cases i <;> rfl
  | kRlr i => by fin_cases i <;> rfl
  | kArs i => by fin_cases i <;> rfl
  | kArr i => by fin_cases i <;> rfl
theorem csem_inj : Function.Injective csem := fun a b h => by
  have := congrArg kindOf h; rw [kindOf_csem, kindOf_csem] at this; exact Option.some.inj this
abbrev kcell (x : Dev nD × Kd) : GSem nD τ sig := ((x.1 : Thread nD τ), csem x.2)
theorem kcell_inj : Function.Injective kcell := by
  rintro ⟨c, k⟩ ⟨c', k'⟩ h
  have h1 : c = c' := by have := congrArg (fun g : GSem nD τ sig => g.1.1) h; exact this
  have h2 : k = k' := csem_inj (congrArg Prod.snd h)
  rw [h1, h2]

/-- A fragment's credit, whichever slot it lands in; and each exchange's. -/
def NF : ℕ := (kvHalf 0).view.dmaCredit
def NX (j : Fin 6) : ℕ := (dstB j).view.dmaCredit
theorem credit_land : ∀ l : Land, (landM l).view.dmaCredit = NF
  | .inl 0 => rfl | .inl 1 => rfl | .inr 0 => rfl | .inr 1 => rfl | .inr 2 => rfl
theorem credit_kv : ∀ h : Fin 2, (kvHalf h).view.dmaCredit = NF | 0 => rfl | 1 => rfl
theorem credit_rb : ∀ s : Fin 3, (rbSlot s).view.dmaCredit = NF | 0 => rfl | 1 => rfl | 2 => rfl
theorem credit_st : ∀ j : Fin 4, (stSlot j).view.dmaCredit = NF | 0 => rfl | 1 => rfl | 2 => rfl | 3 => rfl
theorem credit_src : ∀ j : Fin 6, (srcB j).view.dmaCredit = NX j | 0 => rfl | 1 => rfl | 2 => rfl | 3 => rfl | 4 => rfl | 5 => rfl
def amt : Kd → ℕ
  | kBar => 1 | kKvs _ => NF | kKvr _ => NF | kRls _ => NF | kRlr _ => NF | kArs j => NX j | kArr j => NX j
theorem NF_pos : 0 < NF := View.dmaCredit_pos _ (by decide)
theorem NX_pos : ∀ j : Fin 6, 0 < NX j
  | 0 => View.dmaCredit_pos _ h_S512x1024 | 1 => View.dmaCredit_pos _ h_S256x1024 | 2 => View.dmaCredit_pos _ h_S128x1024
  | 3 => View.dmaCredit_pos _ h_S128x1024 | 4 => View.dmaCredit_pos _ h_S256x1024 | 5 => View.dmaCredit_pos _ h_S512x1024
theorem amt_pos : ∀ k, 0 < amt k
  | kBar => Nat.one_pos | kKvs _ => NF_pos | kKvr _ => NF_pos | kRls _ => NF_pos | kRlr _ => NF_pos | kArs j => NX_pos j | kArr j => NX_pos j

/-! ## Who pays what, in order -/

set_option backward.proofsInPublic true in
/-- The devices signalled at entry, and the device exchanged with. -/
def sigDev (c : Dev nD) (i : Fin 7) : Dev nD := ⟨(c.val + 1 + i.val) % 8, Nat.mod_lt _ (by decide)⟩
set_option backward.proofsInPublic true in
def partner (c : Dev nD) : Fin 6 → Dev nD
  | 0 => ⟨(c.val + 4) % 8, Nat.mod_lt _ (by decide)⟩
  | 1 => ⟨(c.val + 3 - 2 * (c.val % 4)) % 8, Nat.mod_lt _ (by decide)⟩
  | 2 => ⟨(c.val + 1 - 2 * (c.val % 2)) % 8, Nat.mod_lt _ (by decide)⟩
  | 3 => ⟨(c.val + 1 - 2 * (c.val % 2)) % 8, Nat.mod_lt _ (by decide)⟩
  | 4 => ⟨(c.val + 3 - 2 * (c.val % 4)) % 8, Nat.mod_lt _ (by decide)⟩
  | 5 => ⟨(c.val + 4) % 8, Nat.mod_lt _ (by decide)⟩
theorem barDev_eq (c : Dev nD) : ∀ i : Fin 7, barDev c i = sigDev c i
  | 0 => by revert c; decide +kernel
  | 1 => by revert c; decide +kernel
  | 2 => by revert c; decide +kernel
  | 3 => by revert c; decide +kernel
  | 4 => by revert c; decide +kernel
  | 5 => by revert c; decide +kernel
  | 6 => by revert c; decide +kernel
theorem exDev_eq (c : Dev nD) : ∀ j : Fin 6, exDev c j = partner c j
  | 0 => by revert c; decide +kernel
  | 1 => by revert c; decide +kernel
  | 2 => by revert c; decide +kernel
  | 3 => by revert c; decide +kernel
  | 4 => by revert c; decide +kernel
  | 5 => by revert c; decide +kernel
theorem partner_partner (c : Dev nD) (j : Fin 6) : partner (partner c j) j = c := by revert c j; decide

/-- The arrival a fragment is counted at. -/
def landK : Land → Kd | .inl h => kKvr h | .inr s => kRlr s
/-- What a device pays at other devices between the barrier and the exchanges; at the exchanges; in all. -/
def midPay (c : Dev nD) : List (Dev nD × Kd) :=
  if c = 0 then (List.finRange 14).map fun i => (dstDev i, landK (dstLand i))
  else if c = 3 then [(6, kKvr 0), (6, kKvr 1)]
  else if c = 4 then [(5, kKvr 0), (5, kKvr 1), (7, kKvr 1)]
  else []
def exPay (c : Dev nD) : List (Dev nD × Kd) := (List.finRange 6).map fun j => (partner c j, kArr j)
def sigPay (c : Dev nD) : List (Dev nD × Kd) := (List.finRange 7).map fun i => (sigDev c i, kBar)
def tgtPay (c : Dev nD) : List (Dev nD × Kd) := midPay c ++ exPay c
def payList (c : Dev nD) : List (Dev nD × Kd) := sigPay c ++ tgtPay c
/-- The departures a device counts at itself. -/
def midSend (c : Dev nD) : List Kd :=
  if c = 0 then (List.finRange 14).map kKvs else if c = 3 then [kRls 0, kRls 1] else if c = 4 then [kRls 0, kRls 1, kRls 2] else []
def exSends : List Kd := (List.finRange 6).map kArs
def sendList (c : Dev nD) : List (Dev nD × Kd) := (midSend c ++ exSends).map fun k => (c, k)
def tokList (c : Dev nD) : List (Dev nD × Kd) := payList c ++ sendList c
theorem tokList_nodup : ∀ c : Dev nD, (tokList c).Nodup := by decide +kernel
/-- The devices that pay a cell. -/
def payers (c : Dev nD) (k : Kd) : Finset (Dev nD) := Finset.univ.filter fun d => (c, k) ∈ tokList d
theorem mem_payers {c d : Dev nD} {k : Kd} : d ∈ payers c k ↔ (c, k) ∈ tokList d := by
  unfold payers; rw [Finset.mem_filter]; exact ⟨fun h => h.2, fun h => ⟨Finset.mem_univ _, h⟩⟩

/-! ## Contents -/

/-- The keys' or values' array of device 0; the rounded heads a device attends with; its two halves. -/
def kvArr : Fin 2 → S1x1024x64x128.Idx → Elt F .f32
  | 0 => m (((0 : Dev nD) : Thread nD τ).loc main_arg2) | 1 => m (((0 : Dev nD) : Thread nD τ).loc main_arg3)
def kvBf (w : Fin 2) (k : Fin 1024) (h : Fin 64) (d : Fin 128) : Elt F .bf16 :=
  FloatOps.truncf .bf16 bitsLt_bf16_f32 (kvArr m w (ix4 (0 : Fin 1) k h d) : F .f32)
def kvV (p : Dev nD) : Vec F S1024x16x128 .bf16 := fun y =>
  kvBf m (if (y 1).val < 8 then 0 else 1) ⟨(y 0).val, (y 0).isLt⟩
    ⟨8 * p.val + (y 1).val % 8, by have : p.val < 8 := p.isLt; have := Nat.mod_lt (y 1).val (y := 8) (by decide); omega⟩ ⟨(y 2).val, (y 2).isLt⟩
def halfI (h : Fin 2) (y : S512x16x128.Idx) : S1024x16x128.Idx :=
  ix3 (n0 := 1024) (n1 := 16) (n2 := 128) ⟨512 * h.val + (y 0).val, by have : (y 0).val < 512 := (y 0).isLt; have := h.isLt; omega⟩ ⟨(y 1).val, (y 1).isLt⟩ ⟨(y 2).val, (y 2).isLt⟩
def fragVal (p : Dev nD) (h : Fin 2) : Vec F S512x16x128 .bf16 := fun y => kvV m p (halfI h y)

/-- A device's rows, its columns of the queries' matrix, its rows of the result's. -/
def xV (c : Dev nD) : Vec F S1x1024x1024 .f32 := (win0_0.blk (0 : Fin 1)).view.read (Elt F) (m ((c : Thread nD τ).loc main_arg0))
def wqV (c : Dev nD) : Vec F S1024x1024 .f32 := (win0_1.blk (0 : Fin 1)).view.read (Elt F) (m ((c : Thread nD τ).loc main_arg1))
def woV (c : Dev nD) : Vec F S1024x1024 .f32 := (win0_2.blk (0 : Fin 1)).view.read (Elt F) (m ((c : Thread nD τ).loc main_arg4))
def qV (c : Dev nD) : FVec F S1024x8x128 .bf16 := k0_pay36 (k0_pay35 (xV m c)) (wqV m c)
def headKV (c : Dev nD) (w : Fin 2) (h : Fin 8) : Vec F S1024x1x128 .bf16 := fun y => kvV m c ((headR w h).emb y)
def headV (c : Dev nD) (h : Fin 8) : FVec F S1024x128 .bf16 := headF maskV (qHead (qV m c) h) (headKV m c 0 h) (headKV m c 1 h)
def ctxV (c : Dev nD) : Vec F S1024x1024 .bf16 := fun y =>
  headV m c ⟨(y 1).val / 128, by have : (y 1).val < 1024 := (y 1).isLt; omega⟩
    (ix2 (n0 := 1024) (n1 := 128) ⟨(y 0).val, (y 0).isLt⟩ ⟨(y 1).val % 128, Nat.mod_lt _ (by decide)⟩)
def pV (c : Dev nD) : FVec F S1024x1024 .f32 := k0_pay56 (ctxV m c) (woV m c)

/-- What each exchange sends, the text's payloads in order. -/
def s0V (c : Dev nD) : Vec F S512x1024 .bf16 := k0_pay57 (pV m c) (zbW c)
def s1V (c : Dev nD) : Vec F S256x1024 .bf16 := k0_pay59 (pV m c) (zbW c) (ybW c) (s0V m (partner c 0))
def b2V (c : Dev nD) : FVec F S256x1024 .f32 := k0_pay60 (pV m c) (zbW c) (ybW c) (s0V m (partner c 0)) (s1V m (partner c 1))
def s2V (c : Dev nD) : Vec F S128x1024 .bf16 := k0_pay62 (b2V m c) (Scalar.cmpi .eq (xbW c) 0#32) (k0_pay61 (pV m c) (zbW c) (ybW c) (s0V m (partner c 0)) (s1V m (partner c 1)))
def s3V (c : Dev nD) : Vec F S128x1024 .bf16 := k0_pay63 (xbW c) (b2V m c) (s2V m (partner c 2))
def s4V (c : Dev nD) : Vec F S256x1024 .bf16 := k0_pay64 (xbW c) (s3V m c) (s3V m (partner c 3)) (s3V m (partner c 3)) (s3V m c)
def s5V (c : Dev nD) : Vec F S512x1024 .bf16 := k0_pay65 (ybW c) (s4V m c) (s4V m (partner c 4)) (s4V m (partner c 4)) (s4V m c)
def outV (c : Dev nD) : Vec F S1x1024x1024 .f32 :=
  k0_pay67 (Scalar.cmpi .eq (zbW c) 0#32) (k0_pay66 (s5V m c) (s5V m (partner c 5))) (s5V m (partner c 5)) (s5V m c)
def sV (c : Dev nD) : (j : Fin 6) → Vec F (exS j) .bf16
  | 0 => s0V m c | 1 => s1V m c | 2 => s2V m c | 3 => s3V m c | 4 => s4V m c | 5 => s5V m c

/-! ## The schedule -/

/-- The device a relay slot's fragment is for, and the half. -/
def rlyDev (c : Dev nD) (s : Fin 3) : Dev nD := if c = 3 then 6 else if s = 2 then 7 else 5
def rlyHalf : Fin 3 → Fin 2 := ![0, 1, 1]
/-- Any contents in a buffer. -/
def anyIn (c : Dev nD) {sp : Space} {s : Shape} {e : EltTy} (v : Memref sig .tc sp s e) : sProp 𝕄 :=
  iprop(∃ X, owns (c : Thread nD τ) v fullShare X)
/-- The buffer a payment at another device lands in. -/
def landBuf (x : Dev nD × Kd) : sProp 𝕄 :=
  match x.2 with
  | kKvr h => anyIn x.1 (kvHalf h) | kRlr s => anyIn x.1 (rbSlot s) | kArr j => anyIn x.1 (dstB j) | _ => iprop(emp)
/-- What a payment of device `d` to device `c`'s cell hands over. -/
def pay (c : Dev nD) (k : Kd) (d : Dev nD) : sProp 𝕄 :=
  match k with
  | kBar => bigSepL ((tgtPay c).filter fun x => x.1 = d) landBuf
  | kKvs i => anyIn c (stSlot (slotOf i))
  | kKvr h => owns (c : Thread nD τ) (kvHalf h) fullShare (fragVal m c h)
  | kRls s => anyIn c (rbSlot s)
  | kRlr s => owns (c : Thread nD τ) (rbSlot s) fullShare (fragVal m (rlyDev c s) (rlyHalf s))
  | kArs j => owns (c : Thread nD τ) (srcB j) fullShare.left (sV m c j)
  | kArr j => owns (c : Thread nD τ) (dstB j) fullShare (sV m (partner c j) j)

instance anyIn_storable (c : Dev nD) {sp : Space} {s : Shape} {e : EltTy} (v : Memref sig .tc sp s e) :
    BI.Storable (upEmb : UEmb _ 𝕄) (anyIn (F := F) c v) := by unfold anyIn; infer_instance
instance landBuf_storable (x : Dev nD × Kd) : BI.Storable (upEmb : UEmb _ 𝕄) (landBuf (F := F) x) := by
  unfold landBuf; split <;> infer_instance
theorem bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact BI.Storable.emp _
  | cons a l ih => rw [bigSepL_cons']; infer_instance
instance pay_storable (c : Dev nD) (k : Kd) (d : Dev nD) : BI.Storable (upEmb : UEmb _ 𝕄) (pay m c k d) := by
  unfold pay; split <;> first | infer_instance | exact bigSepL_storable _ _

def attRd : Rounds.Schedule (GSem nD τ sig) (Dev nD) 𝕄 where
  duties g r := if r = 0 ∧ g.1.2 = .tc then (match kindOf g.2 with | none => ∅ | some k => payers g.1.1 k) else ∅
  unitless _ := False
  amount g _ _ := match kindOf g.2 with | none => 1 | some k => amt k
  payload g _ d := match kindOf g.2 with | none => iprop(emp) | some k => pay m g.1.1 k d
  amount_pos g _ _ _ := by
    split
    · exact Nat.one_pos
    · exact amt_pos _

instance attRd_storable (g : GSem nD τ sig) (r : ℕ) (d : Dev nD) : BI.Storable (upEmb : UEmb _ 𝕄) ((attRd m).payload g r d) := by
  dsimp only [attRd]; split <;> infer_instance

theorem duties_eq (c : Dev nD) (k : Kd) : (attRd m).duties (kcell (c, k)) 0 = payers c k := by
  dsimp only [attRd]; rw [if_pos ⟨rfl, rfl⟩, kindOf_csem]
theorem duties_later (g : GSem nD τ sig) : ∀ r, 1 ≤ r → (attRd m).duties g r = ∅ :=
  fun r hr => by dsimp only [attRd]; exact if_neg fun h => by omega
theorem duties_none (c : Dev nD) (k : Kd) (h : payers c k = ∅) : ∀ r, 0 ≤ r → (attRd m).duties (kcell (c, k)) r = ∅ := fun r _ => by
  by_cases hr : r = 0
  · subst hr; rw [duties_eq, h]
  · exact duties_later m _ r (by omega)
theorem amount_eq (c : Dev nD) (k : Kd) (d : Dev nD) : (attRd m).amount (kcell (c, k)) 0 d = amt k := by
  dsimp only [attRd]; rw [kindOf_csem]
theorem payload_eq (c : Dev nD) (k : Kd) (d : Dev nD) : (attRd m).payload (kcell (c, k)) 0 d = pay m c k d := by
  dsimp only [attRd]; rw [kindOf_csem]
theorem expect_eq (c : Dev nD) (k : Kd) : (attRd m).expect (kcell (c, k)) 0 = (payers c k).card * amt k := by
  unfold Schedule.expect Schedule.amountOf
  rw [duties_eq, Finset.sum_congr rfl fun d _ => amount_eq m c k d, Finset.sum_const, smul_eq_mul]
theorem rest_eq (c : Dev nD) (k : Kd) : bigSep ((attRd m).duties (kcell (c, k)) 0 \ ∅) (fun d => (attRd m).payload (kcell (c, k)) 0 d)
    = bigSep (payers c k) fun d => pay m c k d := by
  rw [Finset.sdiff_empty, duties_eq]; exact bigSep_congr fun d _ => payload_eq m c k d

/-! ## What a device owes; the levels -/

def owe : List (Dev nD × Kd) → CellTallies nD τ sig Unit
  | [] => 0
  | x :: l => owe l + tallyAt (kcell x) () (amt x.2)
def klv : Kd → ℕ
  | kBar => 1 | kRlr _ => 2 | kKvr _ => 3 | kArr j => 4 + j.val | _ => 0
def slv (sm : SemLoc sig) : ℕ := match kindOf sm with | none => 0 | some k => klv k
def L (g : GSem nD τ sig) : Finset Unit := if g.1.2 = .tc then {()} else ∅
def lv (g : GSem nD τ sig) (_ : Unit) : ℕ := slv g.2
theorem L_of_ne (g : GSem nD τ sig) (h : g.1.2 ≠ .tc) : L g = ∅ := if_neg h
theorem L_tc (c : Dev nD) (sm : SemLoc sig) : L ((c : Thread nD τ), sm) = {()} := if_pos rfl
theorem slv_csem (k : Kd) : slv (csem k) = klv k := by unfold slv; rw [kindOf_csem]

theorem owe_pos {g : GSem nD τ sig} {u : Unit} : ∀ {l : List (Dev nD × Kd)}, 0 < owe l g u → ∃ x ∈ l, g = kcell x
  | [], h => absurd h (Nat.lt_irrefl 0)
  | x :: l, h => by
    unfold owe at h
    rw [Pi.add_apply, Finsupp.add_apply, tallyAt_apply] at h
    by_cases hx : g = kcell x
    · exact ⟨x, List.mem_cons_self .., hx⟩
    · rw [if_neg (fun h' => hx h'.1), Nat.add_zero] at h
      obtain ⟨y, hy, hg⟩ := owe_pos h
      exact ⟨y, List.mem_cons_of_mem _ hy, hg⟩

theorem mayWait (c : Dev nD) (sm : SemLoc sig) (l : List (Dev nD × Kd)) (h : ∀ x ∈ l, slv sm < klv x.2) :
    (levAts L lv : sProp 𝕄) ⊢ MayWait (c : Thread nD τ) sm () (owe l) :=
  MayOwe.of_cut (L := L) (lev := lv) (slv sm) (fun p hp => by rw [Finset.mem_singleton.mp hp, L_tc]; exact Finset.mem_singleton_self _)
    (fun g u hg => by obtain ⟨x, hx, rfl⟩ := owe_pos hg; exact Finset.mem_singleton_self _)
    (fun p hp => by rw [Finset.mem_singleton.mp hp]; exact le_refl _)
    (fun g u hg => by obtain ⟨x, hx, rfl⟩ := owe_pos hg; show slv sm < slv (csem x.2); rw [slv_csem]; exact h x hx)

end Cert.KernelIdeal.Att
-- ==== Proof.Steps.lean ====
/- One rule for each of the body's effects on the protocol: a signal, the barrier's wait, a send, a wait on a cell one
   device pays, loads and stores of buffers held whole. -/
module

public import proofs.«01_k».proof.Proof.Proto

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

abbrev 𝒱₀ : Variants := Variants.none
/-- A section's run on device `c`. -/
abbrev run (c : Dev nD) {α : Type} (p : P F α) (Φ : α → sProp 𝕄) : sProp 𝕄 :=
  wp frame (wpE (defs₀ (F := F)) 𝒱₀ (c : Thread nD τ) none) Set.univ p Φ

/-- What every device knows: the cells' invariants, that every cell has reached its round, the levels. -/
def facts : sProp 𝕄 :=
  iprop((bigSep Finset.univ fun x : Dev nD × Kd => cellInv ER (attRd m) (K x) (kcell x))
    ∗ (bigSep Finset.univ fun x : Dev nD × Kd => reached ER (kcell x) 0) ∗ levAts L lv)
instance facts_persistent : BI.Persistent (facts m K) := by unfold facts; infer_instance
theorem facts_inv (x : Dev nD × Kd) : facts m K ⊢ cellInv ER (attRd m) (K x) (kcell x) := by
  have h : (bigSep Finset.univ fun x : Dev nD × Kd => (cellInv ER (attRd m) (K x) (kcell x) : sProp 𝕄)) ⊢ cellInv ER (attRd m) (K x) (kcell x) :=
    bigSep_elim (Finset.mem_univ x)
  unfold facts; iintro ⟨H, -, -⟩; iapply h; iexact H
theorem facts_reached (x : Dev nD × Kd) : facts m K ⊢ reached ER (kcell x) 0 := by
  have h : (bigSep Finset.univ fun x : Dev nD × Kd => (reached ER (kcell x) 0 : sProp 𝕄)) ⊢ reached ER (kcell x) 0 :=
    bigSep_elim (Finset.mem_univ x)
  unfold facts; iintro ⟨-, H, -⟩; iapply h; iexact H
theorem facts_lev : facts m K ⊢ levAts L lv := by unfold facts; iintro ⟨-, -, H⟩; iexact H

/-- The tokens of the payments of a list; with what the device still owes. -/
def tokens (c : Dev nD) (l : List (Dev nD × Kd)) : sProp 𝕄 := bigSepL l fun x => dutyTok ER (kcell x) 0 c
def duty (c : Dev nD) (l : List (Dev nD × Kd)) : sProp 𝕄 := iprop(∃ W, owes (c : Thread nD τ) (owe l) W ∗ tokens c l)
/-- A cell not waited on yet; the credit and the position with which its owner waits. -/
abbrev posn (c : Dev nD) (k : Kd) : sProp 𝕄 := atPos ER (kcell (c, k)) 0 ∅ 0
abbrev credit (c : Dev nD) (k : Kd) : sProp 𝕄 := cred (tallyAt (kcell (c, k)) () (amt k))
abbrev zero (c : Dev nD) (k : Kd) : sProp 𝕄 := semVal (kcell (c, k)) 0

theorem tokens_cons (c : Dev nD) (x : Dev nD × Kd) (l : List (Dev nD × Kd)) :
    (tokens c (x :: l) : sProp 𝕄) = iprop(dutyTok ER (kcell x) 0 c ∗ tokens c l) := by unfold tokens; rw [bigSepL_cons']

/-- A signal at entry: device `c` pays one unit of `d`'s barrier, handing over the buffers `d` writes at `c`. -/
theorem signal_step (c d d' : Dev nD) (hd : d' = d) (hm : c ∈ payers d kBar) (l : List (Dev nD × Kd)) (Φ : PUnit → sProp 𝕄) :
    iprop(facts m K ∗ duty c ((d, kBar) :: l) ∗ pay m d kBar c)
      ⊢ iprop((duty c l -∗ Φ ⟨⟩) -∗ run c (semSignalWord d' barS 1#32) Φ) := by
  subst hd
  unfold duty
  simp only [tokens_cons]
  iintro ⟨#HF, ⟨%W, HO, Ht, Hl⟩, Hp⟩ Hk
  simp only [run, semSignalWord, Prog.lift]
  iapply (Rounds.wp_signal 𝒱₀ ER (attRd m) (c : Thread nD τ) none (dst := (d' : Thread nD τ)) (κ := K (d', kBar))
      (d := c) (by rw [show ((d' : Thread nD τ), SemLoc.reg barS) = kcell (d', kBar) from rfl, duties_eq]; exact hm)
      ((amount_eq m d' kBar c).trans (by decide)) () (owe l) rfl) $$ [HO Ht Hp]
  · isplitr; · iapply (facts_inv m K (d', kBar)); iexact HF
    isplitl [HO]; · iexact HO
    isplitl [Ht]; · iexact Ht
    isplitl [Hp]; · rw [show ((d' : Thread nD τ), SemLoc.reg barS) = kcell (d', kBar) from rfl, payload_eq]; iexact Hp
    iapply (facts_reached m K (d', kBar)); iexact HF
  iintro HO
  rw [wp_ret]; imodintro
  iapply Hk
  iexists W; isplitl [HO]; · iexact HO
  iexact Hl

/-- The wait on a cell one device pays: its payment arrives, and the cell is closed. -/
theorem wait_step (c : Dev nD) (k : Kd) (d : Dev nD) (hd : payers c k = {d}) {sem : DmaSem sig} (hs : csem k = .dma sem)
    (l : List (Dev nD × Kd)) (hl : ∀ x ∈ l, klv k < klv x.2)
    {sp sp' : Space} {s : Shape} {e : EltTy} {srcw : Memref sig .tc sp s e} {dstw : Memref sig .tc sp' s e} {h₁ : srcw.view.WordExact} {h₂ : dstw.view.WordExact}
    (hN : dstw.view.dmaCredit = amt k) (Φ : PUnit → sProp 𝕄) :
    iprop(facts m K ∗ credit c k ∗ posn c k ∗ duty c l)
      ⊢ iprop(((duty c l ∗ zero c k ∗ pay m c k d) -∗ Φ ⟨⟩) -∗ run c (Prog.lift (.waitDma2 sem srcw dstw h₁ h₂)) Φ) := by
  have hc : kcell (c, k) = ((c : Thread nD τ), SemLoc.dma sem) := congrArg _ hs
  unfold duty
  iintro ⟨#HF, Hc, Ha, ⟨%W, HO, Ht⟩⟩ Hk
  simp only [run, Prog.lift]
  iapply (Rounds.wp_wait_rest_token 𝒱₀ ER (attRd m) (c : Thread nD τ) none (κ := K (c, k))
      (wpE_waitDma2_eq 𝒱₀ (c : Thread nD τ) none Set.univ) (Set.mem_univ _) () (O := owe l) (W := W) (R := 0) (m := 0) (T := ∅)
      (by rw [← hc, expect_eq, hd, Finset.card_singleton, one_mul, Nat.zero_add]; exact hN)) $$ [Hc HO Ha]
  · rw [← hc]
    isplitr; · iapply (facts_inv m K (c, k)); iexact HF
    isplitl [Hc]; · rw [hN]; iexact Hc
    isplitl [HO]; · iexact HO
    isplitr
    · iapply (mayWait c (.dma sem) l (by rw [← hs, slv_csem]; exact hl)); iapply (facts_lev m K); iexact HF
    iexact Ha
  rw [← hc, rest_eq, hd, bigSep_singleton]
  iintro ⟨HO, Ha, -, Hp⟩
  rw [wp_ret]
  imod (Rounds.cell_close ER (attRd m) (Set.mem_univ (K (c, k))) (fun h => h) (R := 0 + 1) (duties_later m (kcell (c, k)))) $$ [Ha] with Hz
  · isplitr; · iapply (facts_inv m K (c, k)); iexact HF
    iexact Ha
  imodintro
  iapply Hk
  isplitl [HO Ht]; · iexists _; isplitl [HO]; · iexact HO
                     iexact Ht
  isplitl [Hz] <;> iassumption

/-- A send: the source is lent to the departure's cell, the landing buffer, filled, pays the arrival's. -/
theorem send_step (c d n : Dev nD) (hn : n = d) (ks kr : Kd) (hms : c ∈ payers c ks) (hmr : c ∈ payers d kr)
    {sS sem : SemLoc sig} (hs : sS = csem ks) (hr : sem = csem kr) (l : List (Dev nD × Kd))
    {s : Shape} {e : EltTy} {src dst : Memref sig .tc .vmem s e} {h₁ : src.view.WordExact} {h₂ : dst.view.WordExact}
    {hsc : dst.view.ref.isScScratch = false}
    {hsem : DmaTarget.Typed .vmem sem (.remote (Dev.tc n : Thread nD τ) dst sS hsc)}
    (hN : dst.view.amount sem = amt kr) (hNs : amt ks = amt kr) (q : PosShare TreeShare) (X : s.Idx → Elt F e)
    (hps : (owns (c : Thread nD τ) src q X : sProp 𝕄) ⊢ pay m c ks c) (hpr : (owns (d : Thread nD τ) dst fullShare X : sProp 𝕄) ⊢ pay m d kr c)
    (Φ : PUnit → sProp 𝕄) :
    iprop(facts m K ∗ owns (c : Thread nD τ) src q X ∗ anyIn d dst ∗ duty c ((d, kr) :: l) ∗ dutyTok ER (kcell (c, ks)) 0 c)
      ⊢ iprop(((credit c ks ∗ duty c l) -∗ Φ ⟨⟩) -∗ run c (Prog.lift (.enqueueDma src (.remote (Dev.tc n : Thread nD τ) dst sS hsc) sem h₁ h₂ hsem)) Φ) := by
  subst hn hs hr
  unfold duty anyIn owns
  simp only [tokens_cons]
  iintro ⟨#HF, ⟨%fs, %hfs, Hs⟩, ⟨%X', %fd, %hfd, Hd⟩, ⟨%W, HO, Htr, Hl⟩, Hts⟩ Hk
  simp only [run, Prog.lift]
  iapply (Rounds.wp_send_pointsTo 𝒱₀ ER (attRd m) (c : Thread nD τ) none (c' := (n : Thread nD τ)) (κ₁ := K (c, ks)) (κ₂ := K (n, kr))
      (r₁ := 0) (r₂ := 0) (d₁ := c) (d₂ := c) (fs := fs) (fd := fd)
      (by rw [show ((c : Thread nD τ), csem ks) = kcell (c, ks) from rfl, duties_eq]; exact hms)
      (by rw [show ((n : Thread nD τ), csem kr) = kcell (n, kr) from rfl, duties_eq]; exact hmr)
      () () (amt kr) hN ((amount_eq m c ks c).trans hNs) (amount_eq m n kr c) (owe l) rfl (W := W)
      (by rw [show ((c : Thread nD τ), csem ks) = kcell (c, ks) from rfl, payload_eq]
          exact (owns_intro (c : Thread nD τ) src q fs).trans (by rw [hfs]; exact hps))
      (by rw [show ((n : Thread nD τ), csem kr) = kcell (n, kr) from rfl, payload_eq]
          refine (owns_intro (n : Thread nD τ) dst fullShare _).trans ?_
          rw [View.read_write_univ, hfs]; exact hpr)) $$ [Hs Hd HO Htr Hts]
  · isplitr; · iapply (facts_inv m K (c, ks)); iexact HF
    isplitr; · iapply (facts_inv m K (n, kr)); iexact HF
    isplitl [Hs]; · iexact Hs
    isplitl [Hd]; · iexact Hd
    isplitl [HO]; · iexact HO
    isplitl [Hts]; · iexact Hts
    isplitr; · iapply (facts_reached m K (c, ks)); iexact HF
    isplitl [Htr]; · iexact Htr
    iapply (facts_reached m K (n, kr)); iexact HF
  iintro ⟨Hc, HO⟩
  rw [wp_ret]; imodintro
  iapply Hk
  isplitl [Hc]; · rw [credit, hNs]; iexact Hc
  iexists W; isplitl [HO]; · iexact HO
  iexact Hl

/-- The barrier's wait: the seven others' landing buffers for device `c`'s copies arrive. -/
theorem sort_by_device (l : List (Dev nD × Kd)) (S : Finset (Dev nD)) (h : ∀ x ∈ l, x.1 ∈ S) (Φ : Dev nD × Kd → sProp 𝕄) :
    (bigSep S fun d => bigSepL (l.filter fun x => x.1 = d) Φ) ⊢ bigSepL l Φ := by
  induction l with
  | nil => iintro -; rw [bigSepL_nil]; iempintro
  | cons x l ih =>
    have hx : x.1 ∈ S := h x (List.mem_cons_self ..)
    have e₁ : (bigSep S fun d => bigSepL ((x :: l).filter fun y => y.1 = d) Φ)
        = iprop(bigSepL ((x :: l).filter fun y => y.1 = x.1) Φ ∗ bigSep (S.erase x.1) fun d => bigSepL ((x :: l).filter fun y => y.1 = d) Φ) :=
      BI.bigSep_erase hx
    have e₂ : (bigSep S fun d => bigSepL (l.filter fun y => y.1 = d) Φ)
        = iprop(bigSepL (l.filter fun y => y.1 = x.1) Φ ∗ bigSep (S.erase x.1) fun d => bigSepL (l.filter fun y => y.1 = d) Φ) :=
      BI.bigSep_erase hx
    have e₃ : (bigSep (S.erase x.1) fun d => bigSepL ((x :: l).filter fun y => y.1 = d) Φ) = bigSep (S.erase x.1) fun d => bigSepL (l.filter fun y => y.1 = d) Φ :=
      bigSep_congr fun d hd => by
        rw [List.filter_cons_of_neg (by simpa using fun h => (Finset.ne_of_mem_erase hd) h.symm)]
    have i := ih fun y hy => h y (List.mem_cons_of_mem _ hy)
    rw [e₂] at i
    rw [e₁, e₃, List.filter_cons_of_pos (by simp), bigSepL_cons', bigSepL_cons']
    iintro ⟨⟨H₁, H₂⟩, H₃⟩
    isplitl [H₁]; · iexact H₁
    iapply i
    isplitl [H₂] <;> iassumption

theorem payers_bar_card (c : Dev nD) : (payers c kBar).card = 7 := by revert c; decide +kernel
theorem tgt_payers (c : Dev nD) : ∀ x ∈ tgtPay c, x.1 ∈ payers c kBar := by revert c; decide +kernel
theorem bar_level (c : Dev nD) : ∀ x ∈ tgtPay c, klv kBar < klv x.2 := by revert c; decide +kernel

theorem barrier_step (c : Dev nD) (Φ : PUnit → sProp 𝕄) :
    iprop(facts m K ∗ cred (tallyAt (kcell (c, kBar)) () 7) ∗ posn c kBar ∗ duty c (tgtPay c))
      ⊢ iprop(((duty c (tgtPay c) ∗ zero c kBar ∗ bigSepL (tgtPay c) landBuf) -∗ Φ ⟨⟩) -∗ run c (semWaitWord barS 7#32) Φ) := by
  unfold duty
  iintro ⟨#HF, Hc, Ha, ⟨%W, HO, Ht⟩⟩ Hk
  simp only [run, semWaitWord, Prog.lift]
  iapply (Rounds.wp_wait_rest_token 𝒱₀ ER (attRd m) (c : Thread nD τ) none (κ := K (c, kBar))
      (wpE_semWait_eq 𝒱₀ (c : Thread nD τ) none Set.univ) (Set.mem_univ _) () (O := owe (tgtPay c)) (W := W) (R := 0) (m := 0) (T := ∅)
      (by rw [show ((c : Thread nD τ), SemLoc.reg barS) = kcell (c, kBar) from rfl, expect_eq, payers_bar_card]; decide)) $$ [Hc HO Ha]
  · isplitr; · iapply (facts_inv m K (c, kBar)); iexact HF
    isplitl [Hc]; · iexact Hc
    isplitl [HO]; · iexact HO
    isplitr
    · iapply (mayWait c (csem kBar) (tgtPay c) (by rw [slv_csem]; exact bar_level c)); iapply (facts_lev m K); iexact HF
    iexact Ha
  rw [show ((c : Thread nD τ), SemLoc.reg barS) = kcell (c, kBar) from rfl, rest_eq]
  iintro ⟨HO, Ha, -, Hp⟩
  rw [wp_ret]
  imod (Rounds.cell_close ER (attRd m) (Set.mem_univ (K (c, kBar))) (fun h => h) (R := 0 + 1) (duties_later m (kcell (c, kBar)))) $$ [Ha] with Hz
  · isplitr; · iapply (facts_inv m K (c, kBar)); iexact HF
    iexact Ha
  imodintro
  iapply Hk
  isplitl [HO Ht]; · iexists _; isplitl [HO]; · iexact HO
                     iexact Ht
  isplitl [Hz]; · iexact Hz
  iapply (sort_by_device (tgtPay c) (payers c kBar) (tgt_payers c) landBuf); iexact Hp

end Cert.KernelIdeal.Att
-- ==== Proof.Mem.lean ====
/- One rule for each of the body's effects on memory: loads and stores of whole buffers, loads and stores of a part of a
   buffer, the local copies of a fragment into its landing slot. -/
module

public import proofs.«01_k».proof.Proof.Steps

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- A load of a box of a buffer held at `X` reads `X` there. -/
theorem read_step (c : Dev nD) {s : Shape} {e : EltTy} (v : Memref sig .tc .vmem s e) (r : LoadRect s) (hl : v.view.LoadsAt r)
    (q : PosShare TreeShare) (X : s.Idx → Elt F e) (Φ : (r.shape.Idx → Elt F e) → sProp 𝕄) :
    (owns (c : Thread nD τ) v q X : sProp 𝕄)
      ⊢ iprop((owns (c : Thread nD τ) v q X -∗ Φ (fun x => X (r.idx x))) -∗ run c (Prog.lift (.load v r hl)) Φ) := by
  unfold owns
  iintro ⟨%f, %hf, Hp⟩ Hk
  simp only [run, Prog.lift]
  iapply (wp_load 𝒱₀ (c : Thread nD τ) none Set.univ (View.setOn_subset_set v.view _)) $$ [Hp]
  · iexact Hp
  iintro Hp
  rw [wp_ret]; imodintro
  subst hf
  rw [show v.view.readAt (Elt F) r f = fun x => v.view.read (Elt F) f (r.idx x) from rfl]
  iapply Hk
  iexists f; isplitr; · ipureintro; rfl
  iexact Hp

theorem idx_unit_zero {s : Shape} (o : Fin s.rank → Nat) (ho : ∀ a, o a + s.size a ≤ s.size a) (x : s.Idx) :
    (Rect.unit o s.size ho).toLoadRect.idx x = x := by
  funext a; apply Fin.ext
  show o a + 1 * (x a).val = (x a).val
  have := ho a; omega

/-- A load of a whole buffer. -/
theorem load_step (c : Dev nD) {s : Shape} {e : EltTy} (v : Memref sig .tc .vmem s e) (o : Fin s.rank → Nat) (ho : ∀ a, o a + s.size a ≤ s.size a)
    (h : 0 < s.numel) (q : PosShare TreeShare) (X : s.Idx → Elt F e) (Φ : (s.Idx → Elt F e) → sProp 𝕄) :
    (owns (c : Thread nD τ) v q X : sProp 𝕄)
      ⊢ iprop((owns (c : Thread nD τ) v q X -∗ Φ X) -∗ run c (loadAll v o ho h) Φ) := by
  have h' : (fun x => X ((Rect.unit o s.size ho).toLoadRect.idx x)) = X := funext fun x => congrArg X (idx_unit_zero o ho x)
  have := read_step (F := F) c v (Rect.unit o s.size ho).toLoadRect (View.loadsAt_vmem h) q X Φ
  rw [h'] at this
  exact this

/-- A store of a whole buffer. -/
theorem store_step (c : Dev nD) {s : Shape} {e : EltTy} (v : Memref sig .tc .vmem s e) (o : Fin s.rank → Nat) (ho : ∀ a, o a + s.size a ≤ s.size a)
    (h : 0 < s.numel) (hs : (v.access (Rect.unit o s.size ho)).Stores Finset.univ) (X : s.Idx → Elt F e) (Φ : PUnit → sProp 𝕄) :
    (anyIn c v : sProp 𝕄)
      ⊢ iprop((owns (c : Thread nD τ) v fullShare X -∗ Φ ⟨⟩) -∗ run c (storeAll v o ho h hs X) Φ) := by
  unfold anyIn storeAll
  iintro ⟨%Y, Hp⟩ Hk
  rw [run, wp_bind]
  iapply (load_step c v o ho h fullShare Y) $$ [Hp]
  · iexact Hp
  unfold owns
  iintro ⟨%f, %hf, Hp⟩
  simp only [Prog.lift]
  iapply (wp_store 𝒱₀ (c : Thread nD τ) none Set.univ (m := v) (r := Rect.unit o s.size ho) (Mk := Finset.univ)
    ((View.setOn_subset_set _ _).trans (v.view.set_slice_subset _))) $$ [Hp]
  · iexact Hp
  iintro Hp
  rw [wp_ret]; imodintro
  iapply Hk
  iexists ((v.access (Rect.unit o s.size ho)).write (Elt F) f X Finset.univ)
  isplitr
  · ipureintro
    funext y
    have := View.read_slice_write_emb (v := v.view) (Val := Elt F) (Rect.unit o s.size ho) f X (M := Finset.univ) (x := y) (Finset.mem_univ _)
    rwa [show (Rect.unit o s.size ho).emb y = y from idx_unit_zero o ho y] at this
  iexact Hp

/-! ## A buffer filled in part -/

/-- The elements `S` of a buffer, at `X` where `p` holds. -/
def part (c : Dev nD) {s : Shape} {e : EltTy} (M : Memref sig .tc .vmem s e) (S : Finset (Idx (M.view.loc (c : Thread nD τ)))) (p : s.Idx → Prop)
    (X : s.Idx → Elt F e) : sProp 𝕄 :=
  iprop(∃ f, ⌜∀ y, p y → M.view.read (Elt F) f y = X y⌝ ∗ (M.view.loc (c : Thread nD τ) ↦[S]{fullShare} f))

theorem part_store (c : Dev nD) {s : Shape} {e : EltTy} (M : Memref sig .tc .vmem s e) (S : Finset (Idx (M.view.loc (c : Thread nD τ)))) (p p' : s.Idx → Prop)
    (X : s.Idx → Elt F e) (r : Rect s) (w : r.shape.Idx → Elt F e) (hx : (M.access r).Stores Finset.univ)
    (hS : (M.access r).set ⊆ S) (h : ∀ y, p' y → (∃ x, r.emb x = y ∧ w x = X y) ∨ ((∀ x, r.emb x ≠ y) ∧ p y))
    (Φ : PUnit → sProp 𝕄) :
    (part c M S p X : sProp 𝕄) ⊢ iprop((part c M S p' X -∗ Φ ⟨⟩) -∗ run c (Prog.lift (.store M r w Finset.univ hx (.inl rfl))) Φ) := by
  unfold part
  iintro ⟨%f, %hf, Hp⟩ Hk
  simp only [run, Prog.lift]
  iapply (wp_store 𝒱₀ (c : Thread nD τ) none Set.univ (m := M) (r := r) (Mk := Finset.univ) hS) $$ [Hp]
  · iexact Hp
  iintro Hp
  rw [wp_ret]; imodintro
  iapply Hk
  iexists ((M.access r).write (Elt F) f w Finset.univ)
  isplitr
  · ipureintro
    intro y hy
    rcases h y hy with ⟨x, rfl, hx⟩ | ⟨hn, hp⟩
    · exact (View.read_slice_write_emb (v := M.view) (Val := Elt F) r f w (M := Finset.univ) (x := x) (Finset.mem_univ _)).trans hx
    · exact (View.read_slice_write_of_not_mem (v := M.view) (Val := Elt F) r f w Finset.univ (by simpa using hn)).trans (hf y hp)
  iexact Hp

/-- A load whose value is dropped, of elements held in part. -/
theorem part_load (c : Dev nD) {s : Shape} {e : EltTy} (M : Memref sig .tc .vmem s e) (S : Finset (Idx (M.view.loc (c : Thread nD τ)))) (p : s.Idx → Prop)
    (X : s.Idx → Elt F e) (r : LoadRect s) (hl : M.view.LoadsAt r) (hS : M.view.setOn r.set ⊆ S) (Φ : (r.shape.Idx → Elt F e) → sProp 𝕄) :
    (part c M S p X : sProp 𝕄) ⊢ iprop((∀ x, part c M S p X -∗ Φ x) -∗ run c (Prog.lift (.load M r hl)) Φ) := by
  unfold part
  iintro ⟨%f, %hf, Hp⟩ Hk
  simp only [run, Prog.lift]
  iapply (wp_load 𝒱₀ (c : Thread nD τ) none Set.univ hS) $$ [Hp]
  · iexact Hp
  iintro Hp
  rw [wp_ret]; imodintro
  iapply Hk
  iexists f; isplitr; · ipureintro; exact hf
  iexact Hp

/-! ## The local copies -/

/-- What a fragment's copy reads. -/
def fragRd (w : Fin 2) (i : Fin 16) : Vec F S512x8x128 .f32 := fun y =>
  kvArr m w (ix4 (n0 := 1) (n1 := 1024) (n2 := 64) (n3 := 128) 0
    ⟨512 * (frHalf i).val + (y 0).val, by have : (y 0).val < 512 := (y 0).isLt; have := (frHalf i).isLt; omega⟩
    ⟨8 * (frDev i).val + (y 1).val, by have : (y 1).val < 8 := (y 1).isLt; have := (frDev i).isLt; omega⟩ ⟨(y 2).val, (y 2).isLt⟩)

theorem reshape3 (y : S512x8x128.Idx) :
    (Shape.reshapeEquiv (s := S1x512x8x128) (squeezes_S1x512x8x128_S512x8x128).numel_eq y : S1x512x8x128.Idx) = Fin.cons ⟨0, Nat.one_pos⟩ y :=
  Shape.reshapeEquiv_cons_one (d := S512x8x128.size) _ _
theorem reshape3' (y : S512x16x128.Idx) :
    (Shape.reshapeEquiv (s := S1x512x16x128) (squeezes_S1x512x16x128_S512x16x128).numel_eq y : S1x512x16x128.Idx) = Fin.cons ⟨0, Nat.one_pos⟩ y :=
  Shape.reshapeEquiv_cons_one (d := S512x16x128.size) _ _

theorem frag_read (w : Fin 2) (i : Fin 16) (f : (hbm w).view.ty.Contents (Elt F)) (hf : (hbm w).view.read (Elt F) f = kvArr m w) :
    (frag w i).view.read (Elt F) f = fragRd m w i := by
  funext y
  show (hbm w).view.read (Elt F) f ((Rect.unit (s := S1x1024x64x128) ![0, 512 * (frHalf i).val, 8 * (frDev i).val, 0] S1x512x8x128.size (by revert i; decide)).emb
    (Shape.reshapeEquiv (s := S1x512x8x128) (squeezes_S1x512x8x128_S512x8x128).numel_eq y)) = _
  rw [hf, reshape3]
  refine congrArg (kvArr m w) ?_
  funext a; apply Fin.ext
  rw [Rect.emb_apply]
  match a with
  | 0 => show 0 + 1 * 0 = 0; rfl
  | 1 => show 512 * (frHalf i).val + 1 * (y 0).val = 512 * (frHalf i).val + (y 0).val; omega
  | 2 => show 8 * (frDev i).val + 1 * (y 1).val = 8 * (frDev i).val + (y 1).val; omega
  | 3 => show 0 + 1 * (y 2).val = (y 2).val; omega

def NT : ℕ := (tmpSlot 0 0).view.dmaCredit
theorem NT_pos : 0 < NT := View.dmaCredit_pos _ (by decide)
theorem credit_tmp : ∀ w t : Fin 2, (tmpSlot w t).view.dmaCredit = NT | 0, 0 => rfl | 0, 1 => rfl | 1, 0 => rfl | 1, 1 => rfl

/-- A fragment's copy in flight: once landed it gives back what it was lent. -/
def fly (w : Fin 2) (i : Fin 16) (q : PosShare TreeShare) : sProp 𝕄 :=
  iprop(∃ D, Transfers.Flight EC ((0 : Dev nD) : Thread nD τ) (.dma (copyOf w i)) () NT D
    ∗ (D -∗ (owns ((0 : Dev nD) : Thread nD τ) (tmpSlot w (parOf i)) fullShare (fragRd m w i) ∗ owns ((0 : Dev nD) : Thread nD τ) (hbm w) q (kvArr m w))))

theorem copy_start (w : Fin 2) (i : Fin 16) (q : PosShare TreeShare) (Φ : PUnit → sProp 𝕄) :
    iprop(owns ((0 : Dev nD) : Thread nD τ) (hbm w) q (kvArr m w) ∗ anyIn 0 (tmpSlot w (parOf i))
        ∗ semVal (((0 : Dev nD) : Thread nD τ), SemLoc.dma (copyOf w i)) 0)
      ⊢ iprop((fly m w i q -∗ Φ ⟨⟩) -∗ run 0 (copyStart w i) Φ) := by
  unfold fly anyIn owns
  iintro ⟨⟨%f, %hf, Hs⟩, ⟨%Y, %g, %hg, Hd⟩, Hv⟩ Hk
  have hsub : (frag w i).view.set ⊆ (hbm w).view.set := by
    unfold frag
    exact (subset_of_eq (View.set_reshape _ _)).trans (View.set_slice_subset _ _)
  ihave Hs' := (pointsTo_split_subset hsub).1 $$ Hs
  icases Hs' with ⟨Hs, Hr⟩
  simp only [run, copyStart, Prog.lift]
  iapply (Transfers.wp_dmaLocal EC 𝒱₀ ((0 : Dev nD) : Thread nD τ) none (src := frag w i) (dst := tmpSlot w (parOf i)) (sm := SemLoc.dma (copyOf w i)) () NT
      (credit_tmp w _) NT_pos (Finset.Subset.refl _)) $$ [Hs Hd Hv]
  · isplitl [Hs]; · iexact Hs
    isplitl [Hd]; · iexact Hd
    iexact Hv
  iintro HF
  rw [wp_ret]; imodintro
  iapply Hk
  iexists _
  isplitl [HF]; · iexact HF
  iintro ⟨Hd, Hs⟩
  isplitl [Hd]
  · iexists _
    isplitr
    swap; · iexact Hd
    ipureintro
    rw [View.read_write_univ]
    exact frag_read m w i f hf
  iexists f
  isplitr; · ipureintro; exact hf
  iapply (pointsTo_split_subset hsub).2
  isplitl [Hs]; · iexact Hs
  iexact Hr

theorem slv_copy : ∀ (w : Fin 2) (i : Fin 16), slv (.dma (copyOf w i)) = 0 := by decide +kernel

theorem copy_wait (w : Fin 2) (i : Fin 16) (q : PosShare TreeShare) (l : List (Dev nD × Kd)) (hl : ∀ x ∈ l, 0 < klv x.2) (Φ : PUnit → sProp 𝕄) :
    iprop(facts m K ∗ fly m w i q ∗ duty 0 l)
      ⊢ iprop(((duty 0 l ∗ owns ((0 : Dev nD) : Thread nD τ) (tmpSlot w (parOf i)) fullShare (fragRd m w i) ∗ owns ((0 : Dev nD) : Thread nD τ) (hbm w) q (kvArr m w)
            ∗ semVal (((0 : Dev nD) : Thread nD τ), SemLoc.dma (copyOf w i)) 0) -∗ Φ ⟨⟩)
          -∗ run 0 (copyWait w i) Φ) := by
  unfold fly duty
  iintro ⟨#HF, ⟨%D, Hf, Hb⟩, ⟨%W, HO, Ht⟩⟩ Hk
  simp only [run, copyWait, Prog.lift]
  iapply (Transfers.wp_waitLocalO EC 𝒱₀ ((0 : Dev nD) : Thread nD τ) none () (O := owe l) (W := W) (credit_tmp w _)) $$ [Hf HO]
  · isplitl [Hf]; · iexact Hf
    isplitl [HO]; · iexact HO
    iapply (mayWait 0 (.dma (copyOf w i)) l (by rw [slv_copy]; exact hl)); iapply (facts_lev m K); iexact HF
  iintro ⟨HD, Hv, HO⟩
  rw [wp_ret]; imodintro
  iapply Hk
  isplitl [HO Ht]
  · iexists _; isplitl [HO]; · iexact HO
    iexact Ht
  ihave HD := Hb $$ HD
  icases HD with ⟨H₁, H₂⟩
  isplitl [H₁]; · iexact H₁
  isplitl [H₂]; · iexact H₂
  iexact Hv

end Cert.KernelIdeal.Att
-- ==== Proof.Dist.lean ====
/- Device 0's distribution of the keys and values: a fragment's copy, its rounding into a staging slot, its send; the
   fragments one after another; device 0's own heads. -/
module

public import proofs.«01_k».proof.Proof.Mem

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- Device 0. -/
abbrev D0 : Dev nD := 0

/-! ## A landing slot's contents, rounded -/

theorem cast_self {α : Type} {s : Shape} (v : s.Idx → α) (h : s.ShapeCasts s) : shapeCast s v h = v :=
  funext fun i => congrArg v (Shape.reshapeEquiv_self _ i)
theorem st_inb (j : Fin 4) : ∀ a, (![j.val, 0, 0, 0] : Fin 4 → ℕ) a + S1x512x16x128.size a ≤ S4x512x16x128.size a := by revert j; decide
theorem kv_inb (h : Fin 2) : ∀ a, (![512 * h.val, 0, 0] : Fin 3 → ℕ) a + S512x16x128.size a ≤ S1024x16x128.size a := by revert h; decide

/-- Behind a leading axis of one. -/
abbrev drop1 (z : S1x512x8x128.Idx) : S512x8x128.Idx :=
  ix3 (n0 := 512) (n1 := 8) (n2 := 128) ⟨(z 1).val, (z 1).isLt⟩ ⟨(z 2).val, (z 2).isLt⟩ ⟨(z 3).val, (z 3).isLt⟩
theorem reshape_drop1 (z : S1x512x8x128.Idx) :
    (Shape.reshapeEquiv (s := S1x512x8x128) (squeezes_S1x512x8x128_S512x8x128).numel_eq (drop1 z) : S1x512x8x128.Idx) = z := by
  rw [reshape3]
  funext a; apply Fin.ext
  match a with
  | 0 => show 0 = (z 0).val; have : (z 0).val < 1 := (z 0).isLt; omega
  | 1 => rfl
  | 2 => rfl
  | 3 => rfl

theorem castV_eval (Y : Vec F S512x8x128 .f32) :
    castV (fun z : S1x512x8x128.Idx => Y (drop1 z)) = fun y => (FloatOps.truncf .bf16 bitsLt_bf16_f32 (Y y : F .f32) : Elt F .bf16) := by
  funext y
  unfold castV
  rw [cast_self]
  show FloatOps.truncf .bf16 _ (Y (drop1 (Shape.reshapeEquiv _ y)) : F .f32) = _
  rw [show Shape.reshapeEquiv (s := S1x512x8x128) (s' := S512x8x128) _ y = Fin.cons ⟨0, Nat.one_pos⟩ y from reshape3 y]
  refine congrArg (fun t => (FloatOps.truncf .bf16 bitsLt_bf16_f32 (Y t : F .f32) : Elt F .bf16)) ?_
  funext a
  match a with
  | 0 => rfl
  | 1 => rfl
  | 2 => rfl
theorem castV1_eval (Y : Vec F S512x8x128 .f32) (z : S1x512x8x128.Idx) :
    castV1 (fun z : S1x512x8x128.Idx => Y (drop1 z)) z = (FloatOps.truncf .bf16 bitsLt_bf16_f32 (Y (drop1 z) : F .f32) : Elt F .bf16) := by
  unfold castV1
  rw [castV_eval]
  show FloatOps.truncf .bf16 _ (Y (Shape.reshapeEquiv _ z) : F .f32) = _
  refine congrArg (fun t => (FloatOps.truncf .bf16 bitsLt_bf16_f32 (Y t : F .f32) : Elt F .bf16)) ?_
  have h := congrArg (Shape.reshapeEquiv (s := S512x8x128) (s' := S1x512x8x128) (squeezes_S1x512x8x128_S512x8x128).numel_eq.symm) (reshape_drop1 z)
  rw [Shape.reshapeEquiv_reshapeEquiv, Shape.reshapeEquiv_self] at h
  exact h.symm

/-- A landing slot is read through its buffer. -/
theorem tmp_load (w t : Fin 2) (hl : (tmpB w).view.LoadsAt (tmpR t).toLoadRect) (Y : Vec F S512x8x128 .f32) (Φ : Vec F S1x512x8x128 .f32 → sProp 𝕄) :
    (owns (D0 : Thread nD τ) (tmpSlot w t) fullShare Y : sProp 𝕄)
      ⊢ iprop((owns (D0 : Thread nD τ) (tmpSlot w t) fullShare Y -∗ Φ (fun z => Y (drop1 z)))
          -∗ run D0 (Prog.lift (.load (tmpB w) (tmpR t).toLoadRect hl)) Φ) := by
  unfold owns
  iintro ⟨%f, %hf, Hp⟩ Hk
  have hS : (tmpB w).view.setOn (tmpR t).toLoadRect.set ⊆ (tmpSlot w t).view.set := by
    unfold tmpSlot
    refine subset_of_eq (Eq.trans ?_ (View.set_reshape _ _).symm)
    exact (View.set_slice _ _).symm
  simp only [run, Prog.lift]
  iapply (wp_load 𝒱₀ (D0 : Thread nD τ) none Set.univ (m := tmpB w) (S := (tmpSlot w t).view.set) (f := f) hS) $$ [Hp]
  · iexact Hp
  iintro Hp
  rw [wp_ret]; imodintro
  have e : (tmpB w).view.readAt (Elt F) (tmpR t).toLoadRect f = fun z => Y (drop1 z) := by
    funext z
    rw [← hf]
    show (tmpB w).view.read (Elt F) f ((tmpR t).toLoadRect.idx z)
      = (tmpB w).view.read (Elt F) f ((tmpR t).emb (Shape.reshapeEquiv (s := S1x512x8x128) (squeezes_S1x512x8x128_S512x8x128).numel_eq (drop1 z)))
    rw [reshape_drop1]; rfl
  rw [show View.readAt (Elt F) (tmpB w).view (tmpR t).toLoadRect f = fun z => Y (drop1 z) from e]
  iapply Hk
  iexists f; isplitr; · ipureintro; exact hf
  iexact Hp

/-- A fragment's rounded keys or values, in their half of the heads. -/
theorem fragRd_round (w : Fin 2) (i : Fin 16) (y : S512x16x128.Idx) (h₁ : 8 * w.val ≤ (y 1).val) (h₂ : (y 1).val < 8 * w.val + 8) (z : S512x8x128.Idx)
    (h0 : (z 0).val = (y 0).val) (hz : (z 1).val = (y 1).val - 8 * w.val) (hz2 : (z 2).val = (y 2).val) :
    (FloatOps.truncf .bf16 bitsLt_bf16_f32 (fragRd m w i z : F .f32) : Elt F .bf16) = fragVal m (frDev i) (frHalf i) y := by
  unfold fragVal kvV kvBf fragRd
  have hw : (if ((halfI (frHalf i) y) 1).val < 8 then (0 : Fin 2) else 1) = w := by
    show (if (y 1).val < 8 then (0 : Fin 2) else 1) = w
    match w, h₁, h₂ with
    | 0, _, h₂ => exact if_pos h₂
    | 1, h₁, _ => exact if_neg (by have : 8 ≤ (y 1).val := h₁; omega)
  rw [hw]
  refine congrArg (fun t => (FloatOps.truncf .bf16 bitsLt_bf16_f32 (kvArr m w t : F .f32) : Elt F .bf16)) ?_
  funext a; apply Fin.ext
  match a with
  | 0 => rfl
  | 1 => show 512 * (frHalf i).val + (z 0).val = 512 * (frHalf i).val + (y 0).val; omega
  | 2 => show 8 * (frDev i).val + (z 1).val = 8 * (frDev i).val + (y 1).val % 8
         have := w.isLt; omega
  | 3 => exact hz2

/-! ## Staging -/

/-- The first `n` halves of a staging slot filled with a fragment; of a half of the key/value buffer. -/
abbrev stP (j : Fin 4) (n : ℕ) (y : S4x512x16x128.Idx) : Prop := (y 0).val = j.val ∧ (y 2).val < 8 * n
abbrev stX (p : Dev nD) (h : Fin 2) : S4x512x16x128.Idx → Elt F .bf16 :=
  fun y => fragVal m p h (ix3 (n0 := 512) (n1 := 16) (n2 := 128) ⟨(y 1).val, (y 1).isLt⟩ ⟨(y 2).val, (y 2).isLt⟩ ⟨(y 3).val, (y 3).isLt⟩)
abbrev kvP (h : Fin 2) (n : ℕ) (y : S1024x16x128.Idx) : Prop := (512 * h.val ≤ (y 0).val ∧ (y 0).val < 512 * h.val + 512) ∧ (y 1).val < 8 * n
def stPart (j : Fin 4) (n : ℕ) (p : Dev nD) (h : Fin 2) : sProp 𝕄 :=
  part D0 (Memref.whole cc0_scratch4) (stSlot j).view.set (stP j n) (stX m p h)
def kvPart (h : Fin 2) (n : ℕ) : sProp 𝕄 :=
  part D0 (Memref.whole cc0_scratch0) (kvHalf h).view.set (kvP h n) (kvV m D0)

theorem st_begin (j : Fin 4) (p : Dev nD) (h : Fin 2) : (anyIn D0 (stSlot j) : sProp 𝕄) ⊢ stPart m j 0 p h := by
  unfold anyIn owns stPart part
  iintro ⟨%X, %f, %hf, Hp⟩
  iexists f; isplitr; · ipureintro; exact fun y hy => absurd hy.2 (by omega)
  iexact Hp
theorem st_end (j : Fin 4) (p : Dev nD) (h : Fin 2) : (stPart m j 2 p h : sProp 𝕄) ⊢ owns (D0 : Thread nD τ) (stSlot j) fullShare (fragVal m p h) := by
  unfold owns stPart part
  iintro ⟨%f, %hf, Hp⟩
  iexists f; isplitr
  · ipureintro
    funext y
    have := hf ((Rect.unit (s := S4x512x16x128) ![j.val, 0, 0, 0] S1x512x16x128.size (st_inb j)).emb (Fin.cons ⟨0, Nat.one_pos⟩ y))
      ⟨by rw [Rect.emb_apply]; rfl, by rw [Rect.emb_apply]; show 0 + 1 * (y 1).val < 8 * 2; have : (y 1).val < 16 := (y 1).isLt; omega⟩
    refine Eq.trans ?_ (this.trans (congrArg (fragVal m p h) ?_))
    · show (Memref.whole cc0_scratch4).view.read (Elt F) f ((Rect.unit (s := S4x512x16x128) ![j.val, 0, 0, 0] S1x512x16x128.size (st_inb j)).emb
        (Shape.reshapeEquiv (s := S1x512x16x128) (squeezes_S1x512x16x128_S512x16x128).numel_eq y)) = _
      rw [reshape3']
    · funext a; apply Fin.ext
      match a with
      | 0 => show 0 + 1 * (y 0).val = (y 0).val; omega
      | 1 => show 0 + 1 * (y 1).val = (y 1).val; omega
      | 2 => show 0 + 1 * (y 2).val = (y 2).val; omega
  iexact Hp
theorem kv_begin (h : Fin 2) : (anyIn D0 (kvHalf h) : sProp 𝕄) ⊢ kvPart m h 0 := by
  unfold anyIn owns kvPart part
  iintro ⟨%X, %f, %hf, Hp⟩
  iexists f; isplitr; · ipureintro; exact fun y hy => absurd hy.2 (by omega)
  iexact Hp
theorem halfI_emb (h : Fin 2) (y : S512x16x128.Idx) :
    (Rect.unit (s := S1024x16x128) ![512 * h.val, 0, 0] S512x16x128.size (kv_inb h)).emb y = halfI h y := by
  funext a; apply Fin.ext
  rw [Rect.emb_apply]
  match a with
  | 0 => show 512 * h.val + 1 * (y 0).val = 512 * h.val + (y 0).val; omega
  | 1 => show 0 + 1 * (y 1).val = (y 1).val; omega
  | 2 => show 0 + 1 * (y 2).val = (y 2).val; omega
theorem kv_end (h : Fin 2) : (kvPart m h 2 : sProp 𝕄) ⊢ owns (D0 : Thread nD τ) (kvHalf h) fullShare (fragVal m D0 h) := by
  unfold owns kvPart part
  iintro ⟨%f, %hf, Hp⟩
  iexists f; isplitr
  · ipureintro
    funext y
    refine Eq.trans ?_ (hf (halfI h y) ⟨⟨?_, ?_⟩, ?_⟩)
    · show (Memref.whole cc0_scratch0).view.read (Elt F) f ((Rect.unit (s := S1024x16x128) ![512 * h.val, 0, 0] S512x16x128.size (kv_inb h)).emb y) = _
      rw [halfI_emb]
    · show 512 * h.val ≤ 512 * h.val + (y 0).val; omega
    · show 512 * h.val + (y 0).val < 512 * h.val + 512; have : (y 0).val < 512 := (y 0).isLt; omega
    · show (y 1).val < 8 * 2; have : (y 1).val < 16 := (y 1).isLt; omega
  iexact Hp

end Cert.KernelIdeal.Att
-- ==== Proof.Frag.lean ====
/- The distribution's steps: a half staged, a fragment sent, the fourteen fragments in turn, device 0's own heads. -/
module

public import proofs.«01_k».proof.Proof.Dist

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- The share of the arrays a landing slot's copies read with. -/
def hq (t : Fin 2) : PosShare TreeShare := if t = 0 then fullShare.left else fullShare.right
/-- A landing slot's copy not in flight: its array's share, the slot, its semaphore. -/
def idle (w t : Fin 2) : sProp 𝕄 :=
  iprop(owns (D0 : Thread nD τ) (hbm w) (hq t) (kvArr m w) ∗ anyIn D0 (tmpSlot w t)
    ∗ semVal ((D0 : Thread nD τ), SemLoc.dma (copyS ⟨2 * t.val + w.val, by have := t.isLt; have := w.isLt; omega⟩)) 0)
def idle2 (t : Fin 2) : sProp 𝕄 := iprop(idle m 0 t ∗ idle m 1 t)
/-- A fragment's two copies in flight. -/
def fly2 (i : Fin 16) : sProp 𝕄 := iprop(fly m 0 i (hq (parOf i)) ∗ fly m 1 i (hq (parOf i)))

theorem start_step (i : Fin 16) (Φ : PUnit → sProp 𝕄) :
    (idle2 m (parOf i) : sProp 𝕄) ⊢ iprop((fly2 m i -∗ Φ ⟨⟩) -∗ run D0 (startP i) Φ) := by
  unfold idle2 idle fly2 startP
  iintro ⟨H₀, H₁⟩ Hk
  rw [run, wp_bind]
  iapply (copy_start m 0 i (hq (parOf i))) $$ [H₀]
  · iexact H₀
  iintro F₀
  iapply (copy_start m 1 i (hq (parOf i))) $$ [H₁]
  · iexact H₁
  iintro F₁
  iapply Hk
  isplitl [F₀] <;> iassumption

theorem stR_sub (j : Fin 4) (w : Fin 2) : ((Memref.whole cc0_scratch4).access (stR j w)).set ⊆ (stSlot j).view.set := by
  rw [show (stSlot j).view.set = ((Memref.whole cc0_scratch4).view.slice (Rect.unit (s := S4x512x16x128) ![j.val, 0, 0, 0] S1x512x16x128.size (st_inb j))).set from View.set_reshape _ _,
    show ((Memref.whole cc0_scratch4).access (stR j w)).set = ((Memref.whole cc0_scratch4).view.slice (stR j w)).set from rfl, View.set_slice, View.set_slice]
  refine Finset.map_subset_map.mpr fun y hy => ?_
  rw [Rect.mem_set_unit] at hy ⊢
  intro a
  have h := hy a
  match a with
  | 0 => exact h
  | 1 => exact h
  | 2 => have h1 : 8 * w.val ≤ (y 2).val ∧ (y 2).val < 8 * w.val + 8 := h
         refine ⟨Nat.zero_le _, ?_⟩
         show (y 2).val < 0 + 16
         have := w.isLt; omega
  | 3 => exact h
theorem kvR_sub (h w : Fin 2) : ((Memref.whole cc0_scratch0).access (kvR h w)).set ⊆ (kvHalf h).view.set := by
  rw [show (kvHalf h).view.set = ((Memref.whole cc0_scratch0).view.slice (Rect.unit (s := S1024x16x128) ![512 * h.val, 0, 0] S512x16x128.size (kv_inb h))).set from rfl,
    show ((Memref.whole cc0_scratch0).access (kvR h w)).set = ((Memref.whole cc0_scratch0).view.slice (kvR h w)).set from rfl, View.set_slice, View.set_slice]
  refine Finset.map_subset_map.mpr fun y hy => ?_
  rw [Rect.mem_set_unit] at hy ⊢
  intro a
  have h := hy a
  match a with
  | 0 => exact h
  | 1 => have h1 : 8 * w.val ≤ (y 1).val ∧ (y 1).val < 8 * w.val + 8 := h
         refine ⟨Nat.zero_le _, ?_⟩
         show (y 1).val < 0 + 16
         have := w.isLt; omega
  | 2 => exact h

/-- The loads before the stores, their values dropped. -/
theorem st_load (j : Fin 4) (n : ℕ) (p : Dev nD) (h : Fin 2) (r : LoadRect S512x16x128) (hl : (stSlot j).view.LoadsAt r) (Φ : (r.shape.Idx → Elt F .bf16) → sProp 𝕄) :
    (stPart m j n p h : sProp 𝕄) ⊢ iprop((∀ x, stPart m j n p h -∗ Φ x) -∗ run D0 (Prog.lift (.load (stSlot j) r hl)) Φ) := by
  unfold stPart part
  iintro ⟨%f, %hf, Hp⟩ Hk
  simp only [run, Prog.lift]
  iapply (wp_load 𝒱₀ (D0 : Thread nD τ) none Set.univ (m := stSlot j) (S := (stSlot j).view.set) (f := f) (View.setOn_subset_set _ _)) $$ [Hp]
  · iexact Hp
  iintro Hp
  rw [wp_ret]; imodintro
  iapply Hk
  iexists f; isplitr; · ipureintro; exact hf
  iexact Hp
theorem kv_load (h : Fin 2) (n : ℕ) (r : LoadRect S512x16x128) (hl : (kvHalf h).view.LoadsAt r) (Φ : (r.shape.Idx → Elt F .bf16) → sProp 𝕄) :
    (kvPart m h n : sProp 𝕄) ⊢ iprop((∀ x, kvPart m h n -∗ Φ x) -∗ run D0 (Prog.lift (.load (kvHalf h) r hl)) Φ) := by
  unfold kvPart part
  iintro ⟨%f, %hf, Hp⟩ Hk
  simp only [run, Prog.lift]
  iapply (wp_load 𝒱₀ (D0 : Thread nD τ) none Set.univ (m := kvHalf h) (S := (kvHalf h).view.set) (f := f) (View.setOn_subset_set _ _)) $$ [Hp]
  · iexact Hp
  iintro Hp
  rw [wp_ret]; imodintro
  iapply Hk
  iexists f; isplitr; · ipureintro; exact hf
  iexact Hp

/-- One half of a fragment staged. -/
theorem stage_step (i : Fin 14) (w : Fin 2) (l : List (Dev nD × Kd)) (hl : ∀ x ∈ l, 0 < klv x.2) (Φ : PUnit → sProp 𝕄) :
    iprop(facts m K ∗ fly m w (i.castLE (by decide)) (hq (parOf (i.castLE (by decide)))) ∗ duty D0 l
        ∗ stPart m (slotOf i) w.val (frDev (i.castLE (by decide))) (frHalf (i.castLE (by decide))))
      ⊢ iprop(((duty D0 l ∗ idle m w (parOf (i.castLE (by decide)))
          ∗ stPart m (slotOf i) (w.val + 1) (frDev (i.castLE (by decide))) (frHalf (i.castLE (by decide)))) -∗ Φ ⟨⟩) -∗ run D0 (stageP i w) Φ) := by
  generalize hi : (i.castLE (by decide) : Fin 16) = i'
  iintro ⟨#HF, Hf, Hd, Hs⟩ Hk
  unfold stageP
  rw [hi, run, wp_bind]
  iapply (copy_wait m K w i' (hq (parOf i')) l hl) $$ [Hf Hd]
  · isplitr; · iexact HF
    isplitl [Hf] <;> iassumption
  iintro ⟨Hd, Ht, Hh, Hz⟩
  rw [wp_bind]
  iapply (tmp_load w (parOf i') (View.loadsAt_vmem h_S1x512x8x128) (fragRd m w i')) $$ [Ht]
  · iexact Ht
  iintro Ht
  rw [wp_bind]
  iapply (st_load m (slotOf i) w.val (frDev i') (frHalf i') (halfR w).toLoadRect (View.loadsAt_vmem h_S512x8x128)) $$ [Hs]
  · iexact Hs
  iintro %x Hs
  unfold stPart
  iapply (part_store D0 (Memref.whole cc0_scratch4) (stSlot (slotOf i)).view.set (stP (slotOf i) w.val)
    (stP (slotOf i) (w.val + 1)) (stX m (frDev i') (frHalf i')) (stR (slotOf i) w) _ _ (stR_sub _ w) ?_) $$ [Hs]
  · intro y hy
    by_cases hlt : (y 2).val < 8 * w.val
    · refine .inr ⟨fun x hx => ?_, hy.1, hlt⟩
      have : 8 * w.val + 1 * (x 2).val = (y 2).val := congrArg (fun t : S4x512x16x128.Idx => (t 2).val) hx
      omega
    · refine .inl ⟨ix4 (n0 := 1) (n1 := 512) (n2 := 8) (n3 := 128) 0 ⟨(y 1).val, (y 1).isLt⟩ ⟨(y 2).val - 8 * w.val, by omega⟩ ⟨(y 3).val, (y 3).isLt⟩, ?_, ?_⟩
      · funext a; apply Fin.ext
        rw [Rect.emb_apply]
        match a with
        | 0 => show (slotOf i).val + 1 * 0 = (y 0).val; omega
        | 1 => show 0 + 1 * (y 1).val = (y 1).val; omega
        | 2 => show 8 * w.val + 1 * ((y 2).val - 8 * w.val) = (y 2).val; omega
        | 3 => show 0 + 1 * (y 3).val = (y 3).val; omega
      · rw [castV1_eval]
        exact fragRd_round m w i' _ (show 8 * w.val ≤ (y 2).val by omega) (show (y 2).val < 8 * w.val + 8 by omega) _ rfl rfl rfl
  · iexact Hs
  iintro Hs
  iapply Hk
  isplitl [Hd]; · iexact Hd
  isplitr [Hs]
  · unfold idle
    isplitl [Hh]; · iexact Hh
    isplitl [Ht]; · unfold anyIn; iexists _; iexact Ht
    iexact Hz
  iexact Hs

/-- One half of device 0's own heads. -/
theorem own_step (i : Fin 2) (w : Fin 2) (l : List (Dev nD × Kd)) (hl : ∀ x ∈ l, 0 < klv x.2) (Φ : PUnit → sProp 𝕄) :
    iprop(facts m K ∗ fly m w (i.natAdd 14) (hq (parOf (i.natAdd 14))) ∗ duty D0 l ∗ kvPart m i w.val)
      ⊢ iprop(((duty D0 l ∗ idle m w (parOf (i.natAdd 14)) ∗ kvPart m i (w.val + 1)) -∗ Φ ⟨⟩) -∗ run D0 (ownP i w) Φ) := by
  have h0 : frDev (i.natAdd 14) = D0 := by revert i; decide
  have h1 : frHalf (i.natAdd 14) = i := by revert i; decide
  generalize hi : (i.natAdd 14 : Fin 16) = i' at h0 h1
  iintro ⟨#HF, Hf, Hd, Hs⟩ Hk
  unfold ownP
  rw [hi, run, wp_bind]
  iapply (copy_wait m K w i' (hq (parOf i')) l hl) $$ [Hf Hd]
  · isplitr; · iexact HF
    isplitl [Hf] <;> iassumption
  iintro ⟨Hd, Ht, Hh, Hz⟩
  rw [wp_bind]
  iapply (tmp_load w (parOf i') (View.loadsAt_vmem h_S1x512x8x128) (fragRd m w i')) $$ [Ht]
  · iexact Ht
  iintro Ht
  rw [wp_bind]
  iapply (kv_load m i w.val (halfR w).toLoadRect (View.loadsAt_vmem h_S512x8x128)) $$ [Hs]
  · iexact Hs
  iintro %x Hs
  unfold kvPart
  iapply (part_store D0 (Memref.whole cc0_scratch0) (kvHalf i).view.set (kvP i w.val) (kvP i (w.val + 1)) (kvV m D0) (kvR i w) _ _ (kvR_sub _ w) ?_) $$ [Hs]
  · intro y hy
    by_cases hlt : (y 1).val < 8 * w.val
    · refine .inr ⟨fun x hx => ?_, hy.1, hlt⟩
      have : 8 * w.val + 1 * (x 1).val = (y 1).val := congrArg (fun t : S1024x16x128.Idx => (t 1).val) hx
      omega
    · have hy0 := hy.1
      refine .inl ⟨ix3 (n0 := 512) (n1 := 8) (n2 := 128) ⟨(y 0).val - 512 * i.val, by omega⟩ ⟨(y 1).val - 8 * w.val, by omega⟩ ⟨(y 2).val, (y 2).isLt⟩, ?_, ?_⟩
      · funext a; apply Fin.ext
        rw [Rect.emb_apply]
        match a with
        | 0 => show 512 * i.val + 1 * ((y 0).val - 512 * i.val) = (y 0).val; omega
        | 1 => show 8 * w.val + 1 * ((y 1).val - 8 * w.val) = (y 1).val; omega
        | 2 => show 0 + 1 * (y 2).val = (y 2).val; omega
      · rw [castV_eval]
        refine (fragRd_round m w i' (ix3 (n0 := 512) (n1 := 16) (n2 := 128) ⟨(y 0).val - 512 * i.val, by omega⟩ ⟨(y 1).val, (y 1).isLt⟩ ⟨(y 2).val, (y 2).isLt⟩)
          (show 8 * w.val ≤ (y 1).val by omega) (show (y 1).val < 8 * w.val + 8 by omega) _ rfl rfl rfl).trans ?_
        rw [h0, h1]
        refine congrArg (kvV m D0) ?_
        funext a; apply Fin.ext
        match a with
        | 0 => show 512 * i.val + ((y 0).val - 512 * i.val) = (y 0).val; omega
        | 1 => rfl
        | 2 => rfl
  · iexact Hs
  iintro Hs
  iapply Hk
  isplitl [Hd]; · iexact Hd
  isplitr [Hs]
  · unfold idle
    isplitl [Hh]; · iexact Hh
    isplitl [Ht]; · unfold anyIn; iexists _; iexact Ht
    iexact Hz
  iexact Hs

end Cert.KernelIdeal.Att
-- ==== Proof.Loop.lean ====
/- The fragments one after another, and the whole of device 0's distribution. -/
module

public import proofs.«01_k».proof.Proof.Frag

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- A fragment among the sixteen. -/
abbrev up (i : Fin 14) : Fin 16 := i.castLE (by decide)
abbrev parN (n : ℕ) : Fin 2 := ⟨n % 2, Nat.mod_lt _ (by decide)⟩
/-- What fragment `i` pays at its arrival. -/
abbrev tgt (i : Fin 14) : Dev nD × Kd := (dstDev i, landK (dstLand i))

theorem land_credit : ∀ l : Land, (landM l).view.amount (.dma (landS l)) = amt (landK l)
  | .inl h => credit_kv h | .inr s => credit_rb s
theorem land_amt : ∀ l : Land, NF = amt (landK l) | .inl h => rfl | .inr s => rfl
theorem land_sem : ∀ l : Land, SemLoc.dma (landS l) = csem (landK l) | .inl h => rfl | .inr s => rfl
theorem land_buf (d : Dev nD) : ∀ l : Land, (landBuf (d, landK l) : sProp 𝕄) = anyIn d (landM l) | .inl h => rfl | .inr s => rfl
theorem land_pay (c d : Dev nD) (p : Dev nD) (h : Fin 2) : ∀ (l : Land)
    (_ : match l with | .inl h' => p = d ∧ h = h' | .inr s => p = rlyDev d s ∧ h = rlyHalf s),
    (owns (d : Thread nD τ) (landM l) fullShare (fragVal m p h) : sProp 𝕄) ⊢ pay m d (landK l) c
  | .inl h', hh => by obtain ⟨rfl, rfl⟩ := hh; exact .rfl
  | .inr s, hh => by obtain ⟨rfl, rfl⟩ := hh; exact .rfl
theorem frag_land : ∀ i : Fin 14, match dstLand i with
    | .inl h' => frDev (up i) = dstDev i ∧ frHalf (up i) = h' | .inr s => frDev (up i) = rlyDev (dstDev i) s ∧ frHalf (up i) = rlyHalf s := by
  intro i; fin_cases i <;> exact ⟨rfl, rfl⟩
theorem frag_sender : ∀ i : Fin 14, D0 ∈ payers D0 (kKvs i) := by decide +kernel
theorem frag_payer : ∀ i : Fin 14, D0 ∈ payers (dstDev i) (landK (dstLand i)) := by decide +kernel
theorem frag_alone : ∀ i : Fin 14, payers D0 (kKvs i) = {D0} := by decide +kernel

/-- A fragment staged and sent. -/
def coreP (i : Fin 14) : P F PUnit := do stageP i 0; stageP i 1; sendP i

theorem core_step (i : Fin 14) (l : List (Dev nD × Kd)) (hl : ∀ x ∈ tgt i :: l, 0 < klv x.2) (Φ : PUnit → sProp 𝕄) :
    iprop(facts m K ∗ fly2 m (up i) ∗ duty D0 (tgt i :: l) ∗ anyIn D0 (stSlot (slotOf i)) ∗ landBuf (tgt i) ∗ dutyTok ER (kcell (D0, kKvs i)) 0 D0)
      ⊢ iprop(((idle2 m (parOf (up i)) ∗ credit D0 (kKvs i) ∗ duty D0 l) -∗ Φ ⟨⟩) -∗ run D0 (coreP i) Φ) := by
  unfold fly2
  iintro ⟨#HF, ⟨F₀, F₁⟩, Hd, Hs, Hl, Ht⟩ Hk
  unfold coreP
  rw [run, wp_bind]
  iapply (stage_step m K i 0 (tgt i :: l) hl) $$ [F₀ Hd Hs]
  · isplitr; · iexact HF
    isplitl [F₀]; · iexact F₀
    isplitl [Hd]; · iexact Hd
    iapply (st_begin m (slotOf i) (frDev (up i)) (frHalf (up i))); iexact Hs
  iintro ⟨Hd, I₀, Hs⟩
  rw [wp_bind]
  iapply (stage_step m K i 1 (tgt i :: l) hl) $$ [F₁ Hd Hs]
  · isplitr; · iexact HF
    isplitl [F₁]; · iexact F₁
    isplitl [Hd]; · iexact Hd
    iexact Hs
  iintro ⟨Hd, I₁, Hs⟩
  unfold sendP
  iapply (send_step m K D0 (dstDev i) (dstDev i) rfl (kKvs i) (landK (dstLand i)) (frag_sender i) (frag_payer i) rfl (land_sem _) l
    (land_credit _) (land_amt _) fullShare (fragVal m (frDev (up i)) (frHalf (up i)))
    (by unfold pay anyIn; iintro H; iexists _; iexact H) (land_pay m D0 (dstDev i) _ _ _ (frag_land i))) $$ [Hd Hs Hl Ht]
  · isplitr; · iexact HF
    isplitl [Hs]; · iapply (st_end m (slotOf i) (frDev (up i)) (frHalf (up i))); iexact Hs
    isplitl [Hl]; · rw [← land_buf]; iexact Hl
    isplitl [Hd]; · iexact Hd
    iexact Ht
  iintro ⟨Hc, Hd⟩
  iapply Hk
  isplitl [I₀ I₁]
  · unfold idle2; isplitl [I₀]; · iexact I₀
    iexact I₁
  isplitl [Hc] <;> iassumption

/-- A fragment's departure awaited: its staging slot is free again. -/
theorem sent_step (i : Fin 14) (l : List (Dev nD × Kd)) (hl : ∀ x ∈ l, 0 < klv x.2) (Φ : PUnit → sProp 𝕄) :
    iprop(facts m K ∗ credit D0 (kKvs i) ∗ posn D0 (kKvs i) ∗ duty D0 l)
      ⊢ iprop(((duty D0 l ∗ zero D0 (kKvs i) ∗ anyIn D0 (stSlot (slotOf i))) -∗ Φ ⟨⟩) -∗ run D0 (sentP i) Φ) :=
  wait_step m K D0 (kKvs i) D0 (frag_alone i) rfl l hl (credit_st _) Φ

/-- Fragment `j`'s resources when the first `i` have been sent. -/
def res (i : ℕ) (j : Fin 14) : sProp 𝕄 :=
  if i ≤ j.val then
    iprop(posn D0 (kKvs j) ∗ dutyTok ER (kcell (D0, kKvs j)) 0 D0 ∗ landBuf (tgt j) ∗ (if j.val < 4 then anyIn D0 (stSlot (slotOf j)) else iprop(emp)))
  else if i ≤ j.val + 4 then iprop(credit D0 (kKvs j) ∗ posn D0 (kKvs j))
  else zero D0 (kKvs j)
def distSt (i : ℕ) (h : i < 15) : sProp 𝕄 :=
  iprop(fly2 m ⟨i, by omega⟩ ∗ idle2 m (parN (i + 1)) ∗ duty D0 ((tgtPay D0).drop i) ∗ bigSep Finset.univ (res (F := F) i))

theorem drop_tgt : ∀ i : Fin 14, (tgtPay D0).drop i.val = tgt i :: (tgtPay D0).drop (i.val + 1) := by decide +kernel
theorem tgt_level (c : Dev nD) : ∀ x ∈ tgtPay c, 0 < klv x.2 := by revert c; decide +kernel
theorem drop_level (i : ℕ) : ∀ x ∈ (tgtPay D0).drop i, 0 < klv x.2 := fun x hx => tgt_level D0 x (List.mem_of_mem_drop hx)

theorem res_same (i : ℕ) (j : Fin 14) (h₁ : j.val ≠ i) (h₂ : j.val + 4 ≠ i) : (res i j : sProp 𝕄) = res (i + 1) j := by
  unfold res
  by_cases a : i ≤ j.val
  · rw [if_pos a, if_pos (show i + 1 ≤ j.val by omega)]
  · by_cases b : i ≤ j.val + 4
    · rw [if_neg a, if_neg (show ¬ i + 1 ≤ j.val by omega), if_pos b, if_pos (show i + 1 ≤ j.val + 4 by omega)]
    · rw [if_neg a, if_neg (show ¬ i + 1 ≤ j.val by omega), if_neg b, if_neg (show ¬ i + 1 ≤ j.val + 4 by omega)]
theorem res_now (i : Fin 14) : (res i.val i : sProp 𝕄)
    = iprop(posn D0 (kKvs i) ∗ dutyTok ER (kcell (D0, kKvs i)) 0 D0 ∗ landBuf (tgt i) ∗ (if i.val < 4 then anyIn D0 (stSlot (slotOf i)) else iprop(emp))) := by
  unfold res; rw [if_pos (le_refl _)]
theorem res_gone (i : Fin 14) : (res (i.val + 1) i : sProp 𝕄) = iprop(credit D0 (kKvs i) ∗ posn D0 (kKvs i)) := by
  unfold res; rw [if_neg (by omega), if_pos (by omega)]

/-- One fragment's turn. -/
theorem frag_step (i : Fin 14) (Φ : PUnit → sProp 𝕄) :
    iprop(facts m K ∗ distSt m i.val (by omega)) ⊢ iprop((distSt m (i.val + 1) (by omega) -∗ Φ ⟨⟩) -∗ run D0 (fragP i) Φ) := by
  have hb : parOf (⟨i.val + 1, by omega⟩ : Fin 16) = parN (i.val + 1) := rfl
  have hc : parOf (up i) = parN (i.val + 1 + 1) := by apply Fin.ext; show i.val % 2 = (i.val + 1 + 1) % 2; omega
  unfold distSt
  rw [drop_tgt i]
  have hlv := drop_level (i.val)
  rw [drop_tgt i] at hlv
  unfold fragP
  by_cases h4 : 4 ≤ i.val
  · obtain ⟨j, hji⟩ : ∃ j : Fin 14, j.val + 4 = i.val := ⟨⟨i.val - 4, by omega⟩, by show i.val - 4 + 4 = i.val; omega⟩
    rw [dif_pos h4, show (⟨i.val - 4, by omega⟩ : Fin 14) = j from Fin.ext (by show i.val - 4 = j.val; omega)]
    have hsl : slotOf j = slotOf i := by apply Fin.ext; show j.val % 4 = i.val % 4; omega
    have hne : j ≠ i := fun h => by have := congrArg Fin.val h; omega
    have hmem : j ∈ Finset.univ.erase i := Finset.mem_erase.mpr ⟨hne, Finset.mem_univ _⟩
    have e₁ : ∀ n : ℕ, (bigSep Finset.univ (res (F := F) n) : sProp 𝕄) = iprop(res n i ∗ res n j ∗ bigSep ((Finset.univ.erase i).erase j) (res n)) := fun n => by
      rw [BI.bigSep_erase (Finset.mem_univ i), BI.bigSep_erase hmem]; rfl
    have e₂ : (bigSep ((Finset.univ.erase i).erase j) (res (F := F) i.val) : sProp 𝕄) = bigSep ((Finset.univ.erase i).erase j) (res (i.val + 1)) :=
      bigSep_congr fun k hk => res_same i.val k (fun h => by
          have := Finset.ne_of_mem_erase (Finset.mem_of_mem_erase hk); exact this (Fin.ext h))
        (fun h => by have := Finset.ne_of_mem_erase hk; exact this (Fin.ext (by omega)))
    have e₃ : (res i.val j : sProp 𝕄) = iprop(credit D0 (kKvs j) ∗ posn D0 (kKvs j)) := by
      unfold res; rw [if_neg (by omega), if_pos (by omega)]
    have e₄ : (res (i.val + 1) j : sProp 𝕄) = zero D0 (kKvs j) := by
      unfold res; rw [if_neg (by omega), if_neg (by omega)]
    rw [e₁, e₁, e₂, e₃, e₄, res_now, res_gone, if_neg (by omega)]
    iintro ⟨#HF, Hf, Hi, Hd, ⟨Hp, Ht, Hl, -⟩, ⟨Hc, Hq⟩, Hr⟩ Hk
    rw [run, wp_bind]
    iapply (start_step m _) $$ [Hi]
    · iexact Hi
    iintro Hf'
    rw [wp_bind]
    iapply (sent_step m K j _ hlv) $$ [Hc Hq Hd]
    · isplitr; · iexact HF
      isplitl [Hc]; · iexact Hc
      isplitl [Hq] <;> iassumption
    iintro ⟨Hd, Hz, Hs⟩
    iapply (core_step m K i _ hlv) $$ [Hf Hd Hs Hl Ht]
    · isplitr; · iexact HF
      isplitl [Hf]; · iexact Hf
      isplitl [Hd]; · iexact Hd
      isplitl [Hs]; · rw [← hsl]; iexact Hs
      isplitl [Hl] <;> iassumption
    iintro ⟨Hi, Hc, Hd⟩
    iapply Hk
    isplitl [Hf']; · iexact Hf'
    isplitl [Hi]; · rw [← hc]; iexact Hi
    isplitl [Hd]; · iexact Hd
    isplitl [Hc Hp]; · isplitl [Hc] <;> iassumption
    isplitl [Hz] <;> iassumption
  · rw [dif_neg h4]
    have e₁ : ∀ n : ℕ, (bigSep Finset.univ (res (F := F) n) : sProp 𝕄) = iprop(res n i ∗ bigSep (Finset.univ.erase i) (res n)) := fun n =>
      BI.bigSep_erase (Finset.mem_univ i)
    have e₂ : (bigSep (Finset.univ.erase i) (res (F := F) i.val) : sProp 𝕄) = bigSep (Finset.univ.erase i) (res (i.val + 1)) :=
      bigSep_congr fun k hk => res_same i.val k (fun h => Finset.ne_of_mem_erase hk (Fin.ext h)) (fun h => by omega)
    rw [e₁, e₁, e₂, res_now, res_gone, if_pos (by omega)]
    iintro ⟨#HF, Hf, Hi, Hd, ⟨Hp, Ht, Hl, Hs⟩, Hr⟩ Hk
    rw [run, wp_bind]
    iapply (start_step m _) $$ [Hi]
    · iexact Hi
    iintro Hf'
    iapply (core_step m K i _ hlv) $$ [Hf Hd Hs Hl Ht]
    · isplitr; · iexact HF
      isplitl [Hf]; · iexact Hf
      isplitl [Hd]; · iexact Hd
      isplitl [Hs]; · iexact Hs
      isplitl [Hl] <;> iassumption
    iintro ⟨Hi, Hc, Hd⟩
    iapply Hk
    isplitl [Hf']; · iexact Hf'
    isplitl [Hi]; · rw [← hc]; iexact Hi
    isplitl [Hd]; · iexact Hd
    isplitl [Hc Hp]; · isplitl [Hc] <;> iassumption
    iexact Hr

/-- The last `n` fragments' turns, then the rest. -/
def loopP (rest : P F PUnit) : (n : ℕ) → n ≤ 14 → P F PUnit
  | 0, _ => rest
  | n + 1, h => do fragP ⟨14 - (n + 1), by omega⟩; loopP rest n (by omega)

theorem loop_step (rest : P F PUnit) (Φ : PUnit → sProp 𝕄) : ∀ (n : ℕ) (h : n ≤ 14) (k : ℕ) (hk : k < 15), k + n = 14 →
    iprop(facts m K ∗ distSt m k hk) ⊢ iprop((distSt m 14 (by omega) -∗ run D0 rest Φ) -∗ run D0 (loopP rest n h) Φ)
  | 0, h, k, hk, e => by
    obtain rfl : k = 14 := by omega
    iintro ⟨-, H⟩ Hk
    unfold loopP
    iapply Hk; iexact H
  | n + 1, h, k, hk, e => by
    obtain rfl : k = 14 - (n + 1) := by omega
    iintro ⟨#HF, H⟩ Hk
    unfold loopP
    simp only [run]
    rw [wp_bind]
    iapply (frag_step m K _) $$ [H]
    · isplitr; · iexact HF
      iexact H
    iintro H
    iapply (loop_step rest Φ n _ (14 - (n + 1) + 1) (by omega) (by omega)) $$ [H]
    · isplitr; · iexact HF
      iexact H
    iexact Hk

end Cert.KernelIdeal.Att
-- ==== Proof.Kv.lean ====
/- The keys and values reach every device: device 0's distribution as a whole, the two relays, the arrivals. -/
module

public import proofs.«01_k».proof.Proof.Loop

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- What device 0's distribution starts from, and what it leaves. -/
def distIn : sProp 𝕄 :=
  iprop((bigSep Finset.univ fun i : Fin 14 => posn D0 (kKvs i)) ∗ (bigSep Finset.univ fun i : Fin 14 => dutyTok ER (kcell (D0, kKvs i)) 0 D0)
    ∗ (bigSep Finset.univ fun i : Fin 14 => landBuf (tgt i)) ∗ idle2 m 0 ∗ idle2 m 1 ∗ (bigSep Finset.univ fun j : Fin 4 => anyIn D0 (stSlot j))
    ∗ anyIn D0 (kvHalf 0) ∗ anyIn D0 (kvHalf 1))
def distOut : sProp 𝕄 :=
  iprop((bigSep Finset.univ fun i : Fin 14 => zero D0 (kKvs i)) ∗ idle2 m 0 ∗ idle2 m 1 ∗ (bigSep Finset.univ fun j : Fin 4 => anyIn D0 (stSlot j))
    ∗ owns (D0 : Thread nD τ) (kvHalf 0) fullShare (fragVal m D0 0) ∗ owns (D0 : Thread nD τ) (kvHalf 1) fullShare (fragVal m D0 1))

theorem cons2 {I : Type} (a b : I) (l : List I) (Φ : I → sProp 𝕄) : bigSepL (a :: b :: l) Φ = iprop(Φ a ∗ bigSepL (b :: l) Φ) := bigSepL_cons' _ _ _
theorem slots_begin : (bigSep Finset.univ fun j : Fin 4 => (anyIn D0 (stSlot j) : sProp 𝕄))
    ⊢ bigSep Finset.univ fun i : Fin 14 => if i.val < 4 then anyIn D0 (stSlot (slotOf i)) else iprop(emp) := by
  rw [bigSep_eq_bigSepL_of_eq [0, 1, 2, 3] (by decide) (by decide), bigSep_eq_bigSepL_of_eq [0, 1, 2, 3, 4, 5, 6, 7, 8, 9, 10, 11, 12, 13] (by decide) (by decide)]
  simp only [cons2, bigSepL_singleton]
  iintro ⟨H₀, H₁, H₂, H₃⟩
  isplitl [H₀]; · rw [if_pos (show (0 : Fin 14).val < 4 by decide), show slotOf 0 = 0 from rfl]; iexact H₀
  isplitl [H₁]; · rw [if_pos (show (1 : Fin 14).val < 4 by decide), show slotOf 1 = 1 from rfl]; iexact H₁
  isplitl [H₂]; · rw [if_pos (show (2 : Fin 14).val < 4 by decide), show slotOf 2 = 2 from rfl]; iexact H₂
  isplitl [H₃]; · rw [if_pos (show (3 : Fin 14).val < 4 by decide), show slotOf 3 = 3 from rfl]; iexact H₃
  simp only [show ∀ P Q : sProp 𝕄, (if (4 : Fin 14).val < 4 then P else Q) = Q from fun _ _ => rfl, show ∀ P Q : sProp 𝕄, (if (5 : Fin 14).val < 4 then P else Q) = Q from fun _ _ => rfl,
    show ∀ P Q : sProp 𝕄, (if (6 : Fin 14).val < 4 then P else Q) = Q from fun _ _ => rfl, show ∀ P Q : sProp 𝕄, (if (7 : Fin 14).val < 4 then P else Q) = Q from fun _ _ => rfl,
    show ∀ P Q : sProp 𝕄, (if (8 : Fin 14).val < 4 then P else Q) = Q from fun _ _ => rfl, show ∀ P Q : sProp 𝕄, (if (9 : Fin 14).val < 4 then P else Q) = Q from fun _ _ => rfl,
    show ∀ P Q : sProp 𝕄, (if (10 : Fin 14).val < 4 then P else Q) = Q from fun _ _ => rfl, show ∀ P Q : sProp 𝕄, (if (11 : Fin 14).val < 4 then P else Q) = Q from fun _ _ => rfl,
    show ∀ P Q : sProp 𝕄, (if (12 : Fin 14).val < 4 then P else Q) = Q from fun _ _ => rfl, show ∀ P Q : sProp 𝕄, (if (13 : Fin 14).val < 4 then P else Q) = Q from fun _ _ => rfl]
  repeat (isplitl []; · iempintro)
  iempintro

theorem res_begin (Φ : Fin 14 → sProp 𝕄) (h : Φ = fun i => if i.val < 4 then anyIn D0 (stSlot (slotOf i)) else iprop(emp)) :
    iprop((bigSep Finset.univ fun i : Fin 14 => posn D0 (kKvs i)) ∗ (bigSep Finset.univ fun i : Fin 14 => dutyTok ER (kcell (D0, kKvs i)) 0 D0)
      ∗ (bigSep Finset.univ fun i : Fin 14 => landBuf (tgt i)) ∗ bigSep Finset.univ Φ) ⊢ bigSep Finset.univ (res (F := F) 0) := by
  rw [← bigSep_sep', ← bigSep_sep', ← bigSep_sep']
  refine Entails.of_eq (bigSep_congr fun i _ => ?_)
  unfold res
  rw [if_pos (Nat.zero_le _), h]

/-- The four last fragments apart from the others. -/
theorem last4 (Φ : Fin 14 → sProp 𝕄) : bigSep Finset.univ Φ
    = iprop(Φ 10 ∗ Φ 11 ∗ Φ 12 ∗ Φ 13 ∗ bigSep ((((Finset.univ.erase 10).erase 11).erase 12).erase 13) Φ) := by
  rw [BI.bigSep_erase (Finset.mem_univ (10 : Fin 14)), BI.bigSep_erase (show (11 : Fin 14) ∈ Finset.univ.erase 10 by decide),
    BI.bigSep_erase (show (12 : Fin 14) ∈ (Finset.univ.erase 10).erase 11 by decide),
    BI.bigSep_erase (show (13 : Fin 14) ∈ ((Finset.univ.erase 10).erase 11).erase 12 by decide)]
  rfl
theorem res_last (j : Fin 14) (h : 10 ≤ j.val) : (res 14 j : sProp 𝕄) = iprop(credit D0 (kKvs j) ∗ posn D0 (kKvs j)) := by
  unfold res; rw [if_neg (by omega), if_pos (by omega)]
theorem res_done (j : Fin 14) (h : j.val < 10) : (res 14 j : sProp 𝕄) = zero D0 (kKvs j) := by
  unfold res; rw [if_neg (by omega), if_neg (by omega)]

theorem ex_level (c : Dev nD) : ∀ x ∈ exPay c, 0 < klv x.2 := by revert c; decide +kernel
theorem drop_all : (tgtPay D0).drop 14 = exPay D0 := by decide +kernel

theorem dist_step (Φ : PUnit → sProp 𝕄) :
    iprop(facts m K ∗ duty D0 (tgtPay D0) ∗ distIn m) ⊢ iprop(((duty D0 (exPay D0) ∗ distOut m) -∗ Φ ⟨⟩) -∗ run D0 distP Φ) := by
  unfold distIn distOut
  iintro ⟨#HF, Hd, Hp, Ht, Hl, I₀, I₁, Hs, K₀, K₁⟩ Hk
  rw [show (distP : P F PUnit) = (do startP 0; loopP (do startP 15; ownP 0 0; ownP 0 1; ownP 1 0; ownP 1 1; sentP 10; sentP 11; sentP 12; sentP 13) 14 (le_refl _)) from rfl]
  simp only [run]
  rw [wp_bind]
  iapply (start_step m 0) $$ [I₀]
  · iexact I₀
  iintro F₀
  iapply (loop_step m K _ Φ 14 (le_refl _) 0 (by omega) rfl) $$ [Hd Hp Ht Hl I₁ Hs F₀]
  · isplitr; · iexact HF
    unfold distSt
    isplitl [F₀]; · iexact F₀
    isplitl [I₁]; · iexact I₁
    isplitl [Hd]; · iexact Hd
    iapply (res_begin _ rfl)
    isplitl [Hp]; · iexact Hp
    isplitl [Ht]; · iexact Ht
    isplitl [Hl]; · iexact Hl
    iapply slots_begin; iexact Hs
  unfold distSt
  rw [drop_all, last4 (res 14), res_last 10 (by decide), res_last 11 (by decide), res_last 12 (by decide), res_last 13 (by decide),
    bigSep_congr (s := ((((Finset.univ : Finset (Fin 14)).erase 10).erase 11).erase 12).erase 13) (fun j hj => res_done (F := F) j (by revert j; decide))]
  unfold fly2
  iintro ⟨⟨F₀, F₁⟩, I₁, Hd, ⟨C₁₀, P₁₀⟩, ⟨C₁₁, P₁₁⟩, ⟨C₁₂, P₁₂⟩, ⟨C₁₃, P₁₃⟩, HZ⟩
  simp only [run]
  rw [wp_bind]
  iapply (start_step m 15) $$ [I₁]
  · iexact I₁
  unfold fly2
  iintro ⟨F₂, F₃⟩
  rw [wp_bind]
  iapply (own_step m K 0 0 (exPay D0) (ex_level D0)) $$ [F₀ Hd K₀]
  · isplitr; · iexact HF
    isplitl [F₀]; · iexact F₀
    isplitl [Hd]; · iexact Hd
    iapply (kv_begin m 0); iexact K₀
  iintro ⟨Hd, I₀, K₀⟩
  rw [wp_bind]
  iapply (own_step m K 0 1 (exPay D0) (ex_level D0)) $$ [F₁ Hd K₀]
  · isplitr; · iexact HF
    isplitl [F₁]; · iexact F₁
    isplitl [Hd]; · iexact Hd
    iexact K₀
  iintro ⟨Hd, J₀, K₀⟩
  rw [wp_bind]
  iapply (own_step m K 1 0 (exPay D0) (ex_level D0)) $$ [F₂ Hd K₁]
  · isplitr; · iexact HF
    isplitl [F₂]; · iexact F₂
    isplitl [Hd]; · iexact Hd
    iapply (kv_begin m 1); iexact K₁
  iintro ⟨Hd, I₁, K₁⟩
  rw [wp_bind]
  iapply (own_step m K 1 1 (exPay D0) (ex_level D0)) $$ [F₃ Hd K₁]
  · isplitr; · iexact HF
    isplitl [F₃]; · iexact F₃
    isplitl [Hd]; · iexact Hd
    iexact K₁
  iintro ⟨Hd, J₁, K₁⟩
  rw [wp_bind]
  iapply (sent_step m K 10 (exPay D0) (ex_level D0)) $$ [C₁₀ P₁₀ Hd]
  · isplitr; · iexact HF
    isplitl [C₁₀]; · iexact C₁₀
    isplitl [P₁₀] <;> iassumption
  iintro ⟨Hd, Z₁₀, S₂⟩
  rw [wp_bind]
  iapply (sent_step m K 11 (exPay D0) (ex_level D0)) $$ [C₁₁ P₁₁ Hd]
  · isplitr; · iexact HF
    isplitl [C₁₁]; · iexact C₁₁
    isplitl [P₁₁] <;> iassumption
  iintro ⟨Hd, Z₁₁, S₃⟩
  rw [wp_bind]
  iapply (sent_step m K 12 (exPay D0) (ex_level D0)) $$ [C₁₂ P₁₂ Hd]
  · isplitr; · iexact HF
    isplitl [C₁₂]; · iexact C₁₂
    isplitl [P₁₂] <;> iassumption
  iintro ⟨Hd, Z₁₂, S₀⟩
  iapply (sent_step m K 13 (exPay D0) (ex_level D0)) $$ [C₁₃ P₁₃ Hd]
  · isplitr; · iexact HF
    isplitl [C₁₃]; · iexact C₁₃
    isplitl [P₁₃] <;> iassumption
  iintro ⟨Hd, Z₁₃, S₁⟩
  iapply Hk
  isplitl [Hd]; · iexact Hd
  isplitl [Z₁₀ Z₁₁ Z₁₂ Z₁₃ HZ]
  · rw [last4]
    isplitl [Z₁₀]; · iexact Z₁₀
    isplitl [Z₁₁]; · iexact Z₁₁
    isplitl [Z₁₂]; · iexact Z₁₂
    isplitl [Z₁₃]; · iexact Z₁₃
    iexact HZ
  isplitl [I₀ J₀]; · unfold idle2; isplitl [I₀]; · iexact I₀
                     iexact J₀
  isplitl [I₁ J₁]; · unfold idle2; isplitl [I₁]; · iexact I₁
                     iexact J₁
  isplitl [S₀ S₁ S₂ S₃]
  · rw [bigSep_eq_bigSepL_of_eq [0, 1, 2, 3] (by decide) (by decide)]
    simp only [cons2, bigSepL_singleton]
    isplitl [S₀]; · iexact S₀
    isplitl [S₁]; · iexact S₁
    isplitl [S₂]; · iexact S₂
    iexact S₃
  isplitl [K₀]; · iapply (kv_end m 0); iexact K₀
  iapply (kv_end m 1); iexact K₁

/-! ## The relays and the arrivals -/

theorem relayWait_step (c : Dev nD) (s : Fin 3) (d : Dev nD) (hd : payers c (kRlr s) = {d}) (l : List (Dev nD × Kd)) (hl : ∀ x ∈ l, 2 < klv x.2) (Φ : PUnit → sProp 𝕄) :
    iprop(facts m K ∗ credit c (kRlr s) ∗ posn c (kRlr s) ∗ duty c l)
      ⊢ iprop(((duty c l ∗ zero c (kRlr s) ∗ owns (c : Thread nD τ) (rbSlot s) fullShare (fragVal m (rlyDev c s) (rlyHalf s))) -∗ Φ ⟨⟩) -∗ run c (relayWait s) Φ) :=
  wait_step m K c (kRlr s) d hd rfl l hl (credit_rb s) Φ
theorem relaySend_step (c n : Dev nD) (s : Fin 3) (h : Fin 2) (hms : c ∈ payers c (kRls s)) (hmr : c ∈ payers n (kKvr h)) (hn : rlyDev c s = n) (hh : rlyHalf s = h)
    (l : List (Dev nD × Kd)) (Φ : PUnit → sProp 𝕄) :
    iprop(facts m K ∗ owns (c : Thread nD τ) (rbSlot s) fullShare (fragVal m (rlyDev c s) (rlyHalf s)) ∗ landBuf (n, kKvr h) ∗ duty c ((n, kKvr h) :: l)
        ∗ dutyTok ER (kcell (c, kRls s)) 0 c)
      ⊢ iprop(((credit c (kRls s) ∗ duty c l) -∗ Φ ⟨⟩) -∗ run c (relaySend n s h) Φ) :=
  send_step m K c n n rfl (kRls s) (kKvr h) hms hmr rfl rfl l (credit_kv h) rfl fullShare (fragVal m (rlyDev c s) (rlyHalf s))
    (by unfold pay anyIn; iintro H; iexists _; iexact H) (by rw [hn, hh]; exact .rfl) Φ
theorem relaySent_step (c : Dev nD) (s : Fin 3) (h : Fin 2) (hd : payers c (kRls s) = {c}) (l : List (Dev nD × Kd)) (hl : ∀ x ∈ l, 0 < klv x.2) (Φ : PUnit → sProp 𝕄) :
    iprop(facts m K ∗ credit c (kRls s) ∗ posn c (kRls s) ∗ duty c l)
      ⊢ iprop(((duty c l ∗ zero c (kRls s) ∗ anyIn c (rbSlot s)) -∗ Φ ⟨⟩) -∗ run c (relaySent s h) Φ) :=
  wait_step m K c (kRls s) c hd rfl l hl (credit_rb s) Φ
theorem kvWait_step (c : Dev nD) (h : Fin 2) (d : Dev nD) (hd : payers c (kKvr h) = {d}) (l : List (Dev nD × Kd)) (hl : ∀ x ∈ l, 3 < klv x.2) (Φ : PUnit → sProp 𝕄) :
    iprop(facts m K ∗ credit c (kKvr h) ∗ posn c (kKvr h) ∗ duty c l)
      ⊢ iprop(((duty c l ∗ zero c (kKvr h) ∗ owns (c : Thread nD τ) (kvHalf h) fullShare (fragVal m c h)) -∗ Φ ⟨⟩) -∗ run c (kvWait h) Φ) :=
  wait_step m K c (kKvr h) d hd rfl l hl (credit_kv h) Φ

end Cert.KernelIdeal.Att
-- ==== Proof.Pieces.lean ====
/- Buffers held piece by piece: the halves of the key/value buffer, the slots of the others, the arrays' shares. -/
module

public import proofs.«01_k».proof.Proof.Frag
public import Idealize.ShloMosaic.Lib.Ring

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

open Idealize.ShloMosaic.Ring

/-- Any contents, as the elements under the view. -/
theorem any_set (c : Dev nD) {sp : Space} {s : Shape} {e : EltTy} (v : Memref sig .tc sp s e) (S : Finset (Idx (v.view.loc (c : Thread nD τ)))) (hS : v.view.set = S) :
    (anyIn c v : sProp 𝕄) ⊣⊢ iprop(∃ f, v.view.loc (c : Thread nD τ) ↦[S]{fullShare} f) := by
  subst hS
  unfold anyIn owns
  constructor
  · iintro ⟨%X, %f, %hf, H⟩; iexists f; iexact H
  · iintro ⟨%f, H⟩; iexists (v.view.read (Elt F) f); iexists f
    isplitr; · ipureintro; rfl
    iexact H
theorem any_whole (c : Dev nD) (b : Ref sig .tc) :
    (anyIn c (Memref.whole b) : sProp 𝕄) ⊣⊢ iprop(∃ f, (c : Thread nD τ).loc b ↦{fullShare} f) :=
  any_set c (Memref.whole b) Finset.univ (View.set_whole _)

section Blocks
variable {B : Type} [Fintype B] [DecidableEq B]

/-- A buffer held whole is its pieces, whatever each holds. -/
theorem any_split (c : Dev nD) (b : Ref sig .tc) (I : B → Finset (Idx ((c : Thread nD τ).loc b)))
    (hd : ∀ t t', t ≠ t' → Disjoint (I t) (I t')) (hc : Finset.univ.biUnion I = Finset.univ) :
    (anyIn c (Memref.whole b) : sProp 𝕄) ⊢ bigSep Finset.univ fun t => iprop(∃ f, (c : Thread nD τ).loc b ↦[I t]{fullShare} f) := by
  have one (f : Buf (Elt F) ((c : Thread nD τ).loc b)) (t : B) : ((c : Thread nD τ).loc b ↦[I t]{fullShare} f : sProp 𝕄) ⊢ iprop(∃ f, (c : Thread nD τ).loc b ↦[I t]{fullShare} f) := by
    iintro H; iexists f; iexact H
  have h (f : Buf (Elt F) ((c : Thread nD τ).loc b)) : ((c : Thread nD τ).loc b ↦{fullShare} f : sProp 𝕄) ⊢ bigSep Finset.univ fun t => iprop(∃ f, (c : Thread nD τ).loc b ↦[I t]{fullShare} f) := by
    rw [pointsTo_blocks I hd hc f]; exact bigSep_mono fun t _ => one f t
  refine (any_whole c b).1.trans ?_
  iintro ⟨%f, H⟩
  iapply (h f); iexact H
theorem any_join (c : Dev nD) (b : Ref sig .tc) (I : B → Finset (Idx ((c : Thread nD τ).loc b)))
    (hd : ∀ t t', t ≠ t' → Disjoint (I t) (I t')) (hc : Finset.univ.biUnion I = Finset.univ) :
    (bigSep Finset.univ fun t => iprop(∃ f, (c : Thread nD τ).loc b ↦[I t]{fullShare} f)) ⊢ (anyIn c (Memref.whole b) : sProp 𝕄) :=
  (pointsTo_blocks_join_exists I hd hc (fun _ => Classical.arbitrary _)).trans (any_whole c b).2
end Blocks

/-! ## The slots -/

theorem rb_inb (s : Fin 3) : ∀ a, (![s.val, 0, 0, 0] : Fin 4 → ℕ) a + S1x512x16x128.size a ≤ S3x512x16x128.size a := by revert s; decide
theorem tmp_inb (t : Fin 2) : ∀ a, (![t.val, 0, 0, 0] : Fin 4 → ℕ) a + S1x512x8x128.size a ≤ S2x512x8x128.size a := by revert t; decide
abbrev stI (j : Fin 4) : Finset S4x512x16x128.Idx := (Rect.unit (s := S4x512x16x128) ![j.val, 0, 0, 0] S1x512x16x128.size (st_inb j)).set
abbrev rbI (s : Fin 3) : Finset S3x512x16x128.Idx := (Rect.unit (s := S3x512x16x128) ![s.val, 0, 0, 0] S1x512x16x128.size (rb_inb s)).set
abbrev tmpI (t : Fin 2) : Finset S2x512x8x128.Idx := (Rect.unit (s := S2x512x8x128) ![t.val, 0, 0, 0] S1x512x8x128.size (tmp_inb t)).set
abbrev kvI (h : Fin 2) : Finset S1024x16x128.Idx := (Rect.unit (s := S1024x16x128) ![512 * h.val, 0, 0] S512x16x128.size (kv_inb h)).set
theorem stI_disj : ∀ j j', j ≠ j' → Disjoint (stI j) (stI j') :=
  lead_disjoint (s := S4x512x16x128) 0 1 (fun j : Fin 4 => ![j.val, 0, 0, 0]) S1x512x16x128.size st_inb (fun j => (Nat.one_mul _).symm) rfl
theorem stI_cover : Finset.univ.biUnion stI = Finset.univ :=
  lead_cover (s := S4x512x16x128) 0 1 (fun j : Fin 4 => ![j.val, 0, 0, 0]) S1x512x16x128.size st_inb (fun j => (Nat.one_mul _).symm) (by decide) rfl (by decide) rfl
theorem rbI_disj : ∀ j j', j ≠ j' → Disjoint (rbI j) (rbI j') :=
  lead_disjoint (s := S3x512x16x128) 0 1 (fun j : Fin 3 => ![j.val, 0, 0, 0]) S1x512x16x128.size rb_inb (fun j => (Nat.one_mul _).symm) rfl
theorem rbI_cover : Finset.univ.biUnion rbI = Finset.univ :=
  lead_cover (s := S3x512x16x128) 0 1 (fun j : Fin 3 => ![j.val, 0, 0, 0]) S1x512x16x128.size rb_inb (fun j => (Nat.one_mul _).symm) (by decide) rfl (by decide) rfl
theorem tmpI_disj : ∀ j j', j ≠ j' → Disjoint (tmpI j) (tmpI j') :=
  lead_disjoint (s := S2x512x8x128) 0 1 (fun j : Fin 2 => ![j.val, 0, 0, 0]) S1x512x8x128.size tmp_inb (fun j => (Nat.one_mul _).symm) rfl
theorem tmpI_cover : Finset.univ.biUnion tmpI = Finset.univ :=
  lead_cover (s := S2x512x8x128) 0 1 (fun j : Fin 2 => ![j.val, 0, 0, 0]) S1x512x8x128.size tmp_inb (fun j => (Nat.one_mul _).symm) (by decide) rfl (by decide) rfl
theorem kvI_disj : ∀ j j', j ≠ j' → Disjoint (kvI j) (kvI j') :=
  lead_disjoint (s := S1024x16x128) 0 512 (fun j : Fin 2 => ![512 * j.val, 0, 0]) S512x16x128.size kv_inb (fun j => rfl) rfl
theorem kvI_cover : Finset.univ.biUnion kvI = Finset.univ :=
  lead_cover (s := S1024x16x128) 0 512 (fun j : Fin 2 => ![512 * j.val, 0, 0]) S512x16x128.size kv_inb (fun j => rfl) (by decide) rfl (by decide) rfl

theorem st_set (c : Dev nD) (j : Fin 4) : (anyIn c (stSlot j) : sProp 𝕄) ⊣⊢ iprop(∃ f, (c : Thread nD τ).loc cc0_scratch4 ↦[stI j]{fullShare} f) :=
  any_set c (stSlot j) (stI j) ((View.set_reshape _ _).trans (View.set_slice_whole _ _))
theorem rb_set (c : Dev nD) (s : Fin 3) : (anyIn c (rbSlot s) : sProp 𝕄) ⊣⊢ iprop(∃ f, (c : Thread nD τ).loc cc0_scratch5 ↦[rbI s]{fullShare} f) :=
  any_set c (rbSlot s) (rbI s) ((View.set_reshape _ _).trans (View.set_slice_whole _ _))
theorem tmp_set0 (c : Dev nD) (t : Fin 2) : (anyIn c (tmpSlot 0 t) : sProp 𝕄) ⊣⊢ iprop(∃ f, (c : Thread nD τ).loc cc0_scratch2 ↦[tmpI t]{fullShare} f) :=
  any_set c (tmpSlot 0 t) (tmpI t) ((View.set_reshape _ _).trans (View.set_slice_whole _ _))
theorem tmp_set1 (c : Dev nD) (t : Fin 2) : (anyIn c (tmpSlot 1 t) : sProp 𝕄) ⊣⊢ iprop(∃ f, (c : Thread nD τ).loc cc0_scratch3 ↦[tmpI t]{fullShare} f) :=
  any_set c (tmpSlot 1 t) (tmpI t) ((View.set_reshape _ _).trans (View.set_slice_whole _ _))
theorem kv_set (c : Dev nD) (h : Fin 2) : (anyIn c (kvHalf h) : sProp 𝕄) ⊣⊢ iprop(∃ f, (c : Thread nD τ).loc cc0_scratch0 ↦[kvI h]{fullShare} f) :=
  any_set c (kvHalf h) (kvI h) (View.set_slice_whole _ _)

theorem st_split (c : Dev nD) : (anyIn c (Memref.whole cc0_scratch4) : sProp 𝕄) ⊢ bigSep Finset.univ fun j : Fin 4 => anyIn c (stSlot j) :=
  (any_split c cc0_scratch4 stI stI_disj stI_cover).trans (bigSep_mono fun j _ => (st_set c j).2)
theorem st_join (c : Dev nD) : (bigSep Finset.univ fun j : Fin 4 => anyIn c (stSlot j)) ⊢ (anyIn c (Memref.whole cc0_scratch4) : sProp 𝕄) :=
  (bigSep_mono fun j _ => (st_set c j).1).trans (any_join c cc0_scratch4 stI stI_disj stI_cover)
theorem rb_split (c : Dev nD) : (anyIn c (Memref.whole cc0_scratch5) : sProp 𝕄) ⊢ bigSep Finset.univ fun j : Fin 3 => anyIn c (rbSlot j) :=
  (any_split c cc0_scratch5 rbI rbI_disj rbI_cover).trans (bigSep_mono fun j _ => (rb_set c j).2)
theorem rb_join (c : Dev nD) : (bigSep Finset.univ fun j : Fin 3 => anyIn c (rbSlot j)) ⊢ (anyIn c (Memref.whole cc0_scratch5) : sProp 𝕄) :=
  (bigSep_mono fun j _ => (rb_set c j).1).trans (any_join c cc0_scratch5 rbI rbI_disj rbI_cover)
theorem tmp_split0 (c : Dev nD) : (anyIn c (Memref.whole cc0_scratch2) : sProp 𝕄) ⊢ bigSep Finset.univ fun j : Fin 2 => anyIn c (tmpSlot 0 j) :=
  (any_split c cc0_scratch2 tmpI tmpI_disj tmpI_cover).trans (bigSep_mono fun j _ => (tmp_set0 c j).2)
theorem tmp_join0 (c : Dev nD) : (bigSep Finset.univ fun j : Fin 2 => anyIn c (tmpSlot 0 j)) ⊢ (anyIn c (Memref.whole cc0_scratch2) : sProp 𝕄) :=
  (bigSep_mono fun j _ => (tmp_set0 c j).1).trans (any_join c cc0_scratch2 tmpI tmpI_disj tmpI_cover)
theorem tmp_split1 (c : Dev nD) : (anyIn c (Memref.whole cc0_scratch3) : sProp 𝕄) ⊢ bigSep Finset.univ fun j : Fin 2 => anyIn c (tmpSlot 1 j) :=
  (any_split c cc0_scratch3 tmpI tmpI_disj tmpI_cover).trans (bigSep_mono fun j _ => (tmp_set1 c j).2)
theorem tmp_join1 (c : Dev nD) : (bigSep Finset.univ fun j : Fin 2 => anyIn c (tmpSlot 1 j)) ⊢ (anyIn c (Memref.whole cc0_scratch3) : sProp 𝕄) :=
  (bigSep_mono fun j _ => (tmp_set1 c j).1).trans (any_join c cc0_scratch3 tmpI tmpI_disj tmpI_cover)
theorem kv_split (c : Dev nD) : (anyIn c (Memref.whole cc0_scratch0) : sProp 𝕄) ⊢ bigSep Finset.univ fun j : Fin 2 => anyIn c (kvHalf j) :=
  (any_split c cc0_scratch0 kvI kvI_disj kvI_cover).trans (bigSep_mono fun j _ => (kv_set c j).2)

/-- The two halves, filled, are the buffer, filled. -/
theorem kv_whole (c : Dev nD) :
    iprop(owns (c : Thread nD τ) (kvHalf 0) fullShare (fragVal m c 0) ∗ owns (c : Thread nD τ) (kvHalf 1) fullShare (fragVal m c 1))
      ⊢ (owns (c : Thread nD τ) (Memref.whole cc0_scratch0) fullShare (kvV m c) : sProp 𝕄) := by
  haveI : ∀ e, Nonempty (Elt F e) := fun e => inferInstance
  refine BI.Entails.trans ?_ (owns_of_rects (c : Thread nD τ) (Memref.whole cc0_scratch0) fullShare
    (fun h : Fin 2 => Rect.unit (s := S1024x16x128) ![512 * h.val, 0, 0] S512x16x128.size (kv_inb h)) (fun _ _ => rfl) kvI_disj kvI_cover (kvV m c))
  have e : ∀ h : Fin 2, (fun j => kvV m c ((Rect.unit (s := S1024x16x128) ![512 * h.val, 0, 0] S512x16x128.size (kv_inb h)).emb j)) = fragVal m c h :=
    fun h => funext fun j => congrArg (kvV m c) (halfI_emb h j)
  refine BI.Entails.trans ?_ (bigSep_mono (Φ := fun h : Fin 2 => owns (c : Thread nD τ) (kvHalf h) fullShare (fragVal m c h)) fun h _ => ?_)
  · rw [bigSep_univ_eq_bigSepL [0, 1] (by decide) (by decide), bigSepL_cons', bigSepL_singleton]
    exact BI.Entails.refl _
  · have hh : (owns (c : Thread nD τ) (kvHalf h) fullShare (fragVal m c h) : sProp 𝕄)
        = owns (c : Thread nD τ) (kvHalf h) fullShare (fun j => kvV m c ((Rect.unit (s := S1024x16x128) ![512 * h.val, 0, 0] S512x16x128.size (kv_inb h)).emb j)) :=
      congrArg _ (e h).symm
    rw [hh]; exact BI.Entails.refl _

/-! ## Device 0's copies -/

/-- The arrays device 0 copies from. -/
def arrs (c : Dev nD) : sProp 𝕄 :=
  iprop(((c : Thread nD τ).loc main_arg2 ↦{fullShare} m ((c : Thread nD τ).loc main_arg2))
    ∗ ((c : Thread nD τ).loc main_arg3 ↦{fullShare} m ((c : Thread nD τ).loc main_arg3)))
/-- The landing buffers' semaphores at rest. -/
def copies (c : Dev nD) : sProp 𝕄 := bigSepL [(0 : Fin 8), 1, 2, 3] fun i => semVal ((c : Thread nD τ), SemLoc.dma (copyS i)) 0

theorem two {Φ : Fin 2 → sProp 𝕄} : bigSep Finset.univ Φ = iprop(Φ 0 ∗ Φ 1) := by
  rw [bigSep_univ_eq_bigSepL [0, 1] (by decide) (by decide), bigSepL_cons', bigSepL_singleton]
theorem copies_eq (c : Dev nD) : (copies c : sProp 𝕄) = iprop(semVal ((c : Thread nD τ), SemLoc.dma (copyS 0)) 0 ∗ semVal ((c : Thread nD τ), SemLoc.dma (copyS 1)) 0
    ∗ semVal ((c : Thread nD τ), SemLoc.dma (copyS 2)) 0 ∗ semVal ((c : Thread nD τ), SemLoc.dma (copyS 3)) 0) := by
  unfold copies
  rw [bigSepL_cons', bigSepL_cons', bigSepL_cons', bigSepL_singleton]

theorem arr_cut (b : Ref sig .tc) (f : Buf (Elt F) ((D0 : Thread nD τ).loc b)) : ((D0 : Thread nD τ).loc b ↦{fullShare} f : sProp 𝕄)
    ⊢ iprop(owns (D0 : Thread nD τ) (Memref.whole b) fullShare.left f ∗ owns (D0 : Thread nD τ) (Memref.whole b) fullShare.right f) := by
  rw [← owns_whole]; exact (owns_halves (D0 : Thread nD τ) (Memref.whole b) fullShare f).1
theorem arr_mend (b : Ref sig .tc) (f : Buf (Elt F) ((D0 : Thread nD τ).loc b)) :
    iprop(owns (D0 : Thread nD τ) (Memref.whole b) fullShare.left f ∗ owns (D0 : Thread nD τ) (Memref.whole b) fullShare.right f)
      ⊢ ((D0 : Thread nD τ).loc b ↦{fullShare} f : sProp 𝕄) := by
  rw [← owns_whole]; exact (owns_halves (D0 : Thread nD τ) (Memref.whole b) fullShare f).2
theorem idle_begin :
    iprop(arrs m D0 ∗ copies D0 ∗ anyIn D0 (Memref.whole cc0_scratch2) ∗ anyIn D0 (Memref.whole cc0_scratch3))
      ⊢ iprop(idle2 m 0 ∗ idle2 m 1) := by
  rw [copies_eq]
  unfold arrs idle2 idle hq
  iintro ⟨⟨A₂, A₃⟩, ⟨C₀, C₁, C₂, C₃⟩, T₀, T₁⟩
  ihave T₀ := (tmp_split0 D0) $$ T₀
  ihave T₁ := (tmp_split1 D0) $$ T₁
  simp only [two]
  icases T₀ with ⟨T₀₀, T₀₁⟩
  icases T₁ with ⟨T₁₀, T₁₁⟩
  ihave A₂ := (arr_cut main_arg2 _) $$ A₂
  ihave A₃ := (arr_cut main_arg3 _) $$ A₃
  icases A₂ with ⟨L₂, R₂⟩
  icases A₃ with ⟨L₃, R₃⟩
  isplitl [L₂ L₃ T₀₀ T₁₀ C₀ C₁]
  · isplitl [L₂ T₀₀ C₀]
    · isplitl [L₂]; · iexact L₂
      isplitl [T₀₀]; · iexact T₀₀
      iexact C₀
    · isplitl [L₃]; · iexact L₃
      isplitl [T₁₀]; · iexact T₁₀
      iexact C₁
  · isplitl [R₂ T₀₁ C₂]
    · isplitl [R₂]; · iexact R₂
      isplitl [T₀₁]; · iexact T₀₁
      iexact C₂
    · isplitl [R₃]; · iexact R₃
      isplitl [T₁₁]; · iexact T₁₁
      iexact C₃

theorem idle_end :
    iprop(idle2 m 0 ∗ idle2 m 1) ⊢
      iprop(arrs m D0 ∗ copies D0 ∗ anyIn D0 (Memref.whole cc0_scratch2) ∗ anyIn D0 (Memref.whole cc0_scratch3)) := by
  rw [copies_eq]
  unfold arrs idle2 idle hq
  iintro ⟨⟨⟨L₂, T₀₀, C₀⟩, L₃, T₁₀, C₁⟩, ⟨R₂, T₀₁, C₂⟩, R₃, T₁₁, C₃⟩
  isplitl [L₂ L₃ R₂ R₃]
  · isplitl [L₂ R₂]
    · iapply (arr_mend main_arg2 _)
      isplitl [L₂]; · iexact L₂
      iexact R₂
    · iapply (arr_mend main_arg3 _)
      isplitl [L₃]; · iexact L₃
      iexact R₃
  isplitl [C₀ C₁ C₂ C₃]
  · isplitl [C₀]; · iexact C₀
    isplitl [C₁]; · iexact C₁
    isplitl [C₂]; · iexact C₂
    iexact C₃
  isplitl [T₀₀ T₀₁]
  · iapply (tmp_join0 D0); rw [two]; isplitl [T₀₀] <;> iassumption
  · iapply (tmp_join1 D0); rw [two]; isplitl [T₁₀] <;> iassumption

end Cert.KernelIdeal.Att
-- ==== Proof.Parts.lean ====
/- The body's entry and its device-dependent sections. -/
module

public import proofs.«01_k».proof.Proof.Kv
public import proofs.«01_k».proof.Proof.Pieces

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-! ## The printed conditions -/

theorem cond1_iff : ∀ c : Dev nD, k0_cond1 c = 1#1 ↔ c = 0 := by decide +kernel
theorem cond2_iff : ∀ c : Dev nD, k0_cond2 c = 1#1 ↔ c = 3 := by decide +kernel
theorem cond3_iff : ∀ c : Dev nD, k0_cond3 c = 1#1 ↔ c = 4 := by decide +kernel
theorem condC_iff : ∀ c : Dev nD, Scalar.cmpi .ne (Scalar.extui (Scalar.cmpi .ne (meW c) 0#32) : BitVec 32) 0#32 = 1#1 ↔ c ≠ 0 := by decide +kernel
theorem isDev3_iff : ∀ c : Dev nD, isDev c 3#32 ↔ c = 3 := by decide +kernel
theorem isDev4_iff : ∀ c : Dev nD, isDev c 4#32 ↔ c = 4 := by decide +kernel

/-! ## Cells nobody pays -/

/-- A cell before its wait: closed if nobody pays it. -/
def st (c : Dev nD) (k : Kd) : sProp 𝕄 := if payers c k = ∅ then zero c k else posn c k
theorem st_some {c : Dev nD} {k : Kd} (h : payers c k ≠ ∅) : (st c k : sProp 𝕄) = posn c k := if_neg h
theorem st_none {c : Dev nD} {k : Kd} (h : payers c k = ∅) : (st c k : sProp 𝕄) = zero c k := if_pos h
theorem close_unpaid (c : Dev nD) (k : Kd) : iprop(facts m K ∗ posn c k) ⊢ (|={Set.univ}=> st c k : sProp 𝕄) := by
  by_cases h : payers c k = ∅
  · rw [st_none h]
    iintro ⟨#HF, Hp⟩
    iapply (Rounds.cell_close ER (attRd m) (Set.mem_univ (K (c, k))) (fun h => h) (R := 0) (duties_none m c k h))
    isplitr; · iapply (facts_inv m K (c, k)); iexact HF
    iexact Hp
  · rw [st_some h]
    iintro ⟨-, Hp⟩
    imodintro; iexact Hp

/-! ## Entry -/

/-- The buffers the other devices' copies land in. -/
def landKinds : List Kd := [kKvr 0, kKvr 1, kRlr 0, kRlr 1, kRlr 2, kArr 0, kArr 1, kArr 2, kArr 3, kArr 4, kArr 5]
def lands (c : Dev nD) : List (Dev nD × Kd) := landKinds.map fun k => (c, k)
/-- Those device `d` writes at `c`, `d` the `i`-th device signalled; those nobody writes. -/
def handed (c : Dev nD) (i : Fin 7) : List (Dev nD × Kd) := (tgtPay (sigDev c i)).filter fun x => x.1 = c
def kept (c : Dev nD) : List (Dev nD × Kd) := (lands c).filter fun x => payers c x.2 = ∅
theorem lands_perm : ∀ c : Dev nD, (lands c).Perm
    (handed c 0 ++ (handed c 1 ++ (handed c 2 ++ (handed c 3 ++ (handed c 4 ++ (handed c 5 ++ (handed c 6 ++ kept c))))))) := by decide +kernel
theorem lands_nodup : ∀ c : Dev nD, (lands c).Nodup := by decide +kernel
theorem sig_payer (c : Dev nD) : ∀ i : Fin 7, c ∈ payers (sigDev c i) kBar := by revert c; decide +kernel
theorem payList_eq : ∀ c : Dev nD, payList c = (sigDev c 0, kBar) :: (sigDev c 1, kBar) :: (sigDev c 2, kBar) :: (sigDev c 3, kBar) :: (sigDev c 4, kBar)
    :: (sigDev c 5, kBar) :: (sigDev c 6, kBar) :: tgtPay c := by decide +kernel

theorem lands_split (c : Dev nD) : bigSepL (lands c) landBuf
    ⊢ (iprop(pay m (sigDev c 0) kBar c ∗ pay m (sigDev c 1) kBar c ∗ pay m (sigDev c 2) kBar c ∗ pay m (sigDev c 3) kBar c ∗ pay m (sigDev c 4) kBar c
        ∗ pay m (sigDev c 5) kBar c ∗ pay m (sigDev c 6) kBar c ∗ bigSepL (kept c) landBuf) : sProp 𝕄) := by
  have e := (bigSep_eq_bigSepL_of_eq (lands c) rfl (lands_nodup c) (landBuf (F := F))).symm.trans
    (bigSep_eq_bigSepL_of_eq _ (List.toFinset_eq_of_perm _ _ (lands_perm c)) ((lands_perm c).nodup_iff.mp (lands_nodup c)) (landBuf (F := F)))
  rw [e, bigSepL_append, bigSepL_append, bigSepL_append, bigSepL_append, bigSepL_append, bigSepL_append, bigSepL_append]
  exact .rfl

theorem enter_step (c : Dev nD) (Φ : PUnit → sProp 𝕄) :
    iprop(facts m K ∗ duty c (payList c) ∗ cred (tallyAt (kcell (c, kBar)) () 7) ∗ posn c kBar ∗ bigSepL (lands c) landBuf)
      ⊢ iprop(((duty c (tgtPay c) ∗ zero c kBar ∗ bigSepL (tgtPay c) landBuf ∗ bigSepL (kept c) landBuf) -∗ Φ ⟨⟩) -∗ run c (enterP c) Φ) := by
  unfold enterP
  rw [payList_eq]
  iintro ⟨#HF, Hd, Hc, Hp, Hl⟩ Hk
  ihave Hl := (lands_split m c) $$ Hl
  icases Hl with ⟨L₀, L₁, L₂, L₃, L₄, L₅, L₆, Hkept⟩
  simp only [run]
  rw [wp_bind]; iapply (signal_step m K c (sigDev c 0) _ (barDev_eq c 0) (sig_payer c 0)) $$ [Hd L₀]
  · isplitr; · iexact HF
    isplitl [Hd] <;> iassumption
  iintro Hd
  rw [wp_bind]; iapply (signal_step m K c (sigDev c 1) _ (barDev_eq c 1) (sig_payer c 1)) $$ [Hd L₁]
  · isplitr; · iexact HF
    isplitl [Hd] <;> iassumption
  iintro Hd
  rw [wp_bind]; iapply (signal_step m K c (sigDev c 2) _ (barDev_eq c 2) (sig_payer c 2)) $$ [Hd L₂]
  · isplitr; · iexact HF
    isplitl [Hd] <;> iassumption
  iintro Hd
  rw [wp_bind]; iapply (signal_step m K c (sigDev c 3) _ (barDev_eq c 3) (sig_payer c 3)) $$ [Hd L₃]
  · isplitr; · iexact HF
    isplitl [Hd] <;> iassumption
  iintro Hd
  rw [wp_bind]; iapply (signal_step m K c (sigDev c 4) _ (barDev_eq c 4) (sig_payer c 4)) $$ [Hd L₄]
  · isplitr; · iexact HF
    isplitl [Hd] <;> iassumption
  iintro Hd
  rw [wp_bind]; iapply (signal_step m K c (sigDev c 5) _ (barDev_eq c 5) (sig_payer c 5)) $$ [Hd L₅]
  · isplitr; · iexact HF
    isplitl [Hd] <;> iassumption
  iintro Hd
  rw [wp_bind]; iapply (signal_step m K c (sigDev c 6) _ (barDev_eq c 6) (sig_payer c 6)) $$ [Hd L₆]
  · isplitr; · iexact HF
    isplitl [Hd] <;> iassumption
  iintro Hd
  iapply (barrier_step m K c) $$ [Hc Hp Hd]
  · isplitr; · iexact HF
    isplitl [Hc]; · iexact Hc
    isplitl [Hp] <;> iassumption
  iintro ⟨Hd, Hz, Hl⟩
  iapply Hk
  isplitl [Hd]; · iexact Hd
  isplitl [Hz]; · iexact Hz
  isplitl [Hl] <;> iassumption

/-! ## The sections -/

/-- What remains owed after device 0's distribution. -/
def listA (c : Dev nD) : List (Dev nD × Kd) := if c = D0 then exPay c else tgtPay c
def inA (c : Dev nD) : sProp 𝕄 := if c = D0 then distIn m else iprop(emp)
def outA (c : Dev nD) : sProp 𝕄 := if c = D0 then distOut m else iprop(emp)

theorem partA_step (c : Dev nD) (Φ : (Σ' (_ : FVec F S1024x1024 .bf16), Vec F S1024x1024 .f32) → sProp 𝕄) :
    iprop(facts m K ∗ duty c (tgtPay c) ∗ inA m c ∗ owns (c : Thread nD τ) (Memref.whole cc0_stg0_0) fullShare (xV m c)
        ∗ owns (c : Thread nD τ) (Memref.whole cc0_stg1_0) fullShare (wqV m c))
      ⊢ iprop(((duty c (listA c) ∗ outA m c ∗ owns (c : Thread nD τ) (Memref.whole cc0_stg0_0) fullShare (xV m c)
        ∗ owns (c : Thread nD τ) (Memref.whole cc0_stg1_0) fullShare (wqV m c)) -∗ Φ ⟨k0_pay35 (xV m c), wqV m c⟩) -∗ run c (partA c) Φ) := by
  have tail (R : sProp 𝕄) : iprop(R ∗ owns (c : Thread nD τ) (Memref.whole cc0_stg0_0) fullShare (xV m c)
        ∗ owns (c : Thread nD τ) (Memref.whole cc0_stg1_0) fullShare (wqV m c))
      ⊢ iprop(((R ∗ owns (c : Thread nD τ) (Memref.whole cc0_stg0_0) fullShare (xV m c)
        ∗ owns (c : Thread nD τ) (Memref.whole cc0_stg1_0) fullShare (wqV m c)) -∗ Φ ⟨k0_pay35 (xV m c), wqV m c⟩)
          -∗ run c (do let x ← loadX; let w ← loadSq (Memref.whole cc0_stg1_0); pure ⟨k0_pay35 x, w⟩) Φ) := by
    iintro ⟨HR, Hx, Hw⟩ Hk
    simp only [run]
    rw [wp_bind]; iapply (load_step c (Memref.whole cc0_stg0_0) ![0, 0, 0] inb_S1x1024x1024_S1x1024x1024_0_0_0 h_S1x1024x1024 fullShare (xV m c)) $$ [Hx]
    · iexact Hx
    iintro Hx
    rw [wp_bind]; iapply (load_step c (Memref.whole cc0_stg1_0) ![0, 0] inb_S1024x1024_S1024x1024_0_0 h_S1024x1024 fullShare (wqV m c)) $$ [Hw]
    · iexact Hw
    iintro Hw
    rw [wp_pure]; imodintro
    iapply Hk
    isplitl [HR]; · iexact HR
    isplitl [Hx] <;> iassumption
  unfold partA listA inA outA
  by_cases h : c = D0
  · subst h
    rw [if_pos rfl, if_pos rfl, if_pos rfl, dif_pos ((cond1_iff D0).mpr rfl)]
    iintro ⟨#HF, Hd, Hi, Hx, Hw⟩ Hk
    simp only [run]
    rw [wp_bind]; iapply (dist_step m K) $$ [Hd Hi]
    · isplitr; · iexact HF
      isplitl [Hd] <;> iassumption
    iintro H
    iapply (tail iprop(duty D0 (exPay D0) ∗ distOut m)) $$ [H Hx Hw]
    · isplitl [H]; · iexact H
      isplitl [Hx] <;> iassumption
    iintro ⟨⟨Hd, Ho⟩, Hx, Hw⟩
    iapply Hk
    isplitl [Hd]; · iexact Hd
    isplitl [Ho]; · iexact Ho
    isplitl [Hx] <;> iassumption
  · rw [if_neg h, if_neg h, if_neg h, dif_neg (fun h' => h ((cond1_iff c).mp h'))]
    iintro ⟨#HF, Hd, -, Hx, Hw⟩ Hk
    iapply (tail iprop(duty c (tgtPay c))) $$ [Hd Hx Hw]
    · isplitl [Hd]; · iexact Hd
      isplitl [Hx] <;> iassumption
    iintro ⟨Hd, Hx, Hw⟩
    iapply Hk
    isplitl [Hd]; · iexact Hd
    isplitr; · iempintro
    isplitl [Hx] <;> iassumption

/-- What a relaying device needs for one slot, and what it has of it after the send and after all. -/
def rlIn (c n : Dev nD) (s : Fin 3) (h : Fin 2) : sProp 𝕄 :=
  iprop(credit c (kRlr s) ∗ posn c (kRlr s) ∗ landBuf (n, kKvr h) ∗ dutyTok ER (kcell (c, kRls s)) 0 c)
def rlMid (c : Dev nD) (s : Fin 3) : sProp 𝕄 := iprop(zero c (kRlr s) ∗ credit c (kRls s))
def rlOut (c : Dev nD) (s : Fin 3) : sProp 𝕄 := iprop(zero c (kRlr s) ∗ zero c (kRls s) ∗ anyIn c (rbSlot s))

theorem relay_step (c n d : Dev nD) (s : Fin 3) (h : Fin 2) (hd : payers c (kRlr s) = {d}) (hms : c ∈ payers c (kRls s)) (hmr : c ∈ payers n (kKvr h))
    (hn : rlyDev c s = n) (hh : rlyHalf s = h) (l : List (Dev nD × Kd)) (hl : ∀ x ∈ (n, kKvr h) :: l, 2 < klv x.2) {α : Type} (k : P F α) (Φ : α → sProp 𝕄) :
    iprop(facts m K ∗ duty c ((n, kKvr h) :: l) ∗ rlIn c n s h)
      ⊢ iprop(((duty c l ∗ rlMid c s) -∗ run c k Φ) -∗ run c (do relayWait s; relaySend n s h; k) Φ) := by
  unfold rlIn rlMid
  iintro ⟨#HF, Hd, Hc, Hp, Hl, Ht⟩ Hk
  simp only [run]
  rw [wp_bind]; iapply (relayWait_step m K c s d hd _ hl) $$ [Hc Hp Hd]
  · isplitr; · iexact HF
    isplitl [Hc]; · iexact Hc
    isplitl [Hp] <;> iassumption
  iintro ⟨Hd, Hz, Hr⟩
  rw [wp_bind]; iapply (relaySend_step m K c n s h hms hmr hn hh l) $$ [Hr Hl Hd Ht]
  · isplitr; · iexact HF
    isplitl [Hr]; · iexact Hr
    isplitl [Hl]; · iexact Hl
    isplitl [Hd] <;> iassumption
  iintro ⟨Hc, Hd⟩
  iapply Hk
  isplitl [Hd]; · iexact Hd
  isplitl [Hz] <;> iassumption

def inB (c : Dev nD) : sProp 𝕄 :=
  if c = 3 then iprop(rlIn 3 6 0 0 ∗ rlIn 3 6 1 1) else if c = 4 then iprop(rlIn 4 5 0 0 ∗ rlIn 4 5 1 1 ∗ rlIn 4 7 2 1) else iprop(emp)
def outB (c : Dev nD) : sProp 𝕄 :=
  if c = 3 then iprop(rlMid 3 0 ∗ rlMid 3 1) else if c = 4 then iprop(rlMid 4 0 ∗ rlMid 4 1 ∗ rlMid 4 2) else iprop(emp)

theorem listA_three : listA 3 = (6, kKvr 0) :: (6, kKvr 1) :: exPay 3 := by decide +kernel
theorem listA_four : listA 4 = (5, kKvr 0) :: (5, kKvr 1) :: (7, kKvr 1) :: exPay 4 := by decide +kernel
theorem listA_other : ∀ c : Dev nD, c ≠ 3 → c ≠ 4 → listA c = exPay c := by decide +kernel

/-- A section that does nothing. -/
theorem pure_step (c : Dev nD) (Φ : PUnit → sProp 𝕄) : Φ ⟨⟩ ⊢ run c (pure ⟨⟩ : P F PUnit) Φ := by
  simp only [run]
  rw [wp_pure]
  iintro H; imodintro; iexact H

theorem relay3_step (Φ : PUnit → sProp 𝕄) :
    iprop(facts m K ∗ duty 3 (listA 3) ∗ rlIn 3 6 0 0 ∗ rlIn 3 6 1 1) ⊢ iprop(((duty 3 (exPay 3) ∗ rlMid 3 0 ∗ rlMid 3 1) -∗ Φ ⟨⟩) -∗ run 3 relay3 Φ) := by
  rw [listA_three, show (relay3 : P F PUnit) = (do relayWait 0; relaySend 6 0 0; relayWait 1; relaySend 6 1 1; pure ⟨⟩) from rfl]
  iintro ⟨#HF, Hd, R₀, R₁⟩ Hk
  iapply (relay_step m K 3 6 0 0 0 (by decide +kernel) (by decide +kernel) (by decide +kernel) rfl rfl ((6, kKvr 1) :: exPay 3) (by decide +kernel)) $$ [Hd R₀]
  · isplitr; · iexact HF
    isplitl [Hd] <;> iassumption
  iintro ⟨Hd, R₀⟩
  iapply (relay_step m K 3 6 0 1 1 (by decide +kernel) (by decide +kernel) (by decide +kernel) rfl rfl (exPay 3) (by decide +kernel)) $$ [Hd R₁]
  · isplitr; · iexact HF
    isplitl [Hd] <;> iassumption
  iintro ⟨Hd, R₁⟩
  iapply (pure_step 3 Φ)
  iapply Hk
  isplitl [Hd]; · iexact Hd
  isplitl [R₀] <;> iassumption
theorem relay4_step (Φ : PUnit → sProp 𝕄) :
    iprop(facts m K ∗ duty 4 (listA 4) ∗ rlIn 4 5 0 0 ∗ rlIn 4 5 1 1 ∗ rlIn 4 7 2 1)
      ⊢ iprop(((duty 4 (exPay 4) ∗ rlMid 4 0 ∗ rlMid 4 1 ∗ rlMid 4 2) -∗ Φ ⟨⟩) -∗ run 4 relay4 Φ) := by
  rw [listA_four, show (relay4 : P F PUnit) = (do relayWait 0; relaySend 5 0 0; relayWait 1; relaySend 5 1 1; relayWait 2; relaySend 7 2 1; pure ⟨⟩) from rfl]
  iintro ⟨#HF, Hd, R₀, R₁, R₂⟩ Hk
  iapply (relay_step m K 4 5 0 0 0 (by decide +kernel) (by decide +kernel) (by decide +kernel) rfl rfl ((5, kKvr 1) :: (7, kKvr 1) :: exPay 4) (by decide +kernel)) $$ [Hd R₀]
  · isplitr; · iexact HF
    isplitl [Hd] <;> iassumption
  iintro ⟨Hd, R₀⟩
  iapply (relay_step m K 4 5 0 1 1 (by decide +kernel) (by decide +kernel) (by decide +kernel) rfl rfl ((7, kKvr 1) :: exPay 4) (by decide +kernel)) $$ [Hd R₁]
  · isplitr; · iexact HF
    isplitl [Hd] <;> iassumption
  iintro ⟨Hd, R₁⟩
  iapply (relay_step m K 4 7 0 2 1 (by decide +kernel) (by decide +kernel) (by decide +kernel) rfl rfl (exPay 4) (by decide +kernel)) $$ [Hd R₂]
  · isplitr; · iexact HF
    isplitl [Hd] <;> iassumption
  iintro ⟨Hd, R₂⟩
  iapply (pure_step 4 Φ)
  iapply Hk
  isplitl [Hd]; · iexact Hd
  isplitl [R₀]; · iexact R₀
  isplitl [R₁] <;> iassumption

theorem partB_step (c : Dev nD) (x : FVec F S1024x1024 .bf16) (w : Vec F S1024x1024 .f32)
    (Φ : (Σ' (_ : FVec F S1024x8x128 .bf16), BitVec 32) → sProp 𝕄) :
    iprop(facts m K ∗ duty c (listA c) ∗ inB c)
      ⊢ iprop(((duty c (exPay c) ∗ outB c) -∗ Φ ⟨k0_pay36 x w, Scalar.extui (Scalar.cmpi .ne (meW c) 0#32)⟩) -∗ run c (partB c x w) Φ) := by
  unfold partB inB outB
  by_cases h3 : c = 3
  · subst h3
    rw [if_pos rfl, if_pos rfl, dif_pos ((cond2_iff 3).mpr rfl), dif_neg (fun h => absurd ((cond3_iff 3).mp h) (by decide))]
    iintro ⟨#HF, H⟩ Hk
    simp only [run]
    rw [wp_bind]; iapply (relay3_step m K) $$ [H]
    · isplitr; · iexact HF
      iexact H
    iintro H
    rw [wp_pure]; imodintro
    iapply Hk; iexact H
  by_cases h4 : c = 4
  · subst h4
    rw [if_neg h3, if_neg h3, if_pos rfl, if_pos rfl, dif_neg (fun h => absurd ((cond2_iff 4).mp h) (by decide)), dif_pos ((cond3_iff 4).mpr rfl)]
    iintro ⟨#HF, H⟩ Hk
    simp only [run]
    rw [wp_bind]; iapply (relay4_step m K) $$ [H]
    · isplitr; · iexact HF
      iexact H
    iintro H
    rw [wp_pure]; imodintro
    iapply Hk; iexact H
  rw [if_neg h3, if_neg h3, if_neg h4, if_neg h4, dif_neg (fun h => h3 ((cond2_iff c).mp h)), dif_neg (fun h => h4 ((cond3_iff c).mp h)), listA_other c h3 h4]
  iintro ⟨#HF, H⟩ Hk
  simp only [run]
  rw [wp_pure]; imodintro
  iapply Hk; iexact H

def inC (c : Dev nD) : sProp 𝕄 :=
  if c = D0 then iprop(emp) else iprop((credit c (kKvr 0) ∗ posn c (kKvr 0)) ∗ credit c (kKvr 1) ∗ posn c (kKvr 1))
def outC (c : Dev nD) : sProp 𝕄 :=
  if c = D0 then iprop(emp) else iprop((zero c (kKvr 0) ∗ owns (c : Thread nD τ) (kvHalf 0) fullShare (fragVal m c 0))
    ∗ zero c (kKvr 1) ∗ owns (c : Thread nD τ) (kvHalf 1) fullShare (fragVal m c 1))
/-- The device whose send fills a device's half. -/
def kvFrom (c : Dev nD) : Dev nD := if c = 5 ∨ (c = 7) then 4 else if c = 6 then 3 else 0
theorem kvr_payer (c : Dev nD) (h : Fin 2) (hc : c ≠ D0) : ∃ d, payers c (kKvr h) = {d} := by revert c h; decide +kernel
theorem ex_level3 : ∀ c : Dev nD, ∀ x ∈ exPay c, 3 < klv x.2 := by decide +kernel

theorem partC_step (c : Dev nD) (n : BitVec 32) (hn : n = Scalar.extui (Scalar.cmpi .ne (meW c) 0#32))
    (Φ : (Σ' (_ : IVec S1024x1024 32) (_ : IVec S1024x1024 32) (_ : IVec S1024x1024 32) (_ : IVec S1024x1024 1), IVec S1024x1024 32) → sProp 𝕄) :
    iprop(facts m K ∗ duty c (exPay c) ∗ inC c)
      ⊢ iprop(((duty c (exPay c) ∗ outC m c) -∗ Φ ⟨k0_pay37, iota .tc S1024x1024 32 [1] iota_S1024x1024_d1_w32, k0_pay38, k0_pay39, k0_pay40⟩) -∗ run c (partC n) Φ) := by
  subst hn
  unfold partC inC outC
  by_cases h : c = D0
  · subst h
    rw [if_pos rfl, if_pos rfl, dif_neg (fun h => (condC_iff D0).mp h rfl)]
    iintro ⟨#HF, Hd, He⟩ Hk
    simp only [run]
    rw [wp_pure]; imodintro
    iapply Hk
    isplitl [Hd] <;> iassumption
  · obtain ⟨d₀, e₀⟩ := kvr_payer c 0 h
    obtain ⟨d₁, e₁⟩ := kvr_payer c 1 h
    rw [if_neg h, if_neg h, dif_pos ((condC_iff c).mpr h)]
    iintro ⟨#HF, Hd, ⟨C₀, P₀⟩, C₁, P₁⟩ Hk
    simp only [run]
    rw [wp_bind, wp_bind]; iapply (kvWait_step m K c 0 d₀ e₀ _ (ex_level3 c)) $$ [C₀ P₀ Hd]
    · isplitr; · iexact HF
      isplitl [C₀]; · iexact C₀
      isplitl [P₀] <;> iassumption
    iintro ⟨Hd, Z₀, A₀⟩
    iapply (kvWait_step m K c 1 d₁ e₁ _ (ex_level3 c)) $$ [C₁ P₁ Hd]
    · isplitr; · iexact HF
      isplitl [C₁]; · iexact C₁
      isplitl [P₁] <;> iassumption
    iintro ⟨Hd, Z₁, A₁⟩
    rw [wp_pure]; imodintro
    iapply Hk
    isplitl [Hd]; · iexact Hd
    isplitl [Z₀ A₀]; · isplitl [Z₀] <;> iassumption
    isplitl [Z₁] <;> iassumption

def inD (c : Dev nD) : sProp 𝕄 :=
  if c = 3 then iprop(posn 3 (kRls 0) ∗ posn 3 (kRls 1)) else if c = 4 then iprop(posn 4 (kRls 0) ∗ posn 4 (kRls 1) ∗ posn 4 (kRls 2)) else iprop(emp)
def outD (c : Dev nD) : sProp 𝕄 :=
  if c = 3 then iprop(rlOut 3 0 ∗ rlOut 3 1) else if c = 4 then iprop(rlOut 4 0 ∗ rlOut 4 1 ∗ rlOut 4 2) else iprop(emp)

theorem gone_step (c : Dev nD) (s : Fin 3) (h : Fin 2) (hd : payers c (kRls s) = {c}) {α : Type} (k : P F α) (Φ : α → sProp 𝕄) :
    iprop(facts m K ∗ duty c [] ∗ rlMid c s ∗ posn c (kRls s)) ⊢ iprop(((duty c [] ∗ rlOut c s) -∗ run c k Φ) -∗ run c (do relaySent s h; k) Φ) := by
  unfold rlMid rlOut
  iintro ⟨#HF, Hd, ⟨Hz, Hc⟩, Hp⟩ Hk
  simp only [run]
  rw [wp_bind]; iapply (relaySent_step m K c s h hd [] (fun x hx => absurd hx (List.not_mem_nil))) $$ [Hc Hp Hd]
  · isplitr; · iexact HF
    isplitl [Hc]; · iexact Hc
    isplitl [Hp] <;> iassumption
  iintro ⟨Hd, Hz', Ha⟩
  iapply Hk
  isplitl [Hd]; · iexact Hd
  isplitl [Hz]; · iexact Hz
  isplitl [Hz'] <;> iassumption

theorem gone3_step (Φ : PUnit → sProp 𝕄) :
    iprop(facts m K ∗ duty 3 [] ∗ (rlMid 3 0 ∗ rlMid 3 1) ∗ posn 3 (kRls 0) ∗ posn 3 (kRls 1))
      ⊢ iprop(((duty 3 [] ∗ rlOut 3 0 ∗ rlOut 3 1) -∗ Φ ⟨⟩) -∗ run 3 (do relaySent 0 0; relaySent 1 1) Φ) := by
  rw [show (do relaySent 0 0; relaySent 1 1 : P F PUnit) = (do relaySent 0 0; relaySent 1 1; pure ⟨⟩) from rfl]
  iintro ⟨#HF, Hd, ⟨M₀, M₁⟩, P₀, P₁⟩ Hk
  iapply (gone_step m K 3 0 0 (by decide +kernel)) $$ [Hd M₀ P₀]
  · isplitr; · iexact HF
    isplitl [Hd]; · iexact Hd
    isplitl [M₀] <;> iassumption
  iintro ⟨Hd, M₀⟩
  iapply (gone_step m K 3 1 1 (by decide +kernel)) $$ [Hd M₁ P₁]
  · isplitr; · iexact HF
    isplitl [Hd]; · iexact Hd
    isplitl [M₁] <;> iassumption
  iintro ⟨Hd, M₁⟩
  iapply (pure_step 3 Φ)
  iapply Hk
  isplitl [Hd]; · iexact Hd
  isplitl [M₀] <;> iassumption
theorem gone4_step (Φ : PUnit → sProp 𝕄) :
    iprop(facts m K ∗ duty 4 [] ∗ (rlMid 4 0 ∗ rlMid 4 1 ∗ rlMid 4 2) ∗ posn 4 (kRls 0) ∗ posn 4 (kRls 1) ∗ posn 4 (kRls 2))
      ⊢ iprop(((duty 4 [] ∗ rlOut 4 0 ∗ rlOut 4 1 ∗ rlOut 4 2) -∗ Φ ⟨⟩) -∗ run 4 (do relaySent 0 0; relaySent 1 1; relaySent 2 1) Φ) := by
  rw [show (do relaySent 0 0; relaySent 1 1; relaySent 2 1 : P F PUnit) = (do relaySent 0 0; relaySent 1 1; relaySent 2 1; pure ⟨⟩) from rfl]
  iintro ⟨#HF, Hd, ⟨M₀, M₁, M₂⟩, P₀, P₁, P₂⟩ Hk
  iapply (gone_step m K 4 0 0 (by decide +kernel)) $$ [Hd M₀ P₀]
  · isplitr; · iexact HF
    isplitl [Hd]; · iexact Hd
    isplitl [M₀] <;> iassumption
  iintro ⟨Hd, M₀⟩
  iapply (gone_step m K 4 1 1 (by decide +kernel)) $$ [Hd M₁ P₁]
  · isplitr; · iexact HF
    isplitl [Hd]; · iexact Hd
    isplitl [M₁] <;> iassumption
  iintro ⟨Hd, M₁⟩
  iapply (gone_step m K 4 2 1 (by decide +kernel)) $$ [Hd M₂ P₂]
  · isplitr; · iexact HF
    isplitl [Hd]; · iexact Hd
    isplitl [M₂] <;> iassumption
  iintro ⟨Hd, M₂⟩
  iapply (pure_step 4 Φ)
  iapply Hk
  isplitl [Hd]; · iexact Hd
  isplitl [M₀]; · iexact M₀
  isplitl [M₁] <;> iassumption

theorem partD_step (c : Dev nD) (Φ : PUnit → sProp 𝕄) :
    iprop(facts m K ∗ duty c [] ∗ outB c ∗ inD c) ⊢ iprop(((duty c [] ∗ outD c) -∗ Φ ⟨⟩) -∗ run c (partD c) Φ) := by
  unfold partD outB inD outD
  by_cases h3 : c = 3
  · subst h3
    rw [if_pos rfl, if_pos rfl, if_pos rfl, dif_pos ((isDev3_iff 3).mpr rfl), dif_neg (fun h => absurd ((isDev4_iff 3).mp h) (by decide))]
    iintro ⟨#HF, H⟩ Hk
    simp only [run]
    rw [wp_bind]; iapply (gone3_step m K) $$ [H]
    · isplitr; · iexact HF
      iexact H
    iintro H
    iapply (pure_step 3)
    iapply Hk; iexact H
  by_cases h4 : c = 4
  · subst h4
    rw [if_neg h3, if_neg h3, if_neg h3, if_pos rfl, if_pos rfl, if_pos rfl, dif_neg (fun h => absurd ((isDev3_iff 4).mp h) (by decide)), dif_pos ((isDev4_iff 4).mpr rfl)]
    iintro ⟨#HF, H⟩ Hk
    simp only [run]
    rw [wp_bind]; iapply (gone4_step m K) $$ [H]
    · isplitr; · iexact HF
      iexact H
    iintro H
    iapply (pure_step 4)
    iapply Hk; iexact H
  rw [if_neg h3, if_neg h3, if_neg h3, if_neg h4, if_neg h4, if_neg h4, dif_neg (fun h => h3 ((isDev3_iff c).mp h)), dif_neg (fun h => h4 ((isDev4_iff c).mp h))]
  iintro ⟨#HF, Hd, -, He⟩ Hk
  simp only [run]
  iapply (pure_step c)
  iapply Hk
  isplitl [Hd] <;> iassumption

end Cert.KernelIdeal.Att
-- ==== Proof.Attn.lean ====
/- The attention of a device's heads. -/
module

public import proofs.«01_k».proof.Proof.Mem

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- The heads done. -/
def ctxP (n : ℕ) (y : S1024x1024.Idx) : Prop := (y 1).val < 128 * n
/-- The context buffer with `n` heads done. -/
def ctxPart (c : Dev nD) (n : ℕ) : sProp 𝕄 := part c (Memref.whole cc0_scratch1) Finset.univ (ctxP n) (ctxV m c)

theorem headV_at (c : Dev nD) (h h' : Fin 8) (x x' : S1024x128.Idx) (hh : h' = h) (hx : x' = x) : headV m c h x = headV m c h' x' := by
  subst hh hx; rfl
theorem ctx_at (c : Dev nD) (h : Fin 8) (y : S1024x1024.Idx) (x : S1024x128.Idx) (hy : (ctxR h).emb x = y) : headV m c h x = ctxV m c y := by
  subst hy
  have hx : (x 1).val < 128 := (x 1).isLt
  have h1 : (((ctxR h).emb x) 1).val = 128 * h.val + (x 1).val := by
    show 128 * h.val + 1 * (x 1).val = _; omega
  have h0 : (((ctxR h).emb x) 0).val = (x 0).val := by
    show 0 + 1 * (x 0).val = _; omega
  unfold ctxV
  refine headV_at m c h _ x _ (Fin.ext ?_) (funext fun a => ?_)
  · show (((ctxR h).emb x) 1).val / 128 = h.val
    rw [h1]; omega
  · fin_cases a
    · exact Fin.ext h0
    · refine Fin.ext ?_
      show (((ctxR h).emb x) 1).val % 128 = (x 1).val
      rw [h1]; omega
theorem ctx_key (c : Dev nD) (h : Fin 8) (y : S1024x1024.Idx) (hy : ctxP (h.val + 1) y) :
    (∃ x, (ctxR h).emb x = y ∧ headV m c h x = ctxV m c y) ∨ ((∀ x, (ctxR h).emb x ≠ y) ∧ ctxP h.val y) := by
  unfold ctxP at hy ⊢
  by_cases hlt : (y 1).val < 128 * h.val
  · right
    refine ⟨fun x hx => ?_, hlt⟩
    have : (((ctxR h).emb x) 1).val = 128 * h.val + (x 1).val := by show 128 * h.val + 1 * (x 1).val = _; omega
    rw [hx] at this; omega
  · left
    have e : (ctxR h).emb (ix2 (n0 := 1024) (n1 := 128) ⟨(y 0).val, (y 0).isLt⟩ ⟨(y 1).val - 128 * h.val, by omega⟩) = y := by
      funext a; apply Fin.ext; fin_cases a
      · show 0 + 1 * (y 0).val = (y 0).val; omega
      · show 128 * h.val + 1 * ((y 1).val - 128 * h.val) = (y 1).val; omega
    exact ⟨_, e, ctx_at m c h y _ e⟩

theorem head_step (c : Dev nD) (h : Fin 8) (n n' : ℕ) (hn : n = h.val) (hn' : n' = h.val + 1) (Φ : PUnit → sProp 𝕄) :
    iprop(owns (c : Thread nD τ) (Memref.whole cc0_scratch0) fullShare (kvV m c) ∗ ctxPart m c n)
      ⊢ iprop(((owns (c : Thread nD τ) (Memref.whole cc0_scratch0) fullShare (kvV m c) ∗ ctxPart m c n') -∗ Φ ⟨⟩)
          -∗ run c (headP maskV (qV m c) h) Φ) := by
  subst hn hn'
  unfold ctxPart headP
  iintro ⟨Hk, Hc⟩ HΦ
  simp only [run]
  rw [wp_bind]
  iapply (read_step c (Memref.whole cc0_scratch0) (headR 0 h).toLoadRect (View.loadsAt_vmem h_S1024x1x128) fullShare (kvV m c)) $$ [Hk]
  · iexact Hk
  iintro Hk
  rw [wp_bind]
  iapply (read_step c (Memref.whole cc0_scratch0) (headR 1 h).toLoadRect (View.loadsAt_vmem h_S1024x1x128) fullShare (kvV m c)) $$ [Hk]
  · iexact Hk
  iintro Hk
  rw [wp_bind]
  iapply (part_load c (Memref.whole cc0_scratch1) Finset.univ (ctxP h.val) (ctxV m c) (ctxR h).toLoadRect (View.loadsAt_vmem h_S1024x128)
    (Finset.subset_univ _)) $$ [Hc]
  · iexact Hc
  iintro %_ Hc
  iapply (part_store c (Memref.whole cc0_scratch1) Finset.univ (ctxP h.val) (ctxP (h.val + 1)) (ctxV m c) (ctxR h) (headV m c h) _
    (Finset.subset_univ _) (ctx_key m c h)) $$ [Hc]
  · iexact Hc
  iintro Hc
  iapply HΦ
  isplitl [Hk] <;> iassumption

theorem attn_step (c : Dev nD) (Φ : FVec F S1024x1024 .f32 → sProp 𝕄) :
    iprop(owns (c : Thread nD τ) (Memref.whole cc0_scratch0) fullShare (kvV m c) ∗ anyIn c (Memref.whole cc0_scratch1)
        ∗ owns (c : Thread nD τ) (Memref.whole cc0_stg2_0) fullShare (woV m c))
      ⊢ iprop(((owns (c : Thread nD τ) (Memref.whole cc0_scratch0) fullShare (kvV m c) ∗ anyIn c (Memref.whole cc0_scratch1)
        ∗ owns (c : Thread nD τ) (Memref.whole cc0_stg2_0) fullShare (woV m c)) -∗ Φ (pV m c))
          -∗ run c (attnP maskV (qV m c)) Φ) := by
  have h0 : (anyIn c (Memref.whole cc0_scratch1) : sProp 𝕄) ⊢ ctxPart m c 0 := by
    unfold anyIn ctxPart part owns
    iintro ⟨%X, %f, -, H⟩
    iexists f
    isplitr
    · ipureintro; intro y hy; exact absurd hy (by unfold ctxP; omega)
    rw [show (Memref.whole cc0_scratch1).view.set = Finset.univ from View.set_whole _]
    iexact H
  have h8 : (ctxPart m c 8 : sProp 𝕄) ⊢ owns (c : Thread nD τ) (Memref.whole cc0_scratch1) fullShare (ctxV m c) := by
    unfold ctxPart part owns
    iintro ⟨%f, %hf, H⟩
    iexists f
    isplitr
    · ipureintro; funext y; refine hf y ?_
      unfold ctxP; have : (y 1).val < 1024 := (y 1).isLt; omega
    rw [show (Memref.whole cc0_scratch1).view.set = Finset.univ from View.set_whole _]
    iexact H
  unfold attnP pV
  iintro ⟨Hk, Hc, Hw⟩ HΦ
  ihave Hc := h0 $$ Hc
  simp only [run]
  rw [wp_bind]; iapply (head_step m c 0 0 1 rfl rfl) $$ [Hk Hc]
  · isplitl [Hk] <;> iassumption
  iintro ⟨Hk, Hc⟩
  rw [wp_bind]; iapply (head_step m c 1 1 2 rfl rfl) $$ [Hk Hc]
  · isplitl [Hk] <;> iassumption
  iintro ⟨Hk, Hc⟩
  rw [wp_bind]; iapply (head_step m c 2 2 3 rfl rfl) $$ [Hk Hc]
  · isplitl [Hk] <;> iassumption
  iintro ⟨Hk, Hc⟩
  rw [wp_bind]; iapply (head_step m c 3 3 4 rfl rfl) $$ [Hk Hc]
  · isplitl [Hk] <;> iassumption
  iintro ⟨Hk, Hc⟩
  rw [wp_bind]; iapply (head_step m c 4 4 5 rfl rfl) $$ [Hk Hc]
  · isplitl [Hk] <;> iassumption
  iintro ⟨Hk, Hc⟩
  rw [wp_bind]; iapply (head_step m c 5 5 6 rfl rfl) $$ [Hk Hc]
  · isplitl [Hk] <;> iassumption
  iintro ⟨Hk, Hc⟩
  rw [wp_bind]; iapply (head_step m c 6 6 7 rfl rfl) $$ [Hk Hc]
  · isplitl [Hk] <;> iassumption
  iintro ⟨Hk, Hc⟩
  rw [wp_bind]; iapply (head_step m c 7 7 8 rfl rfl) $$ [Hk Hc]
  · isplitl [Hk] <;> iassumption
  iintro ⟨Hk, Hc⟩
  ihave Hc := h8 $$ Hc
  rw [wp_bind]; iapply (load_step c (Memref.whole cc0_scratch1) ![0, 0] inb_S1024x1024_S1024x1024_0_0 h_S1024x1024 fullShare (ctxV m c)) $$ [Hc]
  · iexact Hc
  iintro Hc
  rw [wp_bind]; iapply (load_step c (Memref.whole cc0_stg2_0) ![0, 0] inb_S1024x1024_S1024x1024_0_0 h_S1024x1024 fullShare (woV m c)) $$ [Hw]
  · iexact Hw
  iintro Hw
  rw [wp_pure]; imodintro
  iapply HΦ
  isplitl [Hk]; · iexact Hk
  isplitl [Hc]; · unfold anyIn; iexists _; iexact Hc
  iexact Hw

end Cert.KernelIdeal.Att
-- ==== Proof.Exch.lean ====
/- The six exchanges. -/
module

public import proofs.«01_k».proof.Proof.Mem

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- What the exchanges pay, from exchange `n` on. -/
def exL (c : Dev nD) (n : ℕ) : List (Dev nD × Kd) := (exPay c).drop n
theorem exL_cons (c : Dev nD) : ∀ j : Fin 6, exL c j.val = (partner c j, kArr j) :: exL c (j.val + 1) := by revert c; decide +kernel
theorem exL_end (c : Dev nD) : exL c 6 = [] := by revert c; decide +kernel
theorem exL_level (c : Dev nD) : ∀ j : Fin 6, ∀ x ∈ exL c (j.val + 1), klv (kArr j) < klv x.2 := by revert c; decide +kernel
theorem exL_pos (c : Dev nD) : ∀ j : Fin 7, ∀ x ∈ exL c j.val, 0 < klv x.2 := by revert c; decide +kernel
theorem arr_payer (c : Dev nD) : ∀ j : Fin 6, payers c (kArr j) = {partner c j} := by revert c; decide +kernel
theorem ars_payer (c : Dev nD) : ∀ j : Fin 6, payers c (kArs j) = {c} := by revert c; decide +kernel
theorem mem_arr (c : Dev nD) (j : Fin 6) : c ∈ payers (partner c j) (kArr j) := by
  rw [arr_payer, partner_partner]; exact Finset.mem_singleton_self _
theorem mem_ars (c : Dev nD) (j : Fin 6) : c ∈ payers c (kArs j) := by rw [ars_payer]; exact Finset.mem_singleton_self _

theorem exSend_step (c : Dev nD) (j : Fin 6) (n n' : ℕ) (hn : n = j.val) (hn' : n' = j.val + 1) (Φ : PUnit → sProp 𝕄) :
    iprop(facts m K ∗ owns (c : Thread nD τ) (srcB j) fullShare.left (sV m c j) ∗ landBuf (partner c j, kArr j) ∗ duty c (exL c n)
        ∗ dutyTok ER (kcell (c, kArs j)) 0 c)
      ⊢ iprop(((credit c (kArs j) ∗ duty c (exL c n')) -∗ Φ ⟨⟩) -∗ run c (exSend c j) Φ) := by
  subst hn hn'
  rw [exL_cons]
  refine send_step m K c (partner c j) (exDev c j) (exDev_eq c j) (kArs j) (kArr j) (mem_ars c j) (mem_arr c j) rfl rfl _ rfl rfl
    fullShare.left (sV m c j) .rfl ?_ Φ
  show _ ⊢ owns (partner c j : Thread nD τ) (dstB j) fullShare (sV m (partner (partner c j) j) j)
  rw [partner_partner]
theorem exWait_step (c : Dev nD) (j : Fin 6) (n : ℕ) (hn : n = j.val + 1) (Φ : PUnit → sProp 𝕄) :
    iprop(facts m K ∗ credit c (kArr j) ∗ posn c (kArr j) ∗ duty c (exL c n))
      ⊢ iprop(((duty c (exL c n) ∗ zero c (kArr j) ∗ owns (c : Thread nD τ) (dstB j) fullShare (sV m (partner c j) j)) -∗ Φ ⟨⟩)
          -∗ run c (exWait j) Φ) := by
  subst hn
  exact wait_step m K c (kArr j) (partner c j) (arr_payer c j) rfl _ (exL_level c j) rfl Φ
theorem exSent_step (c : Dev nD) (j : Fin 6) (n : Fin 7) (Φ : PUnit → sProp 𝕄) :
    iprop(facts m K ∗ credit c (kArs j) ∗ posn c (kArs j) ∗ duty c (exL c n.val))
      ⊢ iprop(((duty c (exL c n.val) ∗ zero c (kArs j) ∗ owns (c : Thread nD τ) (srcB j) fullShare.left (sV m c j)) -∗ Φ ⟨⟩)
          -∗ run c (exSent j) Φ) :=
  wait_step m K c (kArs j) c (ars_payer c j) rfl _ (exL_pos c n) (credit_src j) Φ

theorem any_of (c : Dev nD) {sp : Space} {s : Shape} {e : EltTy} (v : Memref sig .tc sp s e) (X : s.Idx → Elt F e) :
    (owns (c : Thread nD τ) v fullShare X : sProp 𝕄) ⊢ anyIn c v := by
  unfold anyIn; iintro H; iexists X; iexact H
theorem any_back (c : Dev nD) {sp : Space} {s : Shape} {e : EltTy} (v : Memref sig .tc sp s e) (X : s.Idx → Elt F e) :
    iprop(owns (c : Thread nD τ) v fullShare.left X ∗ owns (c : Thread nD τ) v fullShare.right X) ⊢ (anyIn c v : sProp 𝕄) :=
  (owns_halves (c : Thread nD τ) v fullShare X).2.trans (any_of c v X)

/-- One exchange's resources. -/
def exRes (c : Dev nD) (j : Fin 6) : sProp 𝕄 :=
  iprop(landBuf (partner c j, kArr j) ∗ dutyTok ER (kcell (c, kArs j)) 0 c ∗ credit c (kArr j) ∗ posn c (kArr j) ∗ posn c (kArs j))
/-- An exchange done but for its departure's wait. -/
def exMid (c : Dev nD) (j : Fin 6) : sProp 𝕄 :=
  iprop(owns (c : Thread nD τ) (srcB j) fullShare.right (sV m c j) ∗ owns (c : Thread nD τ) (dstB j) fullShare (sV m (partner c j) j)
    ∗ credit c (kArs j) ∗ posn c (kArs j) ∗ zero c (kArr j))
/-- An exchange done. -/
def exDone (c : Dev nD) (j : Fin 6) : sProp 𝕄 := iprop(zero c (kArr j) ∗ zero c (kArs j))

/-- Send and await one exchange. -/
theorem ex_step (c : Dev nD) (j : Fin 6) (n n' : ℕ) (hn : n = j.val) (hn' : n' = j.val + 1) {α : Type} (k : P F α) (Φ : α → sProp 𝕄) :
    iprop(facts m K ∗ owns (c : Thread nD τ) (srcB j) fullShare (sV m c j) ∗ exRes c j ∗ duty c (exL c n))
      ⊢ iprop(((exMid m c j ∗ duty c (exL c n')) -∗ run c k Φ) -∗ run c (do exSend c j; exWait j; k) Φ) := by
  unfold exRes exMid
  iintro ⟨#HF, Hs, ⟨Hl, Ht, Hc, Hp, Hq⟩, Hd⟩ Hk
  ihave Hs' := (owns_halves (c : Thread nD τ) (srcB j) fullShare (sV m c j)).1 $$ Hs
  icases Hs' with ⟨H₁, H₂⟩
  simp only [run]
  rw [wp_bind]
  iapply (exSend_step m K c j n n' hn hn') $$ [H₁ Hl Hd Ht]
  · isplitr; · iexact HF
    isplitl [H₁]; · iexact H₁
    isplitl [Hl]; · iexact Hl
    isplitl [Hd] <;> iassumption
  iintro ⟨Hcs, Hd⟩
  rw [wp_bind]
  iapply (exWait_step m K c j n' hn') $$ [Hc Hp Hd]
  · isplitr; · iexact HF
    isplitl [Hc]; · iexact Hc
    isplitl [Hp] <;> iassumption
  iintro ⟨Hd, Hz, Hb⟩
  iapply Hk
  isplitr [Hd]
  · isplitl [H₂]; · iexact H₂
    isplitl [Hb]; · iexact Hb
    isplitl [Hcs]; · iexact Hcs
    isplitl [Hq] <;> iassumption
  iexact Hd

theorem halve_step (c : Dev nD) (Φ : PUnit → sProp 𝕄) :
    iprop(facts m K ∗ anyIn c (Memref.whole cc0_scratch6) ∗ anyIn c (Memref.whole cc0_scratch8) ∗ anyIn c (Memref.whole cc0_scratch10)
        ∗ exRes c 0 ∗ exRes c 1 ∗ exRes c 2 ∗ duty c (exL c 0))
      ⊢ iprop(((exMid m c 0 ∗ exMid m c 1 ∗ owns (c : Thread nD τ) (Memref.whole cc0_scratch10) fullShare (s3V m c) ∗ anyIn c (dstB 2) ∗ exDone c 2 ∗ duty c (exL c 3)) -∗ Φ ⟨⟩)
          -∗ run c (halveP c (pV m c)) Φ) := by
  iintro ⟨#HF, B₀, B₁, B₂, R₀, R₁, R₂, Hd⟩ Hk
  unfold halveP
  simp only [run]
  rw [wp_bind]
  iapply (store_step c (Memref.whole cc0_scratch6) ![0, 0] inb_S512x1024_S512x1024_0_0 h_S512x1024 _ (s0V m c)) $$ [B₀]
  · iexact B₀
  iintro B₀
  iapply (ex_step m K c 0 0 1 rfl rfl) $$ [B₀ R₀ Hd]
  · isplitr; · iexact HF
    isplitl [B₀]; · iexact B₀
    isplitl [R₀] <;> iassumption
  unfold exMid
  iintro ⟨⟨S₀, A₀, C₀, P₀, Z₀⟩, Hd⟩
  simp only [run]
  rw [wp_bind]
  iapply (load_step c (Memref.whole cc0_scratch7) ![0, 0] inb_S512x1024_S512x1024_0_0 h_S512x1024 fullShare (s0V m (partner c 0))) $$ [A₀]
  · iexact A₀
  iintro A₀
  rw [wp_bind]
  iapply (store_step c (Memref.whole cc0_scratch8) ![0, 0] inb_S256x1024_S256x1024_0_0 h_S256x1024 _ (s1V m c)) $$ [B₁]
  · iexact B₁
  iintro B₁
  iapply (ex_step m K c 1 1 2 rfl rfl) $$ [B₁ R₁ Hd]
  · isplitr; · iexact HF
    isplitl [B₁]; · iexact B₁
    isplitl [R₁] <;> iassumption
  unfold exMid
  iintro ⟨⟨S₁, A₁, C₁, P₁, Z₁⟩, Hd⟩
  simp only [run]
  rw [wp_bind]
  iapply (load_step c (Memref.whole cc0_scratch9) ![0, 0] inb_S256x1024_S256x1024_0_0 h_S256x1024 fullShare (s1V m (partner c 1))) $$ [A₁]
  · iexact A₁
  iintro A₁
  rw [wp_bind]
  iapply (store_step c (Memref.whole cc0_scratch10) ![0, 0] inb_S128x1024_S128x1024_0_0 h_S128x1024 _ (s2V m c)) $$ [B₂]
  · iexact B₂
  iintro B₂
  iapply (ex_step m K c 2 2 3 rfl rfl) $$ [B₂ R₂ Hd]
  · isplitr; · iexact HF
    isplitl [B₂]; · iexact B₂
    isplitl [R₂] <;> iassumption
  unfold exMid
  iintro ⟨⟨S₂, A₂, C₂, P₂, Z₂⟩, Hd⟩
  simp only [run]
  rw [wp_bind]
  iapply (load_step c (Memref.whole cc0_scratch11) ![0, 0] inb_S128x1024_S128x1024_0_0 h_S128x1024 fullShare (s2V m (partner c 2))) $$ [A₂]
  · iexact A₂
  iintro A₂
  rw [wp_bind]
  iapply (exSent_step m K c 2 3) $$ [C₂ P₂ Hd]
  · isplitr; · iexact HF
    isplitl [C₂]; · iexact C₂
    isplitl [P₂]; · iexact P₂
    iexact Hd
  iintro ⟨Hd, Y₂, T₂⟩
  iapply (store_step c (Memref.whole cc0_scratch10) ![0, 0] inb_S128x1024_S128x1024_0_0 h_S128x1024 _ (s3V m c)) $$ [S₂ T₂]
  · iapply (any_back c (srcB 2) (sV m c 2))
    isplitl [T₂]; · iexact T₂
    iexact S₂
  iintro B₃
  iapply Hk
  isplitl [S₀ A₀ C₀ P₀ Z₀]
  · isplitl [S₀]; · iexact S₀
    isplitl [A₀]; · iexact A₀
    isplitl [C₀]; · iexact C₀
    isplitl [P₀] <;> iassumption
  isplitl [S₁ A₁ C₁ P₁ Z₁]
  · isplitl [S₁]; · iexact S₁
    isplitl [A₁]; · iexact A₁
    isplitl [C₁]; · iexact C₁
    isplitl [P₁] <;> iassumption
  isplitl [B₃]; · iexact B₃
  isplitl [A₂]; · iapply (any_of c (dstB 2) (sV m (partner c 2) 2)); iexact A₂
  isplitl [Z₂ Y₂]
  · unfold exDone; isplitl [Z₂] <;> iassumption
  iexact Hd

theorem double_step (c : Dev nD) (Φ : PUnit → sProp 𝕄) :
    iprop(facts m K ∗ exMid m c 0 ∗ exMid m c 1 ∗ owns (c : Thread nD τ) (Memref.whole cc0_scratch10) fullShare (s3V m c)
        ∗ exRes c 3 ∗ exRes c 4 ∗ exRes c 5 ∗ duty c (exL c 3) ∗ anyIn c (Memref.whole cc0_stg3_0))
      ⊢ iprop(((exDone c 0 ∗ exDone c 1 ∗ exDone c 3 ∗ exDone c 4 ∗ exDone c 5
            ∗ anyIn c (Memref.whole cc0_scratch6) ∗ anyIn c (Memref.whole cc0_scratch8) ∗ anyIn c (Memref.whole cc0_scratch10)
            ∗ anyIn c (dstB 0) ∗ anyIn c (dstB 1) ∗ anyIn c (dstB 3) ∗ anyIn c (dstB 4) ∗ anyIn c (dstB 5)
            ∗ duty c [] ∗ owns (c : Thread nD τ) (Memref.whole cc0_stg3_0) fullShare (outV m c)) -∗ Φ ⟨⟩)
          -∗ run c (doubleP c) Φ) := by
  iintro ⟨#HF, M₀, M₁, B₃, R₃, R₄, R₅, Hd, Ho⟩ Hk
  unfold exMid
  icases M₀ with ⟨S₀, A₀, C₀, P₀, Z₀⟩
  icases M₁ with ⟨S₁, A₁, C₁, P₁, Z₁⟩
  unfold doubleP
  simp only [run]
  iapply (ex_step m K c 3 3 4 rfl rfl) $$ [B₃ R₃ Hd]
  · isplitr; · iexact HF
    isplitl [B₃]; · iexact B₃
    isplitl [R₃]; · iexact R₃
    iexact Hd
  unfold exMid
  iintro ⟨⟨S₃, A₃, C₃, P₃, Z₃⟩, Hd⟩
  simp only [run]
  rw [wp_bind]
  iapply (load_step c (Memref.whole cc0_scratch10) ![0, 0] inb_S128x1024_S128x1024_0_0 h_S128x1024 fullShare.right (s3V m c)) $$ [S₃]
  · iexact S₃
  iintro S₃
  rw [wp_bind]
  iapply (load_step c (Memref.whole cc0_scratch12) ![0, 0] inb_S128x1024_S128x1024_0_0 h_S128x1024 fullShare (s3V m (partner c 3))) $$ [A₃]
  · iexact A₃
  iintro A₃
  rw [wp_bind]
  iapply (load_step c (Memref.whole cc0_scratch12) ![0, 0] inb_S128x1024_S128x1024_0_0 h_S128x1024 fullShare (s3V m (partner c 3))) $$ [A₃]
  · iexact A₃
  iintro A₃
  rw [wp_bind]
  iapply (load_step c (Memref.whole cc0_scratch10) ![0, 0] inb_S128x1024_S128x1024_0_0 h_S128x1024 fullShare.right (s3V m c)) $$ [S₃]
  · iexact S₃
  iintro S₃
  rw [wp_bind]
  iapply (exSent_step m K c 1 4) $$ [C₁ P₁ Hd]
  · isplitr; · iexact HF
    isplitl [C₁]; · iexact C₁
    isplitl [P₁]; · iexact P₁
    iexact Hd
  iintro ⟨Hd, Y₁, T₁⟩
  rw [wp_bind]
  iapply (store_step c (Memref.whole cc0_scratch8) ![0, 0] inb_S256x1024_S256x1024_0_0 h_S256x1024 _ (s4V m c)) $$ [S₁ T₁]
  · iapply (any_back c (srcB 1) (sV m c 1))
    isplitl [T₁]; · iexact T₁
    iexact S₁
  iintro B₄
  iapply (ex_step m K c 4 4 5 rfl rfl) $$ [B₄ R₄ Hd]
  · isplitr; · iexact HF
    isplitl [B₄]; · iexact B₄
    isplitl [R₄]; · iexact R₄
    iexact Hd
  unfold exMid
  iintro ⟨⟨S₄, A₄, C₄, P₄, Z₄⟩, Hd⟩
  simp only [run]
  rw [wp_bind]
  iapply (load_step c (Memref.whole cc0_scratch8) ![0, 0] inb_S256x1024_S256x1024_0_0 h_S256x1024 fullShare.right (s4V m c)) $$ [S₄]
  · iexact S₄
  iintro S₄
  rw [wp_bind]
  iapply (load_step c (Memref.whole cc0_scratch13) ![0, 0] inb_S256x1024_S256x1024_0_0 h_S256x1024 fullShare (s4V m (partner c 4))) $$ [A₄]
  · iexact A₄
  iintro A₄
  rw [wp_bind]
  iapply (load_step c (Memref.whole cc0_scratch13) ![0, 0] inb_S256x1024_S256x1024_0_0 h_S256x1024 fullShare (s4V m (partner c 4))) $$ [A₄]
  · iexact A₄
  iintro A₄
  rw [wp_bind]
  iapply (load_step c (Memref.whole cc0_scratch8) ![0, 0] inb_S256x1024_S256x1024_0_0 h_S256x1024 fullShare.right (s4V m c)) $$ [S₄]
  · iexact S₄
  iintro S₄
  rw [wp_bind]
  iapply (exSent_step m K c 0 5) $$ [C₀ P₀ Hd]
  · isplitr; · iexact HF
    isplitl [C₀]; · iexact C₀
    isplitl [P₀]; · iexact P₀
    iexact Hd
  iintro ⟨Hd, Y₀, T₀⟩
  rw [wp_bind]
  iapply (store_step c (Memref.whole cc0_scratch6) ![0, 0] inb_S512x1024_S512x1024_0_0 h_S512x1024 _ (s5V m c)) $$ [S₀ T₀]
  · iapply (any_back c (srcB 0) (sV m c 0))
    isplitl [T₀]; · iexact T₀
    iexact S₀
  iintro B₅
  iapply (ex_step m K c 5 5 6 rfl rfl) $$ [B₅ R₅ Hd]
  · isplitr; · iexact HF
    isplitl [B₅]; · iexact B₅
    isplitl [R₅]; · iexact R₅
    iexact Hd
  unfold exMid
  iintro ⟨⟨S₅, A₅, C₅, P₅, Z₅⟩, Hd⟩
  simp only [run]
  rw [wp_bind]
  iapply (load_step c (Memref.whole cc0_scratch6) ![0, 0] inb_S512x1024_S512x1024_0_0 h_S512x1024 fullShare.right (s5V m c)) $$ [S₅]
  · iexact S₅
  iintro S₅
  rw [wp_bind]
  iapply (load_step c (Memref.whole cc0_scratch14) ![0, 0] inb_S512x1024_S512x1024_0_0 h_S512x1024 fullShare (s5V m (partner c 5))) $$ [A₅]
  · iexact A₅
  iintro A₅
  rw [wp_bind]
  iapply (load_step c (Memref.whole cc0_scratch14) ![0, 0] inb_S512x1024_S512x1024_0_0 h_S512x1024 fullShare (s5V m (partner c 5))) $$ [A₅]
  · iexact A₅
  iintro A₅
  rw [wp_bind]
  iapply (load_step c (Memref.whole cc0_scratch6) ![0, 0] inb_S512x1024_S512x1024_0_0 h_S512x1024 fullShare.right (s5V m c)) $$ [S₅]
  · iexact S₅
  iintro S₅
  rw [wp_bind]
  iapply (store_step c (Memref.whole cc0_stg3_0) ![0, 0, 0] inb_S1x1024x1024_S1x1024x1024_0_0_0 h_S1x1024x1024 _ (outV m c)) $$ [Ho]
  · iexact Ho
  iintro Ho
  rw [wp_bind]
  iapply (exSent_step m K c 3 6) $$ [C₃ P₃ Hd]
  · isplitr; · iexact HF
    isplitl [C₃]; · iexact C₃
    isplitl [P₃]; · iexact P₃
    iexact Hd
  iintro ⟨Hd, Y₃, T₃⟩
  rw [wp_bind]
  iapply (exSent_step m K c 4 6) $$ [C₄ P₄ Hd]
  · isplitr; · iexact HF
    isplitl [C₄]; · iexact C₄
    isplitl [P₄]; · iexact P₄
    iexact Hd
  iintro ⟨Hd, Y₄, T₄⟩
  iapply (exSent_step m K c 5 6) $$ [C₅ P₅ Hd]
  · isplitr; · iexact HF
    isplitl [C₅]; · iexact C₅
    isplitl [P₅]; · iexact P₅
    iexact Hd
  iintro ⟨Hd, Y₅, T₅⟩
  rw [show exL c (6 : Fin 7).val = [] from exL_end c]
  iapply Hk
  unfold exDone
  isplitl [Z₀ Y₀]; · isplitl [Z₀] <;> iassumption
  isplitl [Z₁ Y₁]; · isplitl [Z₁] <;> iassumption
  isplitl [Z₃ Y₃]; · isplitl [Z₃] <;> iassumption
  isplitl [Z₄ Y₄]; · isplitl [Z₄] <;> iassumption
  isplitl [Z₅ Y₅]; · isplitl [Z₅] <;> iassumption
  isplitl [S₅ T₅]
  · iapply (any_back c (srcB 5) (sV m c 5))
    isplitl [T₅]; · iexact T₅
    iexact S₅
  isplitl [S₄ T₄]
  · iapply (any_back c (srcB 4) (sV m c 4))
    isplitl [T₄]; · iexact T₄
    iexact S₄
  isplitl [S₃ T₃]
  · iapply (any_back c (srcB 3) (sV m c 3))
    isplitl [T₃]; · iexact T₃
    iexact S₃
  isplitl [A₀]; · iapply (any_of c (dstB 0) (sV m (partner c 0) 0)); iexact A₀
  isplitl [A₁]; · iapply (any_of c (dstB 1) (sV m (partner c 1) 1)); iexact A₁
  isplitl [A₃]; · iapply (any_of c (dstB 3) (sV m (partner c 3) 3)); iexact A₃
  isplitl [A₄]; · iapply (any_of c (dstB 4) (sV m (partner c 4) 4)); iexact A₄
  isplitl [A₅]; · iapply (any_of c (dstB 5) (sV m (partner c 5) 5)); iexact A₅
  isplitl [Hd] <;> iassumption

end Cert.KernelIdeal.Att
-- ==== Proof.Body.lean ====
/- The whole body at a device. -/
module

public import proofs.«01_k».proof.Proof.Parts
public import proofs.«01_k».proof.Proof.Attn
public import proofs.«01_k».proof.Proof.Exch

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-! ## The cells, kind by kind -/

def three (Φ : Fin 3 → sProp 𝕄) : sProp 𝕄 := iprop(Φ 0 ∗ Φ 1 ∗ Φ 2)
def six (Φ : Fin 6 → sProp 𝕄) : sProp 𝕄 := iprop(Φ 0 ∗ Φ 1 ∗ Φ 2 ∗ Φ 3 ∗ Φ 4 ∗ Φ 5)
/-- A statement of every cell of the key/value phase; of every cell. -/
def kvCells (Φ : Kd → sProp 𝕄) : sProp 𝕄 :=
  iprop((bigSep Finset.univ fun i : Fin 14 => Φ (kKvs i)) ∗ (Φ (kKvr 0) ∗ Φ (kKvr 1)) ∗ three (fun s => Φ (kRls s)) ∗ three (fun s => Φ (kRlr s)))
def cells (Φ : Kd → sProp 𝕄) : sProp 𝕄 := iprop(Φ kBar ∗ kvCells Φ ∗ six (fun j => Φ (kArs j)) ∗ six (fun j => Φ (kArr j)))

theorem three_eq (Φ : Fin 3 → sProp 𝕄) : bigSep Finset.univ Φ = three Φ := by
  unfold three
  rw [bigSep_univ_eq_bigSepL [0, 1, 2] (by decide) (by decide)]
  simp only [cons2, bigSepL_singleton]
theorem six_eq (Φ : Fin 6 → sProp 𝕄) : bigSep Finset.univ Φ = six Φ := by
  unfold six
  rw [bigSep_univ_eq_bigSepL [0, 1, 2, 3, 4, 5] (by decide) (by decide)]
  simp only [cons2, bigSepL_singleton]
/-- The cells in the order of the kinds. -/
def flat (Φ : Kd → sProp 𝕄) : sProp 𝕄 :=
  iprop(Φ kBar ∗ (bigSep Finset.univ fun i : Fin 14 => Φ (kKvs i)) ∗ (Φ (kKvr 0) ∗ Φ (kKvr 1)) ∗ three (fun s => Φ (kRls s)) ∗ three (fun s => Φ (kRlr s))
    ∗ six (fun j => Φ (kArs j)) ∗ six (fun j => Φ (kArr j)))
theorem flat_eq (Φ : Kd → sProp 𝕄) : bigSep Finset.univ Φ = flat Φ := by
  rw [bigSep_univ_sum, bigSep_univ_sum, bigSep_univ_sum, bigSep_univ_sum, bigSep_univ_sum, bigSep_univ_sum]
  rw [three_eq, three_eq, six_eq, six_eq, two, bigSep_univ_eq_bigSepL [()] (by decide) (by decide), bigSepL_singleton]
  rfl
theorem cells_fwd (Φ : Kd → sProp 𝕄) : bigSep Finset.univ Φ ⊢ cells Φ := by
  rw [flat_eq]
  unfold cells kvCells flat
  iintro ⟨H₁, H₂, H₃, H₄, H₅, H₆, H₇⟩
  isplitl [H₁]; · iexact H₁
  isplitl [H₂ H₃ H₄ H₅]
  · isplitl [H₂]; · iexact H₂
    isplitl [H₃]; · iexact H₃
    isplitl [H₄]; · iexact H₄
    iexact H₅
  isplitl [H₆]; · iexact H₆
  iexact H₇
theorem cells_bwd (Φ : Kd → sProp 𝕄) : cells Φ ⊢ bigSep Finset.univ Φ := by
  rw [flat_eq]
  unfold cells kvCells flat
  iintro ⟨H₁, ⟨H₂, H₃, H₄, H₅⟩, H₆, H₇⟩
  isplitl [H₁]; · iexact H₁
  isplitl [H₂]; · iexact H₂
  isplitl [H₃]; · iexact H₃
  isplitl [H₄]; · iexact H₄
  isplitl [H₅]; · iexact H₅
  isplitl [H₆]; · iexact H₆
  iexact H₇

theorem close_all (c : Dev nD) : iprop(facts m K ∗ bigSep Finset.univ fun k : Kd => posn c k)
    ⊢ (|={Set.univ}=> bigSep Finset.univ fun k : Kd => st c k : sProp 𝕄) :=
  (bigSep_with_persistent fun k _ => close_unpaid m K c k).trans (bigSep_fupd _ _)

/-! ## What each section takes -/

/-- Device 0's copies and staging slots. -/
def dev0 (c : Dev nD) : sProp 𝕄 :=
  if c = D0 then iprop(idle2 m 0 ∗ idle2 m 1 ∗ bigSep Finset.univ fun j : Fin 4 => anyIn D0 (stSlot j)) else iprop(emp)
def kvCr (c : Dev nD) : List Kd :=
  if c = D0 then [] else if c = 3 then [kKvr 0, kKvr 1, kRlr 0, kRlr 1] else if c = 4 then [kKvr 0, kKvr 1, kRlr 0, kRlr 1, kRlr 2] else [kKvr 0, kKvr 1]
def arrs6 : List Kd := [kArr 0, kArr 1, kArr 2, kArr 3, kArr 4, kArr 5]
def zeros (c : Dev nD) : Kd → sProp 𝕄 := fun k => zero c k
/-- What no section of the key/value phase touches. -/
def rem (c : Dev nD) : sProp 𝕄 :=
  if c = D0 then iprop((zero D0 (kKvr 0) ∗ zero D0 (kKvr 1)) ∗ three (fun s => zero D0 (kRls s)) ∗ three (fun s => zero D0 (kRlr s)) ∗ three fun s => anyIn D0 (rbSlot s))
  else if c = 3 then iprop((bigSep Finset.univ fun i : Fin 14 => zero 3 (kKvs i)) ∗ zero 3 (kRls 2) ∗ zero 3 (kRlr 2) ∗ anyIn 3 (rbSlot 2))
  else if c = 4 then iprop(bigSep Finset.univ fun i : Fin 14 => zero 4 (kKvs i))
  else iprop((bigSep Finset.univ fun i : Fin 14 => zero c (kKvs i)) ∗ three (fun s => zero c (kRls s)) ∗ three (fun s => zero c (kRlr s)) ∗ three fun s => anyIn c (rbSlot s))
def outAC (c : Dev nD) : sProp 𝕄 :=
  if c = D0 then iprop((bigSep Finset.univ fun i : Fin 14 => zero D0 (kKvs i)) ∗ idle2 m 0 ∗ idle2 m 1 ∗ bigSep Finset.univ fun j : Fin 4 => anyIn D0 (stSlot j))
  else iprop(zero c (kKvr 0) ∗ zero c (kKvr 1))

theorem kvs_paid : ∀ i : Fin 14, payers D0 (kKvs i) ≠ ∅ := by decide +kernel
theorem kvs_free : ∀ c : Dev nD, c ≠ D0 → ∀ i : Fin 14, payers c (kKvs i) = ∅ := by decide +kernel
theorem kvr_paid : ∀ c : Dev nD, c ≠ D0 → ∀ h : Fin 2, payers c (kKvr h) ≠ ∅ := by decide +kernel
theorem kvr_free : ∀ h : Fin 2, payers D0 (kKvr h) = ∅ := by decide +kernel
theorem rls_free : ∀ c : Dev nD, c ≠ 3 → c ≠ 4 → ∀ s : Fin 3, payers c (kRls s) = ∅ := by decide +kernel
theorem rlr_free : ∀ c : Dev nD, c ≠ 3 → c ≠ 4 → ∀ s : Fin 3, payers c (kRlr s) = ∅ := by decide +kernel
theorem kept_zero : kept D0 = [(D0, kKvr 0), (D0, kKvr 1), (D0, kRlr 0), (D0, kRlr 1), (D0, kRlr 2)] := by decide +kernel
theorem kept_three : kept 3 = [(3, kRlr 2)] := by decide +kernel
theorem kept_four : kept 4 = [] := by decide +kernel
theorem kept_other : ∀ c : Dev nD, c ≠ D0 → c ≠ 3 → c ≠ 4 → kept c = [(c, kRlr 0), (c, kRlr 1), (c, kRlr 2)] := by decide +kernel
theorem mid_other : ∀ c : Dev nD, c ≠ D0 → c ≠ 3 → c ≠ 4 → midPay c = [] ∧ midSend c = [] := by decide +kernel

theorem free_kvs (c : Dev nD) (hc : c ≠ D0) : (bigSep Finset.univ fun i : Fin 14 => st c (kKvs i)) = (bigSep Finset.univ fun i : Fin 14 => zero c (kKvs i) : sProp 𝕄) :=
  bigSep_congr fun i _ => st_none (kvs_free c hc i)

def sendToks (c : Dev nD) (l : List Kd) : sProp 𝕄 := bigSepL l fun k => dutyTok ER (kcell (c, k)) 0 c

theorem land_kvr (c : Dev nD) (h : Fin 2) : (landBuf (c, kKvr h) : sProp 𝕄) = anyIn c (kvHalf h) := rfl
theorem land_rlr (c : Dev nD) (s : Fin 3) : (landBuf (c, kRlr s) : sProp 𝕄) = anyIn c (rbSlot s) := rfl

theorem kv_take (c : Dev nD) :
    iprop(kvCells (st c) ∗ sendToks c (midSend c) ∗ bigSepL (kvCr c) (credit c) ∗ bigSepL (midPay c) landBuf ∗ bigSepL (kept c) landBuf ∗ dev0 m c)
      ⊢ iprop(inA m c ∗ inB c ∗ inC c ∗ inD c ∗ rem c) := by
  unfold kvCells sendToks dev0 inA inB inC inD rem three kvCr
  by_cases h0 : c = D0
  · subst h0
    have n3 : (D0 : Dev nD) ≠ 3 := by decide
    have n4 : (D0 : Dev nD) ≠ 4 := by decide
    have et : (bigSepL (midSend D0) fun k => (dutyTok ER (kcell (D0, k)) 0 D0 : sProp 𝕄)) = bigSep Finset.univ fun i : Fin 14 => dutyTok ER (kcell (D0, kKvs i)) 0 D0 := by
      rw [show midSend D0 = (List.finRange 14).map kKvs from rfl, bigSepL_map]
      exact (bigSep_univ_eq_bigSepL (List.finRange 14) (by decide) (List.nodup_finRange 14) _).symm
    have el : (bigSepL (midPay D0) landBuf : sProp 𝕄) = bigSep Finset.univ fun i : Fin 14 => landBuf (tgt i) := by
      rw [show midPay D0 = (List.finRange 14).map tgt from rfl, bigSepL_map]
      exact (bigSep_univ_eq_bigSepL (List.finRange 14) (by decide) (List.nodup_finRange 14) _).symm
    have es : (bigSep Finset.univ fun i : Fin 14 => st D0 (kKvs i)) = (bigSep Finset.univ fun i : Fin 14 => posn D0 (kKvs i) : sProp 𝕄) :=
      bigSep_congr fun i _ => st_some (kvs_paid i)
    simp only [if_pos, if_neg n3, if_neg n4, et, el, es, kept_zero, st_none (kvr_free 0), st_none (kvr_free 1), st_none (rls_free D0 n3 n4 _),
      st_none (rlr_free D0 n3 n4 _), cons2, bigSepL_singleton, bigSepL_nil, land_kvr, land_rlr]
    unfold distIn
    iintro ⟨⟨Hs, Hr, Hl, Hq⟩, Ht, -, Hd, ⟨K₀, K₁, R₀, R₁, R₂⟩, I₀, I₁, Hst⟩
    isplitl [Hs Ht Hd K₀ K₁ I₀ I₁ Hst]
    · isplitl [Hs]; · iexact Hs
      isplitl [Ht]; · iexact Ht
      isplitl [Hd]; · iexact Hd
      isplitl [I₀]; · iexact I₀
      isplitl [I₁]; · iexact I₁
      isplitl [Hst]; · iexact Hst
      isplitl [K₀]; · iexact K₀
      iexact K₁
    isplitr; · iempintro
    isplitr; · iempintro
    isplitr; · iempintro
    isplitl [Hr]; · iexact Hr
    isplitl [Hl]; · iexact Hl
    isplitl [Hq]; · iexact Hq
    isplitl [R₀]; · iexact R₀
    isplitl [R₁]; · iexact R₁
    iexact R₂
  by_cases h3 : c = 3
  · subst h3
    have s0 : payers 3 (kRls 0) ≠ ∅ := by decide +kernel
    have s1 : payers 3 (kRls 1) ≠ ∅ := by decide +kernel
    have s2 : payers 3 (kRls 2) = ∅ := by decide +kernel
    have r0 : payers 3 (kRlr 0) ≠ ∅ := by decide +kernel
    have r1 : payers 3 (kRlr 1) ≠ ∅ := by decide +kernel
    have r2 : payers 3 (kRlr 2) = ∅ := by decide +kernel
    have em : midSend 3 = [kRls 0, kRls 1] := by decide +kernel
    have ep : midPay 3 = [(6, kKvr 0), (6, kKvr 1)] := by decide +kernel
    simp only [if_neg h0, if_pos, free_kvs 3 h0, st_some (kvr_paid 3 h0 _), st_some s0, st_some s1, st_none s2, st_some r0, st_some r1, st_none r2, em, ep,
      kept_three, cons2, bigSepL_singleton, land_rlr]
    unfold rlIn
    iintro ⟨⟨Hs, ⟨P₀, P₁⟩, ⟨S₀, S₁, S₂⟩, Q₀, Q₁, Q₂⟩, ⟨T₀, T₁⟩, ⟨C₀, C₁, D₀, D₁⟩, ⟨L₀, L₁⟩, R₂, -⟩
    isplitr; · iempintro
    isplitl [Q₀ Q₁ D₀ D₁ L₀ L₁ T₀ T₁]
    · isplitl [Q₀ D₀ L₀ T₀]
      · isplitl [D₀]; · iexact D₀
        isplitl [Q₀]; · iexact Q₀
        isplitl [L₀]; · iexact L₀
        iexact T₀
      · isplitl [D₁]; · iexact D₁
        isplitl [Q₁]; · iexact Q₁
        isplitl [L₁]; · iexact L₁
        iexact T₁
    isplitl [P₀ P₁ C₀ C₁]
    · isplitl [P₀ C₀]
      · isplitl [C₀] <;> iassumption
      · isplitl [C₁] <;> iassumption
    isplitl [S₀ S₁]
    · isplitl [S₀] <;> iassumption
    isplitl [Hs]; · iexact Hs
    isplitl [S₂]; · iexact S₂
    isplitl [Q₂]; · iexact Q₂
    iexact R₂
  by_cases h4 : c = 4
  · subst h4
    have s : ∀ s, payers 4 (kRls s) ≠ ∅ := by decide +kernel
    have r : ∀ s, payers 4 (kRlr s) ≠ ∅ := by decide +kernel
    have em : midSend 4 = [kRls 0, kRls 1, kRls 2] := by decide +kernel
    have ep : midPay 4 = [(5, kKvr 0), (5, kKvr 1), (7, kKvr 1)] := by decide +kernel
    simp only [if_neg h0, if_neg h3, if_pos, free_kvs 4 h0, st_some (kvr_paid 4 h0 _), st_some (s _), st_some (r _), em, ep,
      kept_four, cons2, bigSepL_singleton, bigSepL_nil]
    unfold rlIn
    iintro ⟨⟨Hs, ⟨P₀, P₁⟩, ⟨S₀, S₁, S₂⟩, Q₀, Q₁, Q₂⟩, ⟨T₀, T₁, T₂⟩, ⟨C₀, C₁, D₀, D₁, D₂⟩, ⟨L₀, L₁, L₂⟩, -, -⟩
    isplitr; · iempintro
    isplitl [Q₀ Q₁ Q₂ D₀ D₁ D₂ L₀ L₁ L₂ T₀ T₁ T₂]
    · isplitl [Q₀ D₀ L₀ T₀]
      · isplitl [D₀]; · iexact D₀
        isplitl [Q₀]; · iexact Q₀
        isplitl [L₀]; · iexact L₀
        iexact T₀
      isplitl [Q₁ D₁ L₁ T₁]
      · isplitl [D₁]; · iexact D₁
        isplitl [Q₁]; · iexact Q₁
        isplitl [L₁]; · iexact L₁
        iexact T₁
      · isplitl [D₂]; · iexact D₂
        isplitl [Q₂]; · iexact Q₂
        isplitl [L₂]; · iexact L₂
        iexact T₂
    isplitl [P₀ P₁ C₀ C₁]
    · isplitl [P₀ C₀]
      · isplitl [C₀] <;> iassumption
      · isplitl [C₁] <;> iassumption
    isplitl [S₀ S₁ S₂]
    · isplitl [S₀]; · iexact S₀
      isplitl [S₁] <;> iassumption
    iexact Hs
  · have em := (mid_other c h0 h3 h4).2
    have ep := (mid_other c h0 h3 h4).1
    simp only [if_neg h0, if_neg h3, if_neg h4, free_kvs c h0, st_some (kvr_paid c h0 _), st_none (rls_free c h3 h4 _), st_none (rlr_free c h3 h4 _), em, ep,
      kept_other c h0 h3 h4, cons2, bigSepL_singleton, bigSepL_nil, land_rlr]
    iintro ⟨⟨Hs, ⟨P₀, P₁⟩, Hl, Hq⟩, -, ⟨C₀, C₁⟩, -, ⟨R₀, R₁, R₂⟩, -⟩
    isplitr; · iempintro
    isplitr; · iempintro
    isplitl [P₀ P₁ C₀ C₁]
    · isplitl [P₀ C₀]
      · isplitl [C₀] <;> iassumption
      · isplitl [C₁] <;> iassumption
    isplitr; · iempintro
    isplitl [Hs]; · iexact Hs
    isplitl [Hl]; · iexact Hl
    isplitl [Hq]; · iexact Hq
    isplitl [R₀]; · iexact R₀
    isplitl [R₁]; · iexact R₁
    iexact R₂

theorem kv_have (c : Dev nD) : iprop(outA m c ∗ outC m c) ⊢ iprop(owns (c : Thread nD τ) (Memref.whole cc0_scratch0) fullShare (kvV m c) ∗ outAC m c) := by
  unfold outA outC outAC
  by_cases h0 : c = D0
  · subst h0
    rw [if_pos rfl, if_pos rfl, if_pos rfl]
    unfold distOut
    iintro ⟨⟨Hz, I₀, I₁, Hs, K₀, K₁⟩, -⟩
    isplitl [K₀ K₁]
    · iapply (kv_whole m D0); isplitl [K₀] <;> iassumption
    isplitl [Hz]; · iexact Hz
    isplitl [I₀]; · iexact I₀
    isplitl [I₁] <;> iassumption
  · rw [if_neg h0, if_neg h0, if_neg h0]
    iintro ⟨-, ⟨Z₀, K₀⟩, Z₁, K₁⟩
    isplitl [K₀ K₁]
    · iapply (kv_whole m c); isplitl [K₀] <;> iassumption
    isplitl [Z₀] <;> iassumption

theorem kv_done (c : Dev nD) :
    iprop(outAC m c ∗ outD c ∗ rem c) ⊢ iprop(kvCells (zeros c) ∗ (three fun s => anyIn c (rbSlot s)) ∗ dev0 m c) := by
  unfold outAC outD rem kvCells dev0 zeros three
  by_cases h0 : c = D0
  · subst h0
    have n3 : (D0 : Dev nD) ≠ 3 := by decide
    have n4 : (D0 : Dev nD) ≠ 4 := by decide
    simp only [if_pos, if_neg n3, if_neg n4]
    iintro ⟨⟨Hs, I₀, I₁, Hst⟩, -, Hr, Hl, Hq, Hb⟩
    isplitl [Hs Hr Hl Hq]
    · isplitl [Hs]; · iexact Hs
      isplitl [Hr]; · iexact Hr
      isplitl [Hl] <;> iassumption
    isplitl [Hb]; · iexact Hb
    isplitl [I₀]; · iexact I₀
    isplitl [I₁] <;> iassumption
  by_cases h3 : c = 3
  · subst h3
    simp only [if_pos, if_neg h0]
    unfold rlOut
    iintro ⟨Hr, ⟨⟨Q₀, S₀, B₀⟩, Q₁, S₁, B₁⟩, Hs, S₂, Q₂, B₂⟩
    isplitl [Hs Hr S₀ S₁ S₂ Q₀ Q₁ Q₂]
    · isplitl [Hs]; · iexact Hs
      isplitl [Hr]; · iexact Hr
      isplitl [S₀ S₁ S₂]
      · isplitl [S₀]; · iexact S₀
        isplitl [S₁] <;> iassumption
      · isplitl [Q₀]; · iexact Q₀
        isplitl [Q₁] <;> iassumption
    isplitl [B₀ B₁ B₂]
    · isplitl [B₀]; · iexact B₀
      isplitl [B₁] <;> iassumption
    iempintro
  by_cases h4 : c = 4
  · subst h4
    simp only [if_pos, if_neg h0, if_neg h3]
    unfold rlOut
    iintro ⟨Hr, ⟨⟨Q₀, S₀, B₀⟩, ⟨Q₁, S₁, B₁⟩, Q₂, S₂, B₂⟩, Hs⟩
    isplitl [Hs Hr S₀ S₁ S₂ Q₀ Q₁ Q₂]
    · isplitl [Hs]; · iexact Hs
      isplitl [Hr]; · iexact Hr
      isplitl [S₀ S₁ S₂]
      · isplitl [S₀]; · iexact S₀
        isplitl [S₁] <;> iassumption
      · isplitl [Q₀]; · iexact Q₀
        isplitl [Q₁] <;> iassumption
    isplitl [B₀ B₁ B₂]
    · isplitl [B₀]; · iexact B₀
      isplitl [B₁] <;> iassumption
    iempintro
  · simp only [if_neg h0, if_neg h3, if_neg h4]
    iintro ⟨Hr, -, Hs, Hl, Hq, Hb⟩
    isplitl [Hs Hr Hl Hq]
    · isplitl [Hs]; · iexact Hs
      isplitl [Hr]; · iexact Hr
      isplitl [Hl] <;> iassumption
    isplitl [Hb]; · iexact Hb
    iempintro

/-! ## The exchanges' resources -/

theorem exPay_list : ∀ c : Dev nD, exPay c = [(partner c 0, kArr 0), (partner c 1, kArr 1), (partner c 2, kArr 2), (partner c 3, kArr 3), (partner c 4, kArr 4), (partner c 5, kArr 5)] := by
  decide +kernel
theorem exSends_list : exSends = [kArs 0, kArs 1, kArs 2, kArs 3, kArs 4, kArs 5] := by decide +kernel
theorem arr_paid (c : Dev nD) (j : Fin 6) : payers c (kArr j) ≠ ∅ := by rw [arr_payer]; exact Finset.singleton_ne_empty _
theorem ars_paid (c : Dev nD) (j : Fin 6) : payers c (kArs j) ≠ ∅ := by rw [ars_payer]; exact Finset.singleton_ne_empty _

theorem ex_take (c : Dev nD) :
    iprop(six (fun j => st c (kArs j)) ∗ six (fun j => st c (kArr j)) ∗ sendToks c exSends ∗ bigSepL arrs6 (credit c) ∗ bigSepL (exPay c) landBuf)
      ⊢ (six (exRes c) : sProp 𝕄) := by
  rw [exPay_list]
  unfold six exRes sendToks arrs6
  simp only [exSends_list, st_some (arr_paid c _), st_some (ars_paid c _), cons2, bigSepL_singleton]
  iintro ⟨⟨S₀, S₁, S₂, S₃, S₄, S₅⟩, ⟨R₀, R₁, R₂, R₃, R₄, R₅⟩, ⟨T₀, T₁, T₂, T₃, T₄, T₅⟩, ⟨C₀, C₁, C₂, C₃, C₄, C₅⟩, L₀, L₁, L₂, L₃, L₄, L₅⟩
  isplitl [S₀ R₀ T₀ C₀ L₀]
  · isplitl [L₀]; · iexact L₀
    isplitl [T₀]; · iexact T₀
    isplitl [C₀]; · iexact C₀
    isplitl [R₀] <;> iassumption
  isplitl [S₁ R₁ T₁ C₁ L₁]
  · isplitl [L₁]; · iexact L₁
    isplitl [T₁]; · iexact T₁
    isplitl [C₁]; · iexact C₁
    isplitl [R₁] <;> iassumption
  isplitl [S₂ R₂ T₂ C₂ L₂]
  · isplitl [L₂]; · iexact L₂
    isplitl [T₂]; · iexact T₂
    isplitl [C₂]; · iexact C₂
    isplitl [R₂] <;> iassumption
  isplitl [S₃ R₃ T₃ C₃ L₃]
  · isplitl [L₃]; · iexact L₃
    isplitl [T₃]; · iexact T₃
    isplitl [C₃]; · iexact C₃
    isplitl [R₃] <;> iassumption
  isplitl [S₄ R₄ T₄ C₄ L₄]
  · isplitl [L₄]; · iexact L₄
    isplitl [T₄]; · iexact T₄
    isplitl [C₄]; · iexact C₄
    isplitl [R₄] <;> iassumption
  isplitl [L₅]; · iexact L₅
  isplitl [T₅]; · iexact T₅
  isplitl [C₅]; · iexact C₅
  isplitl [R₅] <;> iassumption

/-! ## The body -/

/-- What the body keeps of a device's memory: the staged blocks it reads. -/
def staged (c : Dev nD) : sProp 𝕄 :=
  iprop(owns (c : Thread nD τ) (Memref.whole cc0_stg0_0) fullShare (xV m c) ∗ owns (c : Thread nD τ) (Memref.whole cc0_stg1_0) fullShare (wqV m c)
    ∗ owns (c : Thread nD τ) (Memref.whole cc0_stg2_0) fullShare (woV m c))
def bufs (c : Dev nD) : sProp 𝕄 :=
  iprop(anyIn c (Memref.whole cc0_scratch1) ∗ anyIn c (Memref.whole cc0_scratch6) ∗ anyIn c (Memref.whole cc0_scratch8) ∗ anyIn c (Memref.whole cc0_scratch10))
def bodyIn (c : Dev nD) : sProp 𝕄 :=
  iprop(facts m K ∗ duty c (payList c) ∗ sendToks c (midSend c ++ exSends) ∗ (bigSep Finset.univ fun k : Kd => posn c k) ∗ cred (tallyAt (kcell (c, kBar)) () 7)
    ∗ bigSepL (kvCr c ++ arrs6) (credit c) ∗ bigSepL (lands c) landBuf ∗ dev0 m c ∗ bufs c ∗ staged m c ∗ anyIn c (Memref.whole cc0_stg3_0))
def bodyOut (c : Dev nD) : sProp 𝕄 :=
  iprop(duty c [] ∗ (bigSep Finset.univ fun k : Kd => zero c k) ∗ anyIn c (Memref.whole cc0_scratch0) ∗ (bigSep Finset.univ fun s : Fin 3 => anyIn c (rbSlot s))
    ∗ six (fun j => anyIn c (dstB j)) ∗ dev0 m c ∗ bufs c ∗ staged m c ∗ owns (c : Thread nD τ) (Memref.whole cc0_stg3_0) fullShare (outV m c))

theorem exL_zero (c : Dev nD) : exL c 0 = exPay c := rfl

theorem bar_paid (c : Dev nD) : payers c kBar ≠ ∅ := by
  intro h
  have e := payers_bar_card c
  rw [h] at e
  simp at e

theorem device_step {α : Type} (c : Dev nD) (k : Dev nD → P F α) (Φ : α → sProp 𝕄) :
    run c (k c) Φ ⊢ run c ((Prog.lift .deviceId : P F (Dev nD)) >>= k) Φ := by
  rw [show ((Prog.lift .deviceId : P F (Dev nD)) >>= k) = Prog.op .deviceId k from rfl]
  simp only [run]
  rw [wp_deviceId]

theorem cells_start (c : Dev nD) : (bigSep Finset.univ fun k : Kd => st c k)
    ⊢ (iprop(posn c kBar ∗ kvCells (st c) ∗ six (fun j => st c (kArs j)) ∗ six (fun j => st c (kArr j))) : sProp 𝕄) := by
  rw [← st_some (bar_paid c)]
  exact cells_fwd (st c)

theorem body_step (c : Dev nD) (Φ : PUnit → sProp 𝕄) : bodyIn m K c ⊢ iprop((bodyOut m c -∗ Φ ⟨⟩) -∗ run c bodyP Φ) := by
  unfold bodyIn
  have et : (sendToks c (midSend c ++ exSends) : sProp 𝕄) = iprop(sendToks c (midSend c) ∗ sendToks c exSends) := by
    unfold sendToks; rw [bigSepL_append]
  have ec : (bigSepL (kvCr c ++ arrs6) (credit c) : sProp 𝕄) = iprop(bigSepL (kvCr c) (credit c) ∗ bigSepL arrs6 (credit c)) := by
    rw [bigSepL_append]
  have el : (bigSepL (tgtPay c) landBuf : sProp 𝕄) = iprop(bigSepL (midPay c) landBuf ∗ bigSepL (exPay c) landBuf) := by
    rw [tgtPay, bigSepL_append]
  rw [et, ec]
  unfold bufs staged
  iintro ⟨#HF, Hd, ⟨Tm, Te⟩, Hp, Hb, ⟨Cm, Ce⟩, Hl, H0, ⟨B₁, B₆, B₈, B₁₀⟩, ⟨Hx, Hw, Ho⟩, Hout⟩ Hk
  imod (close_all m K c) $$ [Hp] with Hst
  · isplitr; · iexact HF
    iexact Hp
  ihave Hst := (cells_start c) $$ Hst
  icases Hst with ⟨Sb, Sk, Ss, Sr⟩
  unfold bodyP
  iapply (device_step c)
  simp only [run]
  rw [wp_bind]
  iapply (enter_step m K c) $$ [Hd Hb Sb Hl]
  · isplitr; · iexact HF
    isplitl [Hd]; · iexact Hd
    isplitl [Hb]; · iexact Hb
    isplitl [Sb] <;> iassumption
  rw [el]
  iintro ⟨Hd, Zb, ⟨Lm, Le⟩, Lk⟩
  ihave H := (kv_take m c) $$ [Sk Tm Cm Lm Lk H0]
  · isplitl [Sk]; · iexact Sk
    isplitl [Tm]; · iexact Tm
    isplitl [Cm]; · iexact Cm
    isplitl [Lm]; · iexact Lm
    isplitl [Lk] <;> iassumption
  icases H with ⟨IA, IB, IC, ID, IR⟩
  ihave Hx6 := (ex_take c) $$ [Ss Sr Te Ce Le]
  · isplitl [Ss]; · iexact Ss
    isplitl [Sr]; · iexact Sr
    isplitl [Te]; · iexact Te
    isplitl [Ce] <;> iassumption
  unfold six
  icases Hx6 with ⟨X₀, X₁, X₂, X₃, X₄, X₅⟩
  rw [wp_bind]
  iapply (partA_step m K c) $$ [Hd IA Hx Hw]
  · isplitr; · iexact HF
    isplitl [Hd]; · iexact Hd
    isplitl [IA]; · iexact IA
    isplitl [Hx] <;> iassumption
  iintro ⟨Hd, OA, Hx, Hw⟩
  simp only []
  rw [wp_bind]
  iapply (partB_step m K c) $$ [Hd IB]
  · isplitr; · iexact HF
    isplitl [Hd] <;> iassumption
  iintro ⟨Hd, OB⟩
  simp only []
  rw [wp_bind]
  iapply (partC_step m K c _ rfl) $$ [Hd IC]
  · isplitr; · iexact HF
    isplitl [Hd] <;> iassumption
  iintro ⟨Hd, OC⟩
  simp only []
  ihave H := (kv_have m c) $$ [OA OC]
  · isplitl [OA] <;> iassumption
  icases H with ⟨Hkv, OAC⟩
  rw [wp_bind]
  iapply (attn_step m c) $$ [Hkv B₁ Ho]
  · isplitl [Hkv]; · iexact Hkv
    isplitl [B₁] <;> iassumption
  iintro ⟨Hkv, B₁, Ho⟩
  rw [wp_bind]
  iapply (halve_step m K c) $$ [B₆ B₈ B₁₀ X₀ X₁ X₂ Hd]
  · isplitr; · iexact HF
    isplitl [B₆]; · iexact B₆
    isplitl [B₈]; · iexact B₈
    isplitl [B₁₀]; · iexact B₁₀
    isplitl [X₀]; · iexact X₀
    isplitl [X₁]; · iexact X₁
    isplitl [X₂]; · iexact X₂
    iexact Hd
  iintro ⟨M₀, M₁, B₁₀, D₂, Z₂, Hd⟩
  rw [wp_bind]
  iapply (double_step m K c) $$ [M₀ M₁ B₁₀ X₃ X₄ X₅ Hd Hout]
  · isplitr; · iexact HF
    isplitl [M₀]; · iexact M₀
    isplitl [M₁]; · iexact M₁
    isplitl [B₁₀]; · iexact B₁₀
    isplitl [X₃]; · iexact X₃
    isplitl [X₄]; · iexact X₄
    isplitl [X₅]; · iexact X₅
    isplitl [Hd] <;> iassumption
  unfold exDone
  icases Z₂ with ⟨ZR₂, ZS₂⟩
  iintro ⟨⟨ZR₀, ZS₀⟩, ⟨ZR₁, ZS₁⟩, ⟨ZR₃, ZS₃⟩, ⟨ZR₄, ZS₄⟩, ⟨ZR₅, ZS₅⟩, B₆, B₈, B₁₀, D₀, D₁, D₃, D₄, D₅, Hd, Hout⟩
  iapply (partD_step m K c) $$ [Hd OB ID]
  · isplitr; · iexact HF
    isplitl [Hd]; · iexact Hd
    isplitl [OB] <;> iassumption
  iintro ⟨Hd, OD⟩
  ihave H := (kv_done m c) $$ [OAC OD IR]
  · isplitl [OAC]; · iexact OAC
    isplitl [OD] <;> iassumption
  icases H with ⟨Zk, Hrb, H0⟩
  iapply Hk
  unfold bodyOut bufs staged
  isplitl [Hd]; · iexact Hd
  isplitl [Zb Zk ZR₀ ZR₁ ZR₂ ZR₃ ZR₄ ZR₅ ZS₀ ZS₁ ZS₂ ZS₃ ZS₄ ZS₅]
  · iapply (cells_bwd (zeros c))
    unfold cells six zeros
    isplitl [Zb]; · iexact Zb
    isplitl [Zk]; · iexact Zk
    isplitl [ZS₀ ZS₁ ZS₂ ZS₃ ZS₄ ZS₅]
    · isplitl [ZS₀]; · iexact ZS₀
      isplitl [ZS₁]; · iexact ZS₁
      isplitl [ZS₂]; · iexact ZS₂
      isplitl [ZS₃]; · iexact ZS₃
      isplitl [ZS₄] <;> iassumption
    · isplitl [ZR₀]; · iexact ZR₀
      isplitl [ZR₁]; · iexact ZR₁
      isplitl [ZR₂]; · iexact ZR₂
      isplitl [ZR₃]; · iexact ZR₃
      isplitl [ZR₄] <;> iassumption
  isplitl [Hkv]
  · iapply (any_of c _ _); iexact Hkv
  isplitl [Hrb]
  · rw [three_eq]; iexact Hrb
  isplitl [D₀ D₁ D₂ D₃ D₄ D₅]
  · unfold six
    isplitl [D₀]; · iexact D₀
    isplitl [D₁]; · iexact D₁
    isplitl [D₂]; · iexact D₂
    isplitl [D₃]; · iexact D₃
    isplitl [D₄] <;> iassumption
  isplitl [H0]; · iexact H0
  isplitl [B₁ B₆ B₈ B₁₀]
  · isplitl [B₁]; · iexact B₁
    isplitl [B₆]; · iexact B₆
    isplitl [B₈] <;> iassumption
  isplitl [Hx Hw Ho]
  · isplitl [Hx]; · iexact Hx
    isplitl [Hw] <;> iassumption
  iexact Hout

end Cert.KernelIdeal.Att
-- ==== Proof.Launch.lean ====
/- The cells' ghost state and its dealing to the devices: every cell's invariant, each device's tokens for the payments
   it makes, the credit with which it waits. -/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F] [Named F]

local notation "𝕄" => MT nD τ sig Unit (Elt F) ℕ UU ℕ

variable (m : (ℓ : Loc nD τ sig) → Buf (Elt F) ℓ) (K : Dev nD × Kd → ℕ)

/-- The kinds of cell but the barrier's, listed. -/
def ownKinds : List Kd :=
  (List.finRange 14).map kKvs ++ (List.finRange 2).map kKvr ++ (List.finRange 3).map kRls ++ (List.finRange 3).map kRlr
    ++ (List.finRange 6).map kArs ++ (List.finRange 6).map kArr
theorem kinds_all : (Finset.univ : Finset Kd) = (kBar :: ownKinds).toFinset := by decide +kernel
theorem kinds_nodup : (kBar :: ownKinds).Nodup := by decide +kernel

/-- The kernel's own semaphores. -/
def osem (i : Fin 42) : SemLoc sig := .dma ⟨4 + i.val, by revert i; decide⟩
theorem ownSemFacts : Pipeline.OwnSemFacts cfg0.spec osem := by decide +kernel
theorem osem_list : (List.finRange 42).map osem = ([(0 : Fin 8), 1, 2, 3].map fun i => SemLoc.dma (copyS i)) ++ (([(4 : Fin 8), 5, 6, 7].map fun i => SemLoc.dma (copyS i)) ++ ownKinds.map csem) := by
  decide +kernel

/-- The copy semaphores no section touches. -/
def idleSems (c : Dev nD) : sProp 𝕄 := bigSepL [(4 : Fin 8), 5, 6, 7] fun i => semVal ((c : Thread nD τ), SemLoc.dma (copyS i)) 0

theorem ownSems_eq (c : Dev nD) : (Pipeline.ownSems0 (Ix := Unit) (Name := ℕ) (U := UU) (Lvl := ℕ) (Val := Elt F) (τ := τ) osem c : sProp 𝕄)
    = iprop(copies c ∗ idleSems c ∗ bigSepL ownKinds fun k => zero c k) := by
  rw [Pipeline.ownSems0_eq_of_list c osem (List.finRange 42) (by decide) (List.nodup_finRange 42),
    ← bigSepL_map osem (List.finRange 42) (fun s => (semVal ((c : Thread nD τ), s) 0 : sProp 𝕄)), osem_list, bigSepL_append, bigSepL_append, bigSepL_map, bigSepL_map, bigSepL_map]
  rfl
theorem barSem_eq (c : Dev nD) : (unscopedSems0 c : sProp 𝕄) = zero c kBar := by
  unfold unscopedSems0; rw [bigSep_eq_bigSepL_of_eq [SemLoc.reg barS] (by decide) (by decide)]; rfl
theorem zeros_eq (c : Dev nD) : (bigSep Finset.univ fun k : Kd => (zero c k : sProp 𝕄)) = iprop(zero c kBar ∗ bigSepL ownKinds fun k => zero c k) := by
  rw [bigSep_univ_eq_bigSepL (kBar :: ownKinds) kinds_all kinds_nodup, bigSepL_cons']

/-! ## The ghost state minted and dealt -/

def attCells : Finset (GSem nD τ sig) := Finset.univ.map ⟨kcell, kcell_inj⟩
/-- A token, by the device that pays with it and the cell it pays. -/
def tokOf (y : Dev nD × (Dev nD × Kd)) : GSem nD τ sig × ℕ × Dev nD := (kcell y.2, 0, y.1)
theorem tokOf_inj : Function.Injective tokOf := by
  rintro ⟨d, x⟩ ⟨d', x'⟩ h
  have h₁ : kcell x = kcell x' := congrArg Prod.fst h
  have h₂ : d = d' := congrArg (fun z : GSem nD τ sig × ℕ × Dev nD => z.2.2) h
  rw [kcell_inj h₁, h₂]
def attToks : Finset (GSem nD τ sig × ℕ × Dev nD) := (Finset.univ.filter fun y : Dev nD × (Dev nD × Kd) => y.2 ∈ tokList y.1).map ⟨tokOf, tokOf_inj⟩

def u₀ : UU := (initOf (Pipeline.cells cfgs cellOf_inj) (Pipeline.launchToks cfgs cellOf_inj), (initOf attCells attToks, 1))

/-- What a device is dealt: its cells' states, its positions with the marks that its cells are reached, its tokens. -/
def marks (c : Dev nD) : sProp 𝕄 := bigSep Finset.univ fun k : Kd => iprop(posn c k ∗ reached ER (kcell (c, k)) 0)
def G (c : Dev nD) : sProp 𝕄 := iprop((bigSep Finset.univ fun k : Kd => roundState ER (attRd m) (kcell (c, k)) 0) ∗ marks c ∗ tokens c (tokList c))
/-- What it holds once the invariants stand. -/
def G' (c : Dev nD) : sProp 𝕄 :=
  iprop(∃ K : Dev nD × Kd → ℕ, ((bigSep Finset.univ fun x : Dev nD × Kd => cellInv ER (attRd m) (K x) (kcell x)) ∗ bigSep Finset.univ fun x : Dev nD × Kd => reached ER (kcell x) 0)
    ∗ (bigSep Finset.univ fun k : Kd => posn c k) ∗ tokens c (tokList c) ∗ copies c ∗ idleSems c)

theorem cells_dealt (Φ : GSem nD τ sig → sProp 𝕄) : bigSep attCells Φ = bigSep Finset.univ fun c : Dev nD => bigSep Finset.univ fun k : Kd => Φ (kcell (c, k)) := by
  unfold attCells; rw [bigSep_map, bigSep_univ_prod]; rfl
theorem toks_dealt : bigSep attToks (fun x => (dutyTok ER x.1 x.2.1 x.2.2 : sProp 𝕄)) = bigSep Finset.univ fun c : Dev nD => tokens c (tokList c) := by
  unfold attToks
  rw [bigSep_map, bigSep_filter, bigSep_univ_prod]
  refine bigSep_congr fun c _ => ?_
  have e : Finset.univ.filter (fun x : Dev nD × Kd => x ∈ tokList c) = (tokList c).toFinset := by ext x; simp
  unfold tokens
  rw [← bigSep_eq_bigSepL_of_eq (tokList c) rfl (tokList_nodup c) (fun x => (dutyTok ER (kcell x) 0 c : sProp 𝕄)), ← e, bigSep_filter]
  rfl

/-- What is minted is what the devices are dealt. -/
theorem dealt : iprop((bigSep attCells fun g => roundState ER (attRd m) g 0) ∗ (bigSep attCells fun g => reached ER g 0)
      ∗ (bigSep attCells fun g => atPos ER g 0 ∅ 0) ∗ bigSep attToks fun x => (dutyTok ER x.1 x.2.1 x.2.2 : sProp 𝕄)) ⊢ bigSep Finset.univ (G m) := by
  have e : (bigSep Finset.univ (G m) : sProp 𝕄) = iprop((bigSep Finset.univ fun c : Dev nD => bigSep Finset.univ fun k : Kd => roundState ER (attRd m) (kcell (c, k)) 0)
      ∗ (((bigSep Finset.univ fun c : Dev nD => bigSep Finset.univ fun k : Kd => posn c k) ∗ bigSep Finset.univ fun c : Dev nD => bigSep Finset.univ fun k : Kd => reached ER (kcell (c, k)) 0))
      ∗ bigSep Finset.univ fun c : Dev nD => tokens c (tokList c)) := by
    unfold G marks; simp only [bigSep_sep']
  rw [e, cells_dealt, cells_dealt, cells_dealt, toks_dealt]
  iintro ⟨Hst, Hr, Hat, Htok⟩
  isplitl [Hst]; · iexact Hst
  isplitl [Hat Hr]
  · isplitl [Hat] <;> iassumption
  iexact Htok

theorem fund_att : BI.own (ER (initOf attCells attToks)) ⊢ (|==> bigSep Finset.univ (G m) : sProp 𝕄) := by
  iintro HX
  imod (Rounds.fund ER (attRd m) attCells attToks) $$ HX with ⟨Hst, Hr, Hat, Htok⟩
  imodintro
  iapply (dealt m)
  isplitl [Hst]; · iexact Hst
  isplitl [Hr]; · iexact Hr
  isplitl [Hat] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (attRd m) κ (kcell (c, k))))
          ∗ marks c ∗ tokens c (tokList c) ∗ copies c ∗ idleSems c) := by
  have ha : iprop((bigSep Finset.univ fun k : Kd => zero c k) ∗ bigSep Finset.univ fun k : Kd => roundState ER (attRd m) (kcell (c, k)) 0)
      ⊢ (|={Set.univ}=> bigSep Finset.univ fun k => iprop(∃ κ : ℕ, cellInv ER (attRd m) κ (kcell (c, k))) : sProp 𝕄) := by
    rw [← bigSep_sep']
    exact (bigSep_mono fun k _ => (Rounds.body_intro ER (attRd m) (kcell (c, k))).trans inv_alloc).trans (bigSep_fupd _ _)
  rw [zeros_eq] at ha
  rw [ownSems_eq, barSem_eq]
  unfold G
  iintro ⟨⟨Hc, Hi, Hk⟩, Hb, Hst, Hm, Ht⟩
  imod ha $$ [Hk Hb Hst] with Hinv
  · isplitl [Hk Hb]
    · isplitl [Hb] <;> iassumption
    iexact Hst
  imodintro
  isplitl [Hinv]; · iexact Hinv
  isplitl [Hm]; · iexact Hm
  isplitl [Ht]; · iexact Ht
  isplitl [Hc] <;> iassumption

/-- What of it is the device's alone. -/
def mine (c : Dev nD) : sProp 𝕄 := iprop((bigSep Finset.univ fun k : Kd => posn c k) ∗ tokens c (tokList c) ∗ copies c ∗ idleSems c)
def recs : sProp 𝕄 :=
  iprop((bigSep Finset.univ fun x : Dev nD × Kd => cellInv ER (attRd m) (K x) (kcell x)) ∗ bigSep Finset.univ fun x : Dev nD × Kd => reached ER (kcell x) 0)
instance recs_persistent : BI.Persistent (recs m K) := by unfold recs; infer_instance

theorem mine_all : iprop((bigSep Finset.univ fun c : Dev nD => bigSep Finset.univ fun k : Kd => (posn c k : sProp 𝕄))
      ∗ bigSep Finset.univ fun c : Dev nD => iprop(tokens c (tokList c) ∗ copies c ∗ idleSems c)) ⊢ (bigSep Finset.univ mine : sProp 𝕄) := by
  unfold mine
  rw [← bigSep_sep']

theorem regroup :
    (bigSep Finset.univ fun c : Dev nD => iprop((bigSep Finset.univ fun k => iprop(∃ κ : ℕ, cellInv ER (attRd m) κ (kcell (c, k))))
          ∗ marks c ∗ tokens c (tokList c) ∗ copies c ∗ idleSems c) : sProp 𝕄)
      ⊢ bigSep Finset.univ (G' m) := by
  unfold marks
  rw [bigSep_sep' (Φ := fun c => bigSep Finset.univ fun k => iprop(∃ κ : ℕ, cellInv ER (attRd m) κ (kcell (c, k)))), bigSep_sep' (Φ := fun c => bigSep Finset.univ fun k => iprop(posn c k ∗ reached ER (kcell (c, k)) 0)), ← bigSep_univ_prod (fun ck : Dev nD × Kd => iprop(∃ κ : ℕ, cellInv ER (attRd m) κ (kcell ck))),
    bigSep_congr (s := Finset.univ) (fun (c : Dev nD) _ => bigSep_sep' Finset.univ (fun k : Kd => (posn c k : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Hrest⟩
  ihave HK := (BI.bigSep_exists_pi Finset.univ (fun (ck : Dev nD × Kd) (κ : ℕ) => (cellInv ER (attRd m) κ (kcell ck) : sProp 𝕄))) $$ HI
  icases HK with ⟨%K, #HI⟩
  iapply (bigSep_with_persistent (R := recs m K) (Φ := mine) fun c _ => ?_)
  · unfold recs mine G'
    iintro ⟨⟨HI, HR⟩, H⟩
    iexists K
    isplitl [HI HR]
    · isplitl [HI] <;> iassumption
    iexact H
  isplitr
  · unfold recs; isplitl; · iexact HI
    iexact HR
  · iapply mine_all
    isplitl [Hat]; · iexact Hat
    iexact Hrest

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

def O₀ (c : Dev nD) : CellTallies nD τ sig Unit := owe (payList c)

/-- How often a payment stands in a list. -/
def times (x : Dev nD × Kd) (l : List (Dev nD × Kd)) : ℕ := (l.filter fun y => decide (y = x)).length
theorem owe_apply (x : Dev nD × Kd) : ∀ l : List (Dev nD × Kd), owe l (kcell x) () = times x l * amt x.2
  | [] => by rw [show times x [] = 0 from rfl, Nat.zero_mul]; rfl
  | y :: l => by
    show (owe l + tallyAt (kcell y) () (amt y.2)) (kcell x) () = _
    rw [Pi.add_apply, Finsupp.add_apply, owe_apply x l, tallyAt_apply]
    unfold times
    by_cases h : y = x
    · subst h; rw [if_pos ⟨rfl, rfl⟩, List.filter_cons_of_pos (by simp), List.length_cons, Nat.add_mul, Nat.one_mul]
    · rw [if_neg (fun ⟨h₁, _⟩ => h (kcell_inj h₁).symm), List.filter_cons_of_neg (by simpa using h), Nat.add_zero]

/-- The cells a device waits on with credit from the start. -/
def crKinds (c : Dev nD) : List Kd := kBar :: (kvCr c ++ arrs6)
theorem cr_nodup : ∀ c : Dev nD, ((crKinds c).map csem).Nodup := by decide +kernel
theorem count_bar : ∀ c : Dev nD, (∑ d : Dev nD, times (c, kBar) (payList d)) = 7 := by decide +kernel
theorem count_one : ∀ c : Dev nD, ∀ k ∈ kvCr c ++ arrs6, (∑ d : Dev nD, times (c, k) (payList d)) = 1 := by decide +kernel

theorem launch_at (c : Dev nD) (k : Kd) (n : Nat) (h : (∑ d : Dev nD, times (c, k) (payList d)) = n) :
    tallyOn (kcell (c, k)) (launchCredit (Pipeline.owing O₀) 0 (kcell (c, k))) = (tallyAt (kcell (c, k)) () (n * amt k) : CellTallies nD τ sig Unit) := by
  unfold tallyAt; refine congrArg _ (Finsupp.ext fun u => ?_); cases u
  rw [Pipeline.launchCredit_owing, Finsupp.single_eq_same, ← h, Finset.sum_mul]
  exact Finset.sum_congr rfl fun d _ => owe_apply (c, k) (payList d)

theorem creds (c : Dev nD) :
    (Pipeline.launchCred O₀ c : sProp 𝕄) ⊢ iprop(cred (tallyAt (kcell (c, kBar)) () 7) ∗ bigSepL (kvCr c ++ arrs6) (credit c)) := by
  unfold Pipeline.launchCred
  have e := BI.bigSep_sdiff_split (Finset.subset_univ ((crKinds c).map csem).toFinset)
    (Φ := fun sm : SemLoc sig => (cred (tallyOn ((c : Thread nD τ), sm) (launchCredit (Pipeline.owing O₀) 0 ((c : Thread nD τ), sm))) : sProp 𝕄))
  have e' : (bigSep Finset.univ fun sm : SemLoc sig => (cred (tallyOn ((c : Thread nD τ), sm) (launchCredit (Pipeline.owing O₀) 0 ((c : Thread nD τ), sm))) : sProp 𝕄))
      = iprop((bigSep ((crKinds c).map csem).toFinset fun sm : SemLoc sig => (cred (tallyOn ((c : Thread nD τ), sm) (launchCredit (Pipeline.owing O₀) 0 ((c : Thread nD τ), sm))) : sProp 𝕄))
        ∗ bigSep (Finset.univ \ ((crKinds c).map csem).toFinset) fun sm : SemLoc sig => (cred (tallyOn ((c : Thread nD τ), sm) (launchCredit (Pipeline.owing O₀) 0 ((c : Thread nD τ), sm))) : sProp 𝕄)) := e
  rw [e', bigSep_eq_bigSepL_of_eq ((crKinds c).map csem) rfl (cr_nodup c), bigSepL_map, crKinds, bigSepL_cons']
  have hb : (cred (tallyOn ((c : Thread nD τ), csem kBar) (launchCredit (Pipeline.owing O₀) 0 ((c : Thread nD τ), csem kBar))) : sProp 𝕄) = cred (tallyAt (kcell (c, kBar)) () 7) :=
    congrArg _ (launch_at c kBar 7 (count_bar c))
  have hk : (bigSepL (kvCr c ++ arrs6) fun k => (cred (tallyOn ((c : Thread nD τ), csem k) (launchCredit (Pipeline.owing O₀) 0 ((c : Thread nD τ), csem k))) : sProp 𝕄))
      ⊢ bigSepL (kvCr c ++ arrs6) (credit c) := by
    rw [← bigSep_eq_bigSepL_of_eq (kvCr c ++ arrs6) rfl (List.Nodup.of_map csem (List.nodup_cons.mp (cr_nodup c)).2),
      ← bigSep_eq_bigSepL_of_eq (kvCr c ++ arrs6) rfl (List.Nodup.of_map csem (List.nodup_cons.mp (cr_nodup c)).2)]
    refine bigSep_mono fun k hk => ?_
    have hc := launch_at c k 1 (count_one c k (List.mem_toFinset.mp hk))
    rw [Nat.one_mul] at hc
    show cred (tallyOn (kcell (c, k)) (launchCredit (Pipeline.owing O₀) 0 (kcell (c, k)))) ⊢ cred (tallyAt (kcell (c, k)) () (amt k))
    rw [hc]
  rw [hb]
  iintro ⟨⟨H₁, H₂⟩, -⟩
  isplitl [H₁]; · iexact H₁
  iapply hk; iexact H₂

end Cert.KernelIdeal.Att
-- ==== Proof.TextEq.lean ====
/- The printed body is the sections. -/
module

public import proofs.«01_k».proof.Proof.Text

@[expose] public section

set_option maxRecDepth 65536

noncomputable section

namespace Cert.KernelIdeal.Att

open Idealize.ShloMosaic Idealize.ShloMosaic.TcCoe
open Idealize.SL Idealize.SL.RA Idealize.SL.BI
open Idealize.SL.Sem
open Cert.KernelIdeal.Gen

variable {F : FTy → Type} [FloatOps F] [Named F]

theorem partA_eq (c : Dev nD) (n : BitVec 1) : k0_part42 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c n = partA c := rfl
theorem partB_eq (c : Dev nD) (x : FVec F S1024x1024 .bf16) (w : Vec F S1024x1024 .f32) :
    k0_part43 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c (meW c) x w = partB c x w := rfl
theorem partC_eq (n : BitVec 32) : k0_part44 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 n = partC n := rfl

theorem p58 (c : Dev nD) (v626 : BitVec 1) (v629 : FVec F S1024x1024 .bf16) : k0_part58 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v626 v629 = (do
  let d₃ ← load512 (Memref.whole cc0_scratch14)
  let d₄ ← load512 (Memref.whole cc0_scratch6)
  storeAll (Memref.whole cc0_stg3_0) ![0, 0, 0] inb_S1x1024x1024_S1x1024x1024_0_0_0 h_S1x1024x1024 (View.stores_vmem_bits_univ h_S1x1024x1024 rfl)
    (k0_pay67 v626 v629 d₃ d₄)
  exSent 3
  exSent 4
  exSent 5
  partD c) := rfl
theorem p5657 (c : Dev nD) (xb yb zb z w x : BitVec 32) (K : BitVec 1 → FVec F S1024x1024 .bf16 → P F PUnit) : (do
    k0_part56 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c xb z w
    let ⟨v626, v629⟩ ← k0_part57 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c zb yb x
    K v626 v629) = (do
  exSend c 3
  exWait 3
  let a₁ ← load128 (Memref.whole cc0_scratch10)
  let a₂ ← load128 (Memref.whole cc0_scratch12)
  let a₃ ← load128 (Memref.whole cc0_scratch12)
  let a₄ ← load128 (Memref.whole cc0_scratch10)
  exSent 1
  store256 (k0_pay64 xb a₁ a₂ a₃ a₄)
  exSend c 4
  exWait 4
  let b₁ ← load256 (Memref.whole cc0_scratch8)
  let b₂ ← load256 (Memref.whole cc0_scratch13)
  let b₃ ← load256 (Memref.whole cc0_scratch13)
  let b₄ ← load256 (Memref.whole cc0_scratch8)
  exSent 0
  store512 (k0_pay65 yb b₁ b₂ b₃ b₄)
  exSend c 5
  exWait 5
  let d₁ ← load512 (Memref.whole cc0_scratch6)
  let d₂ ← load512 (Memref.whole cc0_scratch14)
  K (Scalar.cmpi .eq zb 0#32) (k0_pay66 d₁ d₂)) := rfl
theorem p5455 (c : Dev nD) (p : FVec F S1024x1024 .f32) (xb yb zb v475 v503 v488 : BitVec 32) (K : P F PUnit) : (do
  let ⟨v538, v539, v540⟩ ← k0_part54 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c p zb yb xb v475 v503
  k0_part55 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c xb v488 v538 v539 v540
  K) = (do
  exWait 0
  let a ← load512 (Memref.whole cc0_scratch7)
  store256 (k0_pay59 p zb yb a)
  exSend c 1
  exWait 1
  let b ← load256 (Memref.whole cc0_scratch9)
  store128 (k0_pay62 (k0_pay60 p zb yb a b) (Scalar.cmpi .eq xb 0#32) (k0_pay61 p zb yb a b))
  exSend c 2
  exWait 2
  let d ← load128 (Memref.whole cc0_scratch11)
  exSent 2
  store128 (k0_pay63 xb (k0_pay60 p zb yb a b) d)
  K) := rfl

theorem p53 (c : Dev nD) (p : FVec F S1024x1024 .f32) (v2 v389 v406 v464 v465 : BitVec 32) (v466 : BitVec 1) (n : BitVec 32) :
    ∃ u₁ u₂ u₃ u₄ : BitVec 32, ∀ K : BitVec 32 → BitVec 32 → BitVec 32 → BitVec 32 → P F PUnit, (do
      let ⟨v472, v475, v488, v503⟩ ← k0_part53 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c v2 p v389 v406 v464 v465 v466 n
      K v472 v475 v488 v503) = (do
    store512 (k0_pay57 p v406)
    exSend c 0
    K u₁ u₂ u₃ u₄) := ⟨_, _, _, _, fun _ => rfl⟩
theorem p5152 (c : Dev nD) : ∃ (w₁ w₂ : BitVec 32) (w₃ : BitVec 1) (w₄ : BitVec 32),
    ∀ K : BitVec 32 → BitVec 32 → BitVec 32 → BitVec 32 → BitVec 32 → BitVec 32 → BitVec 1 → BitVec 32 → P F PUnit, (do
      let ⟨v389, v406, v423, c2_i32_287, v424, v426, v428⟩ ← k0_part51 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) (Scalar.select (Scalar.cmpi .eq 4#32 0#32) 1#32 4#32) (Scalar.remsi (meW c) (Scalar.select (Scalar.cmpi .eq 4#32 0#32) 1#32 4#32))
        (Scalar.cmpi .ne (Scalar.remsi (meW c) (Scalar.select (Scalar.cmpi .eq 4#32 0#32) 1#32 4#32)) 0#32)
        (Scalar.cmpi .slt (Scalar.remsi (meW c) (Scalar.select (Scalar.cmpi .eq 4#32 0#32) 1#32 4#32)) 0#32)
        (Scalar.cmpi .slt (Scalar.select (Scalar.cmpi .eq 4#32 0#32) 1#32 4#32 : BitVec 32) 0#32)
      let ⟨v461, v464, v465, v466, n⟩ ← k0_part52 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v389 c2_i32_287 v424 v426 v428
      K v389 v406 v423 v461 v464 v465 v466 n) =
    K (modW (meW c) 4#32) (zbW c) (ybW c) (xbW c) w₁ w₂ w₃ w₄ := ⟨_, _, _, _, fun _ => rfl⟩

theorem endT (c : Dev nD) (v472 v475 v488 : BitVec 32) : (do
  k0_part56 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c (xbW c) v475 v488
  let ⟨v626, v629⟩ ← k0_part57 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c (zbW c) (ybW c) v472
  k0_part58 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v626 v629
  pure ⟨⟩) = (do
  doubleP c
  partD c : P F PUnit) := by
  refine (p5657 c (xbW c) (ybW c) (zbW c) v475 v488 v472 (fun a b => do
    k0_part58 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) a b
    pure ⟨⟩)).trans ?_
  simp only [p58]
  simp only [doubleP, bind_assoc, show ∀ x : P F PUnit, (do x; pure ⟨⟩) = x from fun x => Prog.bind_pure x]
/-- After the words of the first exchange. -/
def restU (c : Dev nD) (p : FVec F S1024x1024 .f32) (v406 v423 v461 v472 v475 v488 v503 : BitVec 32) : P F PUnit := do
  let ⟨v538, v539, v540⟩ ← k0_part54 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c p v406 v423 v461 v475 v503
  k0_part55 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c v461 v488 v538 v539 v540
  k0_part56 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c v461 v475 v488
  let ⟨v626, v629⟩ ← k0_part57 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c v406 v423 v472
  k0_part58 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v626 v629
  pure ⟨⟩
/-- After the device's places. -/
def restT (c : Dev nD) (p : FVec F S1024x1024 .f32) (v389 v406 v423 v461 v464 v465 : BitVec 32) (v466 : BitVec 1) (c0_i32_311 : BitVec 32) : P F PUnit := do
  let ⟨v472, v475, v488, v503⟩ ← k0_part53 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c (meW c) p v389 v406 v464 v465 v466 c0_i32_311
  restU c p v406 v423 v461 v472 v475 v488 v503
/-- From the device's partial product on. -/
def tailT (c : Dev nD) (p : FVec F S1024x1024 .f32) (v381 v382 : BitVec 32) (v383 v384 v385 : BitVec 1) : P F PUnit := do
  let ⟨v389, v406, v423, c2_i32_287, v424, v426, v428⟩ ← k0_part51 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v381 v382 v383 v384 v385
  let ⟨v461, v464, v465, v466, c0_i32_311⟩ ← k0_part52 (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v389 c2_i32_287 v424 v426 v428
  restT c p v389 v406 v423 v461 v464 v465 v466 c0_i32_311
theorem restU_eq (c : Dev nD) (p : FVec F S1024x1024 .f32) (v472 v475 v488 v503 : BitVec 32) :
    restU c p (zbW c) (ybW c) (xbW c) v472 v475 v488 v503 = (do
  exWait 0
  let a ← load512 (Memref.whole cc0_scratch7)
  store256 (k0_pay59 p (zbW c) (ybW c) a)
  exSend c 1
  exWait 1
  let b ← load256 (Memref.whole cc0_scratch9)
  store128 (k0_pay62 (k0_pay60 p (zbW c) (ybW c) a b) (Scalar.cmpi .eq (xbW c) 0#32) (k0_pay61 p (zbW c) (ybW c) a b))
  exSend c 2
  exWait 2
  let d ← load128 (Memref.whole cc0_scratch11)
  exSent 2
  store128 (k0_pay63 (xbW c) (k0_pay60 p (zbW c) (ybW c) a b) d)
  doubleP c
  partD c) := by
  refine (p5455 c p (xbW c) (ybW c) (zbW c) v475 v503 v488 _).trans ?_
  rw [endT]
theorem tailT_eq (c : Dev nD) (p : FVec F S1024x1024 .f32) :
    tailT c p (Scalar.select (Scalar.cmpi .eq 4#32 0#32) 1#32 4#32) (Scalar.remsi (meW c) (Scalar.select (Scalar.cmpi .eq 4#32 0#32) 1#32 4#32))
      (Scalar.cmpi .ne (Scalar.remsi (meW c) (Scalar.select (Scalar.cmpi .eq 4#32 0#32) 1#32 4#32)) 0#32)
      (Scalar.cmpi .slt (Scalar.remsi (meW c) (Scalar.select (Scalar.cmpi .eq 4#32 0#32) 1#32 4#32)) 0#32)
      (Scalar.cmpi .slt (Scalar.select (Scalar.cmpi .eq 4#32 0#32) 1#32 4#32 : BitVec 32) 0#32) = (do
    halveP c p
    doubleP c
    partD c) := by
  obtain ⟨w₁, w₂, w₃, w₄, h⟩ := p5152 (F := F) c
  refine (h (restT c p)).trans ?_
  obtain ⟨u₁, u₂, u₃, u₄, h'⟩ := p53 (F := F) c p (meW c) (modW (meW c) 4#32) (zbW c) w₁ w₂ w₃ w₄
  refine (h' (restU c p (zbW c) (ybW c) (xbW c))).trans ?_
  rw [restU_eq]
  try rfl

/-- From attention on. -/
def tailS (c : Dev nD) (q : FVec F S1024x8x128 .bf16) (v140 v141 v143 : IVec S1024x1024 32) (v157 : IVec S1024x1024 1) (v158 : IVec S1024x1024 32)
    (T : FVec F S1024x1024 .f32 → BitVec 32 → BitVec 32 → BitVec 1 → BitVec 1 → BitVec 1 → P F PUnit) : P F PUnit := do
  let ⟨v166, v197⟩ ← k0_part45 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 q v140 v141 v143 v157 v158
  let v237 : FVec F S1024x1024 .bf16 ← k0_part46 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 q v166 v197
  let ⟨v272, v273⟩ ← k0_part47 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 q v166 v237
  let ⟨v310, v313⟩ ← k0_part48 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 q v166 v272 v273
  let v350 : FVec F S1024x128 .bf16 ← k0_part49 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 q v166 v310 v313
  let ⟨v379, v381, v382, v383, v384, v385⟩ ← k0_part50 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 (meW c) v166 v350
  T v379 v381 v382 v383 v384 v385
theorem tailS_eq (c : Dev nD) (q : FVec F S1024x8x128 .bf16) (v140 v141 v143 : IVec S1024x1024 32) (v157 : IVec S1024x1024 1) (v158 : IVec S1024x1024 32)
    (T : FVec F S1024x1024 .f32 → BitVec 32 → BitVec 32 → BitVec 1 → BitVec 1 → BitVec 1 → P F PUnit) :
    tailS c q v140 v141 v143 v157 v158 T = (do
      let p ← attnP (k0_pay41 v140 v141 v143 v157 v158) q
      T p (Scalar.select (Scalar.cmpi .eq 4#32 0#32) 1#32 4#32) (Scalar.remsi (meW c) (Scalar.select (Scalar.cmpi .eq 4#32 0#32) 1#32 4#32))
        (Scalar.cmpi .ne (Scalar.remsi (meW c) (Scalar.select (Scalar.cmpi .eq 4#32 0#32) 1#32 4#32)) 0#32)
        (Scalar.cmpi .slt (Scalar.remsi (meW c) (Scalar.select (Scalar.cmpi .eq 4#32 0#32) 1#32 4#32)) 0#32)
        (Scalar.cmpi .slt (Scalar.select (Scalar.cmpi .eq 4#32 0#32) 1#32 4#32 : BitVec 32) 0#32)) := rfl

/-- The body with the sections named, before each is rewritten. -/
def bodyQ : P F PUnit := do
  let c : Dev nD ← Prog.lift .deviceId
  enterP c
  let ⟨x, w⟩ ← k0_part42 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c (Scalar.cmpi .eq (meW c) 0#32)
  let ⟨q, n⟩ ← k0_part43 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 c (meW c) x w
  let ⟨v140, v141, v143, v157, v158⟩ ← k0_part44 (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 n
  tailS c q v140 v141 v143 v157 v158 (tailT c)
theorem body_eqQ : cc0_body (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 = bodyQ := rfl

theorem body_eq : cc0_body (F := F) (Memref.whole cc0_stg0_0) (Memref.isWhole_whole _) (Memref.whole cc0_stg1_0) (Memref.isWhole_whole _) (Memref.whole main_arg2) (Memref.isWhole_whole _)
          (Memref.whole main_arg3) (Memref.isWhole_whole _) (Memref.whole cc0_stg2_0) (Memref.isWhole_whole _) (Memref.whole cc0_stg3_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          (Memref.whole cc0_scratch9) (Memref.isWhole_whole _) (Memref.whole cc0_scratch10) (Memref.isWhole_whole _) (Memref.whole cc0_scratch11) (Memref.isWhole_whole _)
          (Memref.whole cc0_scratch12) (Memref.isWhole_whole _) (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 = bodyP := by
  rw [body_eqQ]
  unfold bodyQ bodyP
  simp only [partA_eq, partB_eq, partC_eq, tailS_eq, tailT_eq]
  try rfl

end Cert.KernelIdeal.Att
-- ==== Proof.Run.lean ====
/- The program's run at any float values: every weakly fair execution ends, the arguments as they were, the result array
   at the sum, every semaphore at zero. -/
module

public import proofs.«01_k».proof.Proof.Launch
public import proofs.«01_k».proof.Proof.TextEq
public import Idealize.ShloMosaic.Lib.Pipeline.CollectiveSegs

@[expose] public section

set_option maxRecDepth 65536

noncomputable section

namespace Cert.KernelIdeal.Att

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What a device's body starts from, its scratch buffers apart; with them; what it leaves. -/
def start (c : Dev nD) : sProp 𝕄 :=
  iprop((∃ K : Dev nD × Kd → ℕ, facts m K) ∗ tokens c (tokList c) ∗ (bigSep Finset.univ fun k : Kd => posn c k)
    ∗ cred (tallyAt (kcell (c, kBar)) () 7) ∗ bigSepL (kvCr c ++ arrs6) (credit c) ∗ copies c ∗ idleSems c ∗ arrs m c)
def Φ₀ (c : Dev nD) : sProp 𝕄 := iprop(start m c ∗ Pipeline.scopedRest cfg0.spec c)
def Φ₁ (c : Dev nD) : sProp 𝕄 :=
  iprop((bigSep Finset.univ fun k : Kd => zero c k) ∗ copies c ∗ idleSems c ∗ arrs m c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => wqV m c
    | ⟨2, _⟩ => woV m c
    | ⟨3, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The scratch buffers in the body's pieces -/

def scrAll (c : Dev nD) : sProp 𝕄 :=
  iprop(anyIn c (Memref.whole cc0_scratch0) ∗ anyIn c (Memref.whole cc0_scratch1) ∗ anyIn c (Memref.whole cc0_scratch2) ∗ anyIn c (Memref.whole cc0_scratch3)
    ∗ anyIn c (Memref.whole cc0_scratch4) ∗ anyIn c (Memref.whole cc0_scratch5) ∗ anyIn c (Memref.whole cc0_scratch6) ∗ anyIn c (Memref.whole cc0_scratch7)
    ∗ anyIn c (Memref.whole cc0_scratch8) ∗ anyIn c (Memref.whole cc0_scratch9) ∗ anyIn c (Memref.whole cc0_scratch10) ∗ anyIn c (Memref.whole cc0_scratch11)
    ∗ anyIn c (Memref.whole cc0_scratch12) ∗ anyIn c (Memref.whole cc0_scratch13) ∗ anyIn c (Memref.whole cc0_scratch14))
theorem any_eq (c : Dev nD) (b : Ref sig .tc) :
    (anyIn c (Memref.whole b) : sProp 𝕄) = iprop(∃ f : Buf (Elt F) ((c : Thread nD τ).loc b), (c : Thread nD τ).loc b ↦{fullShare} f) :=
  equiv_iff.mp ⟨(any_whole c b).1, (any_whole c b).2⟩
theorem scr_eq (c : Dev nD) : (Pipeline.scopedRest cfg0.spec c : sProp 𝕄) = scrAll c := by
  unfold scrAll
  simp only [any_eq]
  exact scopedRest0_eq c

/-- What the body of a device does not touch. -/
def left (c : Dev nD) : sProp 𝕄 :=
  if c = D0 then iprop(emp)
  else iprop(arrs m c ∗ copies c ∗ anyIn c (Memref.whole cc0_scratch2) ∗ anyIn c (Memref.whole cc0_scratch3) ∗ anyIn c (Memref.whole cc0_scratch4))

theorem dev_begin (c : Dev nD) :
    iprop(arrs m c ∗ copies c ∗ anyIn c (Memref.whole cc0_scratch2) ∗ anyIn c (Memref.whole cc0_scratch3) ∗ anyIn c (Memref.whole cc0_scratch4))
      ⊢ iprop(dev0 m c ∗ left m c) := by
  unfold dev0 left
  by_cases h : c = D0
  · subst h
    rw [if_pos rfl, if_pos rfl]
    iintro ⟨A, C, T₂, T₃, T₄⟩
    ihave H := (idle_begin m) $$ [A C T₂ T₃]
    · isplitl [A]; · iexact A
      isplitl [C]; · iexact C
      isplitl [T₂] <;> iassumption
    icases H with ⟨H₀, H₁⟩
    ihave T₄ := (st_split D0) $$ T₄
    isplitl
    · isplitl [H₀]; · iexact H₀
      isplitl [H₁] <;> iassumption
    iempintro
  · rw [if_neg h, if_neg h]
    iintro H
    isplitr; · iempintro
    iexact H
theorem dev_end (c : Dev nD) :
    iprop(dev0 m c ∗ left m c)
      ⊢ iprop(arrs m c ∗ copies c ∗ anyIn c (Memref.whole cc0_scratch2) ∗ anyIn c (Memref.whole cc0_scratch3) ∗ anyIn c (Memref.whole cc0_scratch4)) := by
  unfold dev0 left
  by_cases h : c = D0
  · subst h
    rw [if_pos rfl, if_pos rfl]
    iintro ⟨⟨H₀, H₁, T₄⟩, -⟩
    ihave H := (idle_end m) $$ [H₀ H₁]
    · isplitl [H₀] <;> iassumption
    ihave T₄ := (st_join D0) $$ T₄
    icases H with ⟨A, C, T₂, T₃⟩
    isplitl [A]; · iexact A
    isplitl [C]; · iexact C
    isplitl [T₂]; · iexact T₂
    isplitl [T₃] <;> iassumption
  · rw [if_neg h, if_neg h]
    iintro ⟨-, H⟩
    iexact H

theorem lands_eq (c : Dev nD) : (bigSepL (lands c) landBuf : sProp 𝕄)
    = iprop(anyIn c (kvHalf 0) ∗ anyIn c (kvHalf 1) ∗ anyIn c (rbSlot 0) ∗ anyIn c (rbSlot 1) ∗ anyIn c (rbSlot 2)
      ∗ anyIn c (Memref.whole cc0_scratch7) ∗ anyIn c (Memref.whole cc0_scratch9) ∗ anyIn c (Memref.whole cc0_scratch11) ∗ anyIn c (Memref.whole cc0_scratch12)
      ∗ anyIn c (Memref.whole cc0_scratch13) ∗ anyIn c (Memref.whole cc0_scratch14)) := by
  rw [lands, bigSepL_map, landKinds]
  rw [bigSepL_cons', bigSepL_cons', bigSepL_cons', bigSepL_cons', bigSepL_cons', bigSepL_cons', bigSepL_cons', bigSepL_cons', bigSepL_cons', bigSepL_cons', bigSepL_singleton]
  rfl

theorem scr_begin (c : Dev nD) : iprop(scrAll c ∗ arrs m c ∗ copies c) ⊢ iprop(bigSepL (lands c) landBuf ∗ dev0 m c ∗ bufs c ∗ left m c) := by
  have hk := kv_split (F := F) c
  have hr := rb_split (F := F) c
  rw [two] at hk
  rw [three_eq, three] at hr
  rw [lands_eq]
  unfold scrAll bufs
  iintro ⟨⟨B0, B1, B2, B3, B4, B5, B6, B7, B8, B9, B10, B11, B12, B13, B14⟩, A, C⟩
  ihave B0 := hk $$ B0
  ihave B5 := hr $$ B5
  icases B0 with ⟨K0, K1⟩
  icases B5 with ⟨R0, R1, R2⟩
  ihave H := (dev_begin m c) $$ [A C B2 B3 B4]
  · isplitl [A]; · iexact A
    isplitl [C]; · iexact C
    isplitl [B2]; · iexact B2
    isplitl [B3] <;> iassumption
  icases H with ⟨H0, HL⟩
  isplitl [K0 K1 R0 R1 R2 B7 B9 B11 B12 B13 B14]
  · isplitl [K0]; · iexact K0
    isplitl [K1]; · iexact K1
    isplitl [R0]; · iexact R0
    isplitl [R1]; · iexact R1
    isplitl [R2]; · iexact R2
    isplitl [B7]; · iexact B7
    isplitl [B9]; · iexact B9
    isplitl [B11]; · iexact B11
    isplitl [B12]; · iexact B12
    isplitl [B13] <;> iassumption
  isplitl [H0]; · iexact H0
  isplitl [B1 B6 B8 B10]
  · isplitl [B1]; · iexact B1
    isplitl [B6]; · iexact B6
    isplitl [B8] <;> iassumption
  iexact HL

theorem scr_end (c : Dev nD) :
    iprop((anyIn c (Memref.whole cc0_scratch0) ∗ (bigSep Finset.univ fun s : Fin 3 => anyIn c (rbSlot s))
      ∗ anyIn c (Memref.whole cc0_scratch7) ∗ anyIn c (Memref.whole cc0_scratch9) ∗ anyIn c (Memref.whole cc0_scratch11) ∗ anyIn c (Memref.whole cc0_scratch12)
      ∗ anyIn c (Memref.whole cc0_scratch13) ∗ anyIn c (Memref.whole cc0_scratch14)) ∗ dev0 m c ∗ bufs c ∗ left m c)
      ⊢ iprop(scrAll c ∗ arrs m c ∗ copies c) := by
  unfold scrAll bufs
  iintro ⟨⟨B0, B5, B7, B9, B11, B12, B13, B14⟩, H0, ⟨B1, B6, B8, B10⟩, HL⟩
  ihave B5 := (rb_join c) $$ B5
  ihave H := (dev_end m c) $$ [H0 HL]
  · isplitl [H0] <;> iassumption
  icases H with ⟨A, C, B2, B3, B4⟩
  isplitr [A C]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13] <;> iassumption
  isplitl [A] <;> iassumption

/-! ## The body's obligation -/

def bodyPost (c : Dev nD) : sProp 𝕄 :=
  iprop(Φ₁ m c ∗ (dats m ρ 0 c).owesAt () t0_0.succ
    ∗ owns (c : Thread nD τ) (Memref.whole cc0_stg0_0) fullShare (xV m c) ∗ owns (c : Thread nD τ) (Memref.whole cc0_stg1_0) fullShare (wqV m c)
    ∗ owns (c : Thread nD τ) (Memref.whole cc0_stg2_0) fullShare (woV m c) ∗ owns (c : Thread nD τ) (Memref.whole cc0_stg3_0) fullShare (outV m c))
def bodyPre (c : Dev nD) : sProp 𝕄 :=
  iprop(Φ₀ m c ∗ (dats m ρ 0 c).owesAt () t0_0.castSucc
    ∗ (∃ d, owns (c : Thread nD τ) (Memref.whole cc0_stg0_0) fullShare ((dats m ρ 0 c).before (0 : Fin 4) t0_0 d))
    ∗ (∃ d, owns (c : Thread nD τ) (Memref.whole cc0_stg1_0) fullShare ((dats m ρ 0 c).before (1 : Fin 4) t0_0 d))
    ∗ (∃ d, owns (c : Thread nD τ) (Memref.whole cc0_stg2_0) fullShare ((dats m ρ 0 c).before (2 : Fin 4) t0_0 d))
    ∗ (∃ d, owns (c : Thread nD τ) (Memref.whole cc0_stg3_0) fullShare ((dats m ρ 0 c).before (3 : Fin 4) t0_0 d)))

theorem before0 (c : Dev nD) (d) : (dats m ρ 0 c).before (0 : Fin 4) t0_0 d = xV m c := by
  unfold Dat.before; rw [if_pos (show (cfg0.win (0 : Fin 4)).fetch t0_0 = true from rfl)]; rfl
theorem before1 (c : Dev nD) (d) : (dats m ρ 0 c).before (1 : Fin 4) t0_0 d = wqV m c := by
  unfold Dat.before; rw [if_pos (show (cfg0.win (1 : Fin 4)).fetch t0_0 = true from rfl)]; rfl
theorem before2 (c : Dev nD) (d) : (dats m ρ 0 c).before (2 : Fin 4) t0_0 d = woV m c := by
  unfold Dat.before; rw [if_pos (show (cfg0.win (2 : Fin 4)).fetch t0_0 = true from rfl)]; rfl

theorem duty_begin (c : Dev nD) : iprop((dats m ρ 0 c).owesAt () t0_0.castSucc ∗ tokens c (tokList c))
    ⊢ iprop(duty c (payList c) ∗ sendToks c (midSend c ++ exSends)) := by
  have e : (tokens c (tokList c) : sProp 𝕄) = iprop(tokens c (payList c) ∗ sendToks c (midSend c ++ exSends)) := by
    unfold tokens sendToks
    rw [tokList, bigSepL_append, sendList, bigSepL_map]
  rw [e]
  unfold Dat.owesAt Pipeline.owesWithin duty
  rw [show (dats m ρ 0 c).owed t0_0.castSucc = O₀ c from rfl]
  unfold O₀
  iintro ⟨⟨%W, %hW, HO⟩, Ht, Hs⟩
  isplitl [HO Ht]
  · iexists W; isplitl [HO] <;> iassumption
  iexact Hs
theorem duty_end (c : Dev nD) : duty c [] ⊢ (dats m ρ 0 c).owesAt () t0_0.succ := by
  unfold Dat.owesAt Pipeline.owesWithin duty
  rw [show (dats m ρ 0 c).owed t0_0.succ = 0 from rfl]
  iintro ⟨%W, HO, -⟩
  iexists W
  isplitr; · ipureintro; exact fun _ _ => Or.inl trivial
  iexact HO

theorem body_run (c : Dev nD) : bodyPre m ρ c ⊢ run c (bodyP (F := F)) (fun _ => bodyPost m ρ c) := by
  unfold bodyPre Φ₀ start
  simp only [before0, before1, before2, scr_eq]
  iintro ⟨⟨⟨⟨%K, #HF⟩, Ht, Hp, Hb, Hc, Hcp, Hid, Ha⟩, Hscr⟩, Ho, ⟨%d0, Hx⟩, ⟨%d1, Hw⟩, ⟨%d2, Hwo⟩, ⟨%d3, Hout⟩⟩
  ihave Hd := (duty_begin m ρ c) $$ [Ho Ht]
  · isplitl [Ho] <;> iassumption
  icases Hd with ⟨Hd, Hs⟩
  ihave H := (scr_begin m c) $$ [Hscr Ha Hcp]
  · isplitl [Hscr]; · iexact Hscr
    isplitl [Ha] <;> iassumption
  icases H with ⟨HL, H0, HB, Hleft⟩
  iapply (body_step m K c fun _ => bodyPost m ρ c) $$ [Hd Hs Hp Hb Hc HL H0 HB Hx Hw Hwo Hout]
  · unfold bodyIn staged
    isplitr; · iexact HF
    isplitl [Hd]; · iexact Hd
    isplitl [Hs]; · iexact Hs
    isplitl [Hp]; · iexact Hp
    isplitl [Hb]; · iexact Hb
    isplitl [Hc]; · iexact Hc
    isplitl [HL]; · iexact HL
    isplitl [H0]; · iexact H0
    isplitl [HB]; · iexact HB
    isplitl [Hx Hw Hwo]
    · isplitl [Hx]; · iexact Hx
      isplitl [Hw] <;> iassumption
    unfold anyIn
    iexists _; iexact Hout
  unfold bodyOut six staged
  iintro ⟨Hd, Hz, K0, R5, ⟨E0, E1, E2, E3, E4, E5⟩, H0, HB, ⟨Hx, Hw, Hwo⟩, Hout⟩
  ihave H := (scr_end m c) $$ [K0 R5 E0 E1 E2 E3 E4 E5 H0 HB Hleft]
  · isplitl [K0 R5 E0 E1 E2 E3 E4 E5]
    · isplitl [K0]; · iexact K0
      isplitl [R5]; · iexact R5
      isplitl [E0]; · iexact E0
      isplitl [E1]; · iexact E1
      isplitl [E2]; · iexact E2
      isplitl [E3]; · iexact E3
      isplitl [E4]; · iexact E4
      iexact E5
    isplitl [H0]; · iexact H0
    isplitl [HB] <;> iassumption
  icases H with ⟨Hscr, Ha, Hcp⟩
  unfold bodyPost Φ₁
  rw [scr_eq]
  isplitl [Hz Hcp Hid Ha Hscr]
  · isplitl [Hz]; · iexact Hz
    isplitl [Hcp]; · iexact Hcp
    isplitl [Hid]; · iexact Hid
    isplitl [Ha]; · iexact Ha
    iexact Hscr
  isplitl [Hd]; · iapply (duty_end m ρ c); iexact Hd
  isplitl [Hx]; · iexact Hx
  isplitl [Hw]; · iexact Hw
  isplitl [Hwo] <;> iassumption

theorem body_obligation (c : Dev nD) : BodyObligation (dats m ρ 0 c) (defs₀ (F := F)) 𝒱₀ () Set.univ := fun t => by
  rw [fin_N0 t]
  rw [bigSep_W0, bigSep_W0]
  have h := body_run m ρ c
  unfold run at h
  rw [← body_eq] at h
  exact h

/-! ## The launch -/

theorem share_eq (c : Dev nD) (w : Fin cfg0.W) : (dats m ρ 0 c).share w = fullShare := by unfold Dat.share; split <;> rfl

theorem stage_level : ∀ (w : Fin cfg0.W) (s : Fin (cfg0.win w).nbuf) (c : Dev nD), ∀ x ∈ payList c, slv (.dma ((cfg0.win w).sem s)) < klv x.2 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (payList c) (stage_level w s c)
    · exact mayWait c _ [] (by simp)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c fun b => m ((c : Thread nD τ).loc b) : sProp 𝕄) = arrs m c from unscopedRest0_eq c _]
  unfold G' start facts
  iintro ⟨Ha, #Hlev, Hcr, -, ⟨%K, ⟨#HI, #HR⟩, Hp, Ht, Hc, Hi⟩⟩
  ihave Hcr := (creds (F := F) c) $$ Hcr
  icases Hcr with ⟨H1, HN⟩
  imodintro
  isplitl
  · isplitr
    · iexists K
      isplitr; · iexact HI
      isplitr; · iexact HR
      iexact Hlev
    isplitl [Ht]; · iexact Ht
    isplitl [Hp]; · iexact Hp
    isplitl [H1]; · iexact H1
    isplitl [HN]; · iexact HN
    isplitl [Hc]; · iexact Hc
    isplitl [Hi] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ arrs m c) ∗ Pipeline.ownSems0 osem c ∗ Pipeline.scopedRest cfg0.spec c) := by
  rw [show (dats m ρ 0 c).Φ (Fin.last cfg0.N) = Φ₁ m c from rfl, ownSems_eq, barSem_eq]
  unfold Φ₁
  rw [zeros_eq]
  iintro ⟨⟨Hb, Hk⟩, Hc, Hi, Ha, Hr⟩
  isplitl [Hb Ha]
  · isplitl [Hb] <;> iassumption
  isplitr [Hr]
  · isplitl [Hc]; · iexact Hc
    isplitl [Hi] <;> iassumption
  iexact Hr

/-- The two arrays no window is on. -/
def other (c : Dev nD) (b : Fin 2) : Loc nD τ sig := (c : Thread nD τ).loc (match b with | 0 => main_arg2 | 1 => main_arg3)

/-- What device `c`'s state holds in the end, the windows' arrays apart. -/
def QY (c : Dev nD) (s : MemSt nD τ sig (Elt F)) : Prop :=
  (∀ sm : SemLoc sig, sm.isScoped .tc = false → s.sem ((c.tc : Thread nD τ), sm) = 0) ∧ ∀ b ∈ (Finset.univ : Finset (Fin 2)), s.mem (other c b) = m (other c b)

theorem read_end (c : Dev nD) (s' : Phys nD τ sig (Elt F)) :
    iprop((unscopedSems0 c ∗ arrs m c) ∗ emp ∗ SI s') ⊢ |={Set.univ}=> iprop(⌜QY m c s'.mem⌝ ∗ SI s') := by
  have ha : (arrs m c : sProp 𝕄) = bigSep Finset.univ fun b : Fin 2 => other c b ↦{fullShare} m (other c b) := by rw [two]; rfl
  rw [ha]
  iintro ⟨⟨Hu, Ha⟩, -, HSI⟩
  ihave H := (pointsTo_read_all Finset.univ (other c) (fun b => m (other c b)) s') $$ [Ha HSI]
  · isplitl [Ha] <;> iassumption
  icases H with ⟨%h, HSI⟩
  imod (Pipeline.unscopedSems0_read (X := unscopedSems0 c) (c := c) fupd_intro s') $$ [Hu HSI] with ⟨%h', HSI⟩
  · isplitl [Hu] <;> iassumption
  imodintro
  isplitr; · ipureintro; exact ⟨h', h⟩
  iexact HSI

def finalA (c : Dev nD) (w : Fin cfg0.W) : Buf (Elt F) ((cfg0.win w).arr.view.loc (c : Thread nD τ)) := (dats m ρ 0 c).arrAt w cfg0.N

def QC (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_att m) $$ HX with HG
      imodintro
      isplitl [HP] <;> iassumption)
    (hglob := glob m)
    (hA := fun _ _ => rfl) (hpf := fun _ k => k.elim0)
    (X := start m) (Y := fun c => iprop(unscopedSems0 c ∗ arrs m c)) (Z := fun _ => iprop(emp))
    (hX := start_intro m ρ) (hin := phi0_intro m ρ) (hout := phi1_exit m ρ)
    (QY := QY m)
    (hY := read_end m)
    (hQ := fun _ h hs => ⟨fun c => ⟨(h c).1, (h c).2.2.2 0 (Finset.mem_univ _), (h c).2.2.2 1 (Finset.mem_univ _)⟩, sem_eq_zero hs fun c => (h c).2.2.1⟩)

end Cert.KernelIdeal.Att
-- ==== Proof.Frames.lean ====
/- The programs' frames: each runs from any memory, leaves its arguments and every semaphore as they were. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem
open Cert.KernelIdeal.Att (run_main QC finalA dats)

section Any
open Cert.KernelIdeal Cert.KernelIdeal.Att
variable {F : FTy → Type} [FloatOps F] [Named F] (m : (ℓ : Loc nD τ sig) → Buf (Elt F) ℓ) (ρ : Dev nD → PrngReg)

/-- The arguments end as they began. -/
theorem args_kept (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans ((dats m ρ 0 c).arrAt_in (0 : Fin 4) rfl _), ((h c).1 1).trans ((dats m ρ 0 c).arrAt_in (1 : Fin 4) rfl _),
    (h c).2.1, (h c).2.2, ((h c).1 2).trans ((dats m ρ 0 c).arrAt_in (2 : Fin 4) rfl _)⟩

/-- Over any floats: every run ends with the arguments and the counters as they began. -/
theorem frame_any : θ_run defs (onTc (τ := τ) (main (F := F))) ⟨m, fun _ => 0, ρ⟩ fun r =>
    (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0 :=
  (θ_run defs _ _).mono (fun r h => ⟨args_kept m ρ r h.1, h.2⟩) (run_main (F := F) m ρ)

end Any

theorem frame_ideal : Cert.quiescent_KernelIdeal (hKernelIdeal := Cert.KernelIdeal.Gen.facts) := fun m ρ _ =>
  frame_any (F := Ideal) m ρ

/-- At the machine's floats a named constant is the constant as printed. -/
@[reducible] def asPrinted : Named Bits := ⟨fun _ _ _ b => FloatOps.ofBits _ b⟩

section Printed
local instance : Cert.Kernel.Facts := Cert.Kernel.Gen.facts
local instance : Cert.KernelIdeal.Facts := Cert.KernelIdeal.Gen.facts
local instance : Named Bits := asPrinted

theorem bodies_eq : Cert.Kernel.cc0_body (F := Bits) = Cert.KernelIdeal.cc0_body (F := Bits) := rfl
/-- The two programs' tables of bodies are one. -/
theorem bodyTable_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l x
  match l, x with
  | 0, (t, s) => rfl
theorem table_eq : Cert.Kernel.defs (F := Bits) = Cert.KernelIdeal.defs (F := Bits) :=
  congrArg (Pipeline.defs (Cert.KernelIdeal.pcfgs (F := Bits))) bodyTable_eq
end Printed

theorem frame_kernel : Cert.quiescent_Kernel (hKernel := Cert.Kernel.Gen.facts) := fun m ρ _ => by
  have h := @frame_any Bits _ asPrinted m ρ
  rw [← table_eq] at h
  exact h

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Attend.lean ====
/- Attention over the extended reals, apart from any program: one row's weighted sum of values, and why keys whose score
   is minus infinity do not count. -/
module

public import Idealize.ShloMosaic.Lib.Pointwise

@[expose] public section

noncomputable section

namespace Cert.Attend

open Idealize.ShloMosaic

/-- The largest score of a row. -/
def peak {n : ℕ} (s : Fin n → EReal) : EReal := Finset.fold max ⊥ s Finset.univ
/-- The values summed, each with its share of the exponentials of the scores. -/
def attend {n : ℕ} (s v : Fin n → EReal) : EReal :=
  ∑ k, Ideal.div (Ideal.exp (s k - peak s)) (∑ j, Ideal.exp (s j - peak s)) * v k
/-- A score: the scaled product of a query and a key if the row attends to the key, else minus infinity. -/
def score {n D : ℕ} (scale : EReal) (q : Fin D → EReal) (K : Fin n → Fin D → EReal) (r : ℕ) (k : Fin n) : EReal :=
  if k.val / 64 ≤ r / 64 then (∑ d, q d * K k d) * scale else ⊥

theorem exp_nonneg : ∀ x : EReal, 0 ≤ Ideal.exp x := by
  intro x
  induction x using EReal.rec with
  | bot => exact le_refl _
  | top => exact le_top
  | coe x => exact EReal.coe_nonneg.2 (Real.exp_pos x).le
theorem exp_bot_sub (x : EReal) : Ideal.exp (⊥ - x) = 0 := by
  rw [sub_eq_add_neg, EReal.bot_add]; rfl
theorem div_zero_left {y : EReal} (hy : y ≠ 0) : Ideal.div 0 y = 0 := by
  unfold Ideal.div; rw [if_neg hy, zero_mul]

theorem le_peak {n : ℕ} (s : Fin n → EReal) (k : Fin n) : s k ≤ peak s :=
  (Finset.le_fold_max (s k)).2 (Or.inr ⟨k, Finset.mem_univ k, le_refl _⟩)
theorem peak_le {n : ℕ} (s : Fin n → EReal) (M : EReal) (h : ∀ k, s k ≤ M) : peak s ≤ M :=
  (Finset.fold_max_le M).2 ⟨bot_le, fun k _ => h k⟩
/-- Some key has the largest score, if any score is above minus infinity. -/
theorem peak_at {n : ℕ} (s : Fin n → EReal) (k₀ : Fin n) (h : s k₀ ≠ ⊥) : ∃ k, s k = peak s := by
  rcases (Finset.le_fold_max (peak s)).1 (le_refl (peak s)) with hb | ⟨k, _, hk⟩
  · exact absurd (le_bot_iff.1 ((le_peak s k₀).trans hb)) h
  · exact ⟨k, le_antisymm (le_peak s k) hk⟩
/-- The exponentials do not sum to zero, if no score is plus infinity and some score is a real. -/
theorem total_ne {n : ℕ} (s : Fin n → EReal) (k₀ : Fin n) (h : s k₀ ≠ ⊥) (ht : ∀ k, s k ≠ ⊤) :
    (∑ j, Ideal.exp (s j - peak s)) ≠ 0 := by
  obtain ⟨k, hk⟩ := peak_at s k₀ h
  have hb : s k ≠ ⊥ := fun hb => h (le_bot_iff.1 (hb ▸ hk ▸ le_peak s k₀))
  have h1 : Ideal.exp (s k - peak s) = 1 := by
    rw [← hk]
    lift s k to ℝ using ⟨ht k, hb⟩ with x
    rw [← EReal.coe_sub, sub_self]
    show ((Real.exp 0 : ℝ) : EReal) = 1
    rw [Real.exp_zero]; rfl
  have hle : (1 : EReal) ≤ ∑ j, Ideal.exp (s j - peak s) :=
    h1 ▸ Finset.single_le_sum (f := fun j => Ideal.exp (s j - peak s)) (fun j _ => exp_nonneg _) (Finset.mem_univ k)
  exact fun h0 => absurd (h0 ▸ hle) (by norm_num)

/-- A sum over many indices whose terms vanish from `a` on is the sum over the first `a`. -/
theorem sum_cut {a n : ℕ} (ha : a ≤ n) (f : Fin n → EReal) (h : ∀ k : Fin n, a ≤ k.val → f k = 0) :
    ∑ k, f k = ∑ k : Fin a, f (Fin.castLE ha k) := by
  refine Eq.trans (Eq.symm ?_) (Finset.sum_map Finset.univ (Fin.castLEEmb ha) f)
  refine Finset.sum_subset (Finset.subset_univ _) fun k _ hk => h k ?_
  by_contra hlt
  exact hk (Finset.mem_map.2 ⟨⟨k.val, not_le.1 hlt⟩, Finset.mem_univ _, Fin.ext rfl⟩)

/-- Keys whose score is minus infinity from `a` on do not count. -/
theorem attend_cut {a n : ℕ} (ha : a ≤ n) (s v : Fin n → EReal) (k₀ : Fin n) (h₀ : s k₀ ≠ ⊥) (ht : ∀ k, s k ≠ ⊤)
    (h : ∀ k : Fin n, a ≤ k.val → s k = ⊥) :
    attend s v = attend (fun k => s (Fin.castLE ha k)) (fun k => v (Fin.castLE ha k)) := by
  have hp : peak s = peak fun k : Fin a => s (Fin.castLE ha k) := by
    refine le_antisymm (peak_le _ _ fun k => ?_) (peak_le _ _ fun k => le_peak s _)
    by_cases hk : k.val < a
    · exact le_peak (fun k : Fin a => s (Fin.castLE ha k)) ⟨k.val, hk⟩
    · rw [h k (not_lt.1 hk)]; exact bot_le
  have hd : (∑ j, Ideal.exp (s j - peak s)) = ∑ j : Fin a, Ideal.exp (s (Fin.castLE ha j) - peak s) :=
    sum_cut ha _ fun k hk => by rw [h k hk, exp_bot_sub]
  unfold attend
  rw [sum_cut ha _ fun k hk => by rw [h k hk, exp_bot_sub, div_zero_left (total_ne s k₀ h₀ ht), zero_mul], hd, ← hp]

/-- Finite factors have a finite sum of products. -/
theorem real_sum {n : ℕ} (f : Fin n → EReal) (h : ∀ k, f k ≠ ⊤ ∧ f k ≠ ⊥) : (∑ k, f k) ≠ ⊤ ∧ (∑ k, f k) ≠ ⊥ := by
  refine Finset.sum_induction f (fun x => x ≠ ⊤ ∧ x ≠ ⊥) (fun x y hx hy => ?_) ⟨EReal.zero_ne_top, EReal.zero_ne_bot⟩ fun k _ => h k
  lift x to ℝ using hx
  lift y to ℝ using hy
  rw [← EReal.coe_add]
  exact ⟨EReal.coe_ne_top _, EReal.coe_ne_bot _⟩
theorem real_mul {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- With finite queries and keys: the keys from `a` on, beyond every row's blocks, do not count. -/
theorem attend_score {a n D : ℕ} (ha : a ≤ n) (h0 : 0 < a) (scale : EReal) (hs : scale ≠ ⊤ ∧ scale ≠ ⊥) (q : Fin D → EReal)
    (K : Fin n → Fin D → EReal) (v : Fin n → EReal) (r : ℕ) (hq : ∀ d, q d ≠ ⊤ ∧ q d ≠ ⊥)
    (hK : ∀ k d, K k d ≠ ⊤ ∧ K k d ≠ ⊥) (hr : ∀ k : ℕ, a ≤ k → ¬ k / 64 ≤ r / 64) :
    attend (score scale q K r) v
      = attend (score scale q (fun k : Fin a => K (Fin.castLE ha k)) r) (fun k => v (Fin.castLE ha k)) := by
  have hf : ∀ k, (∑ d, q d * K k d) * scale ≠ ⊤ ∧ (∑ d, q d * K k d) * scale ≠ ⊥ := fun k =>
    real_mul (real_sum _ fun d => real_mul (hq d) (hK k d)) hs
  refine attend_cut ha _ v ⟨0, h0.trans_le ha⟩ ?_ (fun k => ?_) fun k hk => ?_
  · unfold score; rw [if_pos (by simp)]; exact (hf _).2
  · unfold score
    split
    · exact (hf k).1
    · exact bot_ne_top
  · unfold score; rw [if_neg (hr k.val hk)]

end Cert.Attend

end
-- ==== Proof.Heads.lean ====
/- What a device's attention and its product hold over the extended reals, at an index. -/
module

public import proofs.«01_k».proof.Proof.Proto
public import proofs.«01_k».proof.Proof.Attend

@[expose] public section

set_option maxRecDepth 65536

noncomputable section

namespace Cert.KernelIdeal.Val

open Idealize.ShloMosaic Idealize.ShloMosaic.TcCoe
open Cert.KernelIdeal.Gen Cert.KernelIdeal.Att Cert.Attend

/-- The scale of the scores. -/
def scale : EReal := Ideal.ofBits .f32 0x3DB504F3#32
theorem scale_real : scale ≠ ⊤ ∧ scale ≠ ⊥ := by
  have h : ∃ x : ℝ, scale = (x : EReal) := by
    unfold scale
    simp [Ideal.ofBits, Ideal.ieee]
    exact ⟨_, rfl⟩
  obtain ⟨x, hx⟩ := h
  rw [hx]; exact ⟨EReal.coe_ne_top _, EReal.coe_ne_bot _⟩

/-- A row's block, as a word. -/
def blockW (r : ℕ) : BitVec 32 :=
  Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 r) 64#32) 0#32))
    (IntOp.subi (IntOp.divsi ArithUnit.vector (BitVec.ofNat 32 r) 64#32) 1#32)
    (IntOp.divsi ArithUnit.vector (BitVec.ofNat 32 r) 64#32)
theorem blockW_eq : ∀ r : Fin 1024, blockW r.val = BitVec.ofNat 32 (r.val / 64) := by decide +kernel
/-- Small words compare as numbers. -/
theorem sle_words (a b : ℕ) (ha : a < 1024) (hb : b < 1024) :
    IntOp.cmpi CmpIPredicate.sle (BitVec.ofNat 32 a) (BitVec.ofNat 32 b) = if a ≤ b then 1#1 else 0#1 := by
  have hn : ∀ x : ℕ, x < 1024 → (BitVec.ofNat 32 x).toInt = x := fun x hx => by
    rw [BitVec.toInt_eq_toNat_of_lt (by rw [BitVec.toNat_ofNat]; omega), BitVec.toNat_ofNat, Nat.mod_eq_of_lt (by omega)]
  have h : (BitVec.ofNat 32 a).sle (BitVec.ofNat 32 b) = decide (a ≤ b) := by
    rw [BitVec.sle_eq_decide, hn a ha, hn b hb]
    exact decide_eq_decide.2 Int.ofNat_le
  show BitVec.ofBool ((BitVec.ofNat 32 a).sle (BitVec.ofNat 32 b)) = _
  rw [h]
  by_cases hab : a ≤ b
  · rw [if_pos hab, decide_eq_true hab]; rfl
  · rw [if_neg hab, decide_eq_false hab]; rfl

theorem mask_at (r k : Fin 1024) : maskV (ix2 r k) = if k.val / 64 ≤ r.val / 64 then 1#1 else 0#1 := by
  have h : maskV (ix2 r k) = IntOp.cmpi CmpIPredicate.sle (blockW k.val) (blockW r.val) := by
    unfold blockW
    pointwise [maskV, k0_pay37, k0_pay38, k0_pay39, k0_pay40, k0_pay41]
  rw [h, blockW_eq, blockW_eq, sle_words _ _ (by omega) (by omega)]

theorem named_mask : (Named.named κ "mask" (φ := .f32) 0xCE6E6B28#32 : Ideal .f32) = (⊥ : EReal) := rfl
theorem lowest : Ideal.ofBits .f32 0xFF800000#32 = (⊥ : EReal) := by simp [Ideal.ofBits, Ideal.ieee]

/-- One head at a row and a column: attention over the head's keys. -/
theorem head_at (q : FVec Ideal S1024x1x128 .bf16) (k v : Vec Ideal S1024x1x128 .bf16) (r : Fin 1024) (d : Fin 128) :
    headF (F := Ideal) maskV q k v (ix2 r d)
      = attend (score scale (fun e : Fin 128 => q (ix3 r 0 e)) (fun (j : Fin 1024) (e : Fin 128) => k (ix3 j 0 e)) r.val)
          (fun j : Fin 1024 => v (ix3 j 0 d)) := by
  pointwise [headF]
  have hs : ∀ (j : Fin 1024) (x : Ideal .f32), Scalar.select (maskV (ix2 r j)) x (Named.named κ "mask" (φ := .f32) 0xCE6E6B28#32 : Ideal .f32)
      = if j.val / 64 ≤ r.val / 64 then x else (⊥ : EReal) := by
    intro j x
    rw [mask_at, named_mask]
    split <;> rfl
  simp only [hs, lowest]
  rfl

/-- A head's queries. -/
theorem q_at (x : Vec Ideal S1x1024x1024 .f32) (w : Vec Ideal S1024x1024 .f32) (h : Fin 8) (r : Fin 1024) (d : Fin 128) :
    qHead (F := Ideal) (k0_pay36 (k0_pay35 x) w) h (ix3 r 0 d)
      = ∑ e : Fin 1024, x (ix3 0 r e) * w (ix2 e ⟨h.val * 128 + d.val, by omega⟩) := by
  pointwise [qHead, k0_pay36, k0_pay35]

theorem prod_at (x : Vec Ideal S1024x1024 .bf16) (w : Vec Ideal S1024x1024 .f32) (r n : Fin 1024) :
    k0_pay56 (F := Ideal) x w (ix2 r n) = ∑ j : Fin 1024, x (ix2 r j) * w (ix2 j n) := by
  pointwise [k0_pay56]

end Cert.KernelIdeal.Val

end
-- ==== Proof.Total.lean ====
/- The six exchanges over the extended reals: every device ends with the sum of all devices' products. -/
module

public import proofs.«01_k».proof.Proof.Proto
public import Idealize.ShloMosaic.Lib.Pointwise

@[expose] public section

set_option maxRecDepth 65536

noncomputable section

namespace Cert.KernelIdeal.Val

open Idealize.ShloMosaic Idealize.ShloMosaic.TcCoe
open Cert.KernelIdeal.Gen Cert.KernelIdeal.Att

/-- A device's place along the three exchanges. -/
def zN (c : Dev nD) : ℕ := c.val / 4
def yN (c : Dev nD) : ℕ := c.val % 4 / 2
def xN (c : Dev nD) : ℕ := (c.val % 4 / 2 + c.val % 2) % 2
theorem z_bit : ∀ c : Dev nD, Scalar.cmpi .eq (zbW c) 0#32 = if zN c = 0 then 1#1 else 0#1 := by decide +kernel
theorem y_bit : ∀ c : Dev nD, Scalar.cmpi .eq (ybW c) 0#32 = if yN c = 0 then 1#1 else 0#1 := by decide +kernel
theorem x_bit : ∀ c : Dev nD, Scalar.cmpi .eq (xbW c) 0#32 = if xN c = 0 then 1#1 else 0#1 := by decide +kernel
theorem z_two : ∀ c : Dev nD, zN c = 0 ∨ zN c = 1 := by decide
theorem y_two : ∀ c : Dev nD, yN c = 0 ∨ yN c = 1 := by decide
theorem x_two : ∀ c : Dev nD, xN c = 0 ∨ xN c = 1 := by decide
/-- The device opposite along each exchange lies opposite there and alike along the earlier ones. -/
theorem part0 : ∀ c : Dev nD, zN (partner c 0) = 1 - zN c := by decide
theorem part1 : ∀ c : Dev nD, zN (partner c 1) = zN c ∧ yN (partner c 1) = 1 - yN c := by decide
theorem part2 : ∀ c : Dev nD, zN (partner c 2) = zN c ∧ yN (partner c 2) = yN c ∧ xN (partner c 2) = 1 - xN c := by decide

/-- The devices' products summed. -/
def total (p : Dev nD → Fin 1024 → Fin 1024 → EReal) (r n : Fin 1024) : EReal := ∑ c, p c r n

theorem tree (p : Dev nD → Fin 1024 → Fin 1024 → EReal) (r n : Fin 1024) (c : Dev nD) :
    p c r n + p (partner c 0) r n + (p (partner c 1) r n + p (partner (partner c 1) 0) r n)
      + (p (partner c 2) r n + p (partner (partner c 2) 0) r n
        + (p (partner (partner c 2) 1) r n + p (partner (partner (partner c 2) 1) 0) r n)) = total p r n := by
  unfold total
  have hd : ∀ c : Dev nD, [c, partner c 0, partner c 1, partner (partner c 1) 0, partner c 2, partner (partner c 2) 0,
      partner (partner c 2) 1, partner (partner (partner c 2) 1) 0].Nodup := by decide
  have hl := List.sum_toFinset (fun d => p d r n) (hd c)
  have hs : ∀ c : Dev nD, [c, partner c 0, partner c 1, partner (partner c 1) 0, partner c 2, partner (partner c 2) 0,
      partner (partner c 2) 1, partner (partner (partner c 2) 1) 0].toFinset = Finset.univ := by decide
  rw [hs c] at hl
  rw [hl]
  simp only [List.map_cons, List.map_nil, List.sum_cons, List.sum_nil, add_zero, add_assoc]

section
variable (m : (ℓ : Loc nD τ sig) → Buf (Elt Ideal) ℓ)

/-- A device's product at an index. -/
def prodAt (c : Dev nD) (r n : Fin 1024) : EReal := pV m c (ix2 r n)

theorem s0_at (c : Dev nD) (i : Fin 512) (n : Fin 1024) (ρ : Fin 1024) (h : ρ.val = 512 * (1 - zN c) + i.val) :
    s0V m c (ix2 i n) = prodAt m c ρ n := by
  unfold prodAt s0V
  pointwise [k0_pay57]
  rw [z_bit]
  rcases z_two c with h0 | h0 <;> rw [h0] at h ⊢ <;> simp only [if_true, if_false, one_ne_zero, Scalar.select]
  all_goals exact congrArg (pV m c) (congrArg (fun a => ix2 a n) (Fin.ext (by simp; omega)))

theorem b1_at (c : Dev nD) (i : Fin 512) (n : Fin 1024) (ρ : Fin 1024) (h : ρ.val = 512 * zN c + i.val) :
    k0_pay58 (F := Ideal) (pV m c) (zbW c) (s0V m (partner c 0)) (ix2 i n) = prodAt m c ρ n + prodAt m (partner c 0) ρ n := by
  rw [← s0_at m (partner c 0) i n ρ (by rw [h, part0]; rcases z_two c with h0 | h0 <;> rw [h0])]
  unfold prodAt
  pointwise [k0_pay58]
  rw [z_bit]
  rcases z_two c with h0 | h0 <;> rw [h0] at h ⊢ <;> simp only [if_true, if_false, one_ne_zero, Scalar.select]
  all_goals exact congrArg (fun a => pV m c (ix2 a n) + _) (Fin.ext (by simp; omega))

/-- After the first exchange: a device's rows and its opposite's; after the second. -/
def two (c : Dev nD) (ρ n : Fin 1024) : EReal := prodAt m c ρ n + prodAt m (partner c 0) ρ n
def four (c : Dev nD) (ρ n : Fin 1024) : EReal := two m c ρ n + two m (partner c 1) ρ n

theorem s1_at (c : Dev nD) (i : Fin 256) (n : Fin 1024) (ρ : Fin 1024) (h : ρ.val = 512 * zN c + 256 * (1 - yN c) + i.val) :
    s1V m c (ix2 i n) = two m c ρ n := by
  unfold s1V two
  pointwise [k0_pay59]
  rw [y_bit]
  rcases y_two c with h0 | h0 <;> rw [h0] at h ⊢ <;> simp only [if_true, if_false, one_ne_zero, Scalar.select]
  all_goals exact b1_at m c _ n ρ (by simp; omega)

theorem b2_at (c : Dev nD) (i : Fin 256) (n : Fin 1024) (ρ : Fin 1024) (h : ρ.val = 512 * zN c + 256 * yN c + i.val) :
    b2V m c (ix2 i n) = four m c ρ n := by
  unfold four
  rw [← s1_at m (partner c 1) i n ρ (by rw [h, (part1 c).1, (part1 c).2]; rcases y_two c with h0 | h0 <;> rw [h0])]
  unfold b2V two
  pointwise [k0_pay60]
  rw [y_bit]
  rcases y_two c with h0 | h0 <;> rw [h0] at h ⊢ <;> simp only [if_true, if_false, one_ne_zero, Scalar.select]
  all_goals exact congrArg (· + _) (b1_at m c _ n ρ (by simp; omega))

theorem s2_at (c : Dev nD) (i : Fin 128) (n : Fin 1024) (ρ : Fin 1024) (h : ρ.val = 512 * zN c + 256 * yN c + 128 * (1 - xN c) + i.val) :
    s2V m c (ix2 i n) = four m c ρ n := by
  have e : ∀ i : Fin 128, k0_pay61 (F := Ideal) (pV m c) (zbW c) (ybW c) (s0V m (partner c 0)) (s1V m (partner c 1)) (ix2 i n)
      = b2V m c (ix2 ⟨128 + i.val, by omega⟩ n) := fun i => by
    unfold b2V
    pointwise [k0_pay61]
  unfold s2V
  pointwise [k0_pay62]
  rw [x_bit, e]
  rcases x_two c with h0 | h0 <;> rw [h0] at h ⊢ <;> simp only [if_true, if_false, one_ne_zero, Scalar.select]
  all_goals exact b2_at m c _ n ρ (by simp; omega)

theorem s3_at (c : Dev nD) (i : Fin 128) (n : Fin 1024) (ρ : Fin 1024) (h : ρ.val = 512 * zN c + 256 * yN c + 128 * xN c + i.val) :
    s3V m c (ix2 i n) = total (prodAt m) ρ n := by
  rw [← tree (prodAt m) ρ n c]
  show _ = four m c ρ n + four m (partner c 2) ρ n
  rw [← s2_at m (partner c 2) i n ρ (by rw [h, (part2 c).1, (part2 c).2.1, (part2 c).2.2]; rcases x_two c with h0 | h0 <;> rw [h0])]
  unfold s3V
  pointwise [k0_pay63]
  rw [x_bit]
  rcases x_two c with h0 | h0 <;> rw [h0] at h ⊢ <;> simp only [if_true, if_false, one_ne_zero, Scalar.select]
  all_goals exact congrArg (· + _) (b2_at m c _ n ρ (by simp; omega))

theorem s4_at (c : Dev nD) (i : Fin 256) (n : Fin 1024) (ρ : Fin 1024) (h : ρ.val = 512 * zN c + 256 * yN c + i.val) :
    s4V m c (ix2 i n) = total (prodAt m) ρ n := by
  have hp : zN (partner c 3) = zN c ∧ yN (partner c 3) = yN c ∧ xN (partner c 3) = 1 - xN c := part2 c
  unfold s4V
  pointwise [k0_pay64]
  rw [x_bit]
  rcases x_two c with h0 | h0 <;> rw [h0] at hp ⊢ <;> simp only [if_true, if_false, one_ne_zero, Scalar.select]
  · refine (if_pos rfl).trans ?_
    split
    · exact s3_at m c ⟨i.val, by omega⟩ n ρ (by first | omega | (dsimp only; omega))
    · exact s3_at m (partner c 3) ⟨i.val - 128, by omega⟩ n ρ (by first | omega | (dsimp only; omega))
  · refine (if_neg (by decide)).trans ?_
    split
    · exact s3_at m (partner c 3) ⟨i.val, by omega⟩ n ρ (by first | omega | (dsimp only; omega))
    · exact s3_at m c ⟨i.val - 128, by omega⟩ n ρ (by first | omega | (dsimp only; omega))

theorem s5_at (c : Dev nD) (i : Fin 512) (n : Fin 1024) (ρ : Fin 1024) (h : ρ.val = 512 * zN c + i.val) :
    s5V m c (ix2 i n) = total (prodAt m) ρ n := by
  have hp : zN (partner c 4) = zN c ∧ yN (partner c 4) = 1 - yN c := part1 c
  unfold s5V
  pointwise [k0_pay65]
  rw [y_bit]
  rcases y_two c with h0 | h0 <;> rw [h0] at hp ⊢ <;> simp only [if_true, if_false, one_ne_zero, Scalar.select]
  · refine (if_pos rfl).trans ?_
    split
    · exact s4_at m c ⟨i.val, by omega⟩ n ρ (by first | omega | (dsimp only; omega))
    · exact s4_at m (partner c 4) ⟨i.val - 256, by omega⟩ n ρ (by first | omega | (dsimp only; omega))
  · refine (if_neg (by decide)).trans ?_
    split
    · exact s4_at m (partner c 4) ⟨i.val, by omega⟩ n ρ (by first | omega | (dsimp only; omega))
    · exact s4_at m c ⟨i.val - 256, by omega⟩ n ρ (by first | omega | (dsimp only; omega))

/-- Every device ends with the sum of all devices' products. -/
theorem out_at (c : Dev nD) (r n : Fin 1024) : outV m c (ix3 0 r n) = total (prodAt m) r n := by
  have hp : zN (partner c 5) = 1 - zN c := part0 c
  unfold outV
  pointwise [k0_pay66, k0_pay67]
  rw [z_bit]
  rcases z_two c with h0 | h0 <;> rw [h0] at hp ⊢ <;> simp only [if_true, if_false, one_ne_zero, Scalar.select]
  · refine (if_pos rfl).trans ?_
    split
    · exact s5_at m c ⟨r.val, by omega⟩ n r (by first | omega | (dsimp only; omega))
    · exact s5_at m (partner c 5) ⟨r.val - 512, by omega⟩ n r (by first | omega | (dsimp only; omega))
  · refine (if_neg (by decide)).trans ?_
    split
    · exact s5_at m (partner c 5) ⟨r.val, by omega⟩ n r (by first | omega | (dsimp only; omega))
    · exact s5_at m c ⟨r.val - 512, by omega⟩ n r (by first | omega | (dsimp only; omega))

end

end Cert.KernelIdeal.Val

end
-- ==== Proof.Ctx.lean ====
/- A device's context and product over the extended reals, from the arguments. -/
module

public import proofs.«01_k».proof.Proof.Heads
public import proofs.«01_k».proof.Proof.Total
public import Idealize.ShloMosaic.Lib.Pipeline.ValueKit

@[expose] public section

set_option maxRecDepth 65536

noncomputable section

namespace Cert.KernelIdeal.Val

open Idealize.ShloMosaic Idealize.ShloMosaic.TcCoe
open Cert.KernelIdeal.Gen Cert.KernelIdeal.Att Cert.Attend

section
variable (m : (ℓ : Loc nD τ sig) → Buf (Elt Ideal) ℓ)

/-- The arguments of a device, and the keys and the values of device 0, as arrays. -/
def argX (c : Dev nD) : S1x1024x1024.Idx → EReal := m ((c : Thread nD τ).loc main_arg0)
def argQ (c : Dev nD) : S1024x1024.Idx → EReal := m ((c : Thread nD τ).loc main_arg1)
def argK : S1x1024x64x128.Idx → EReal := m (((0 : Dev nD) : Thread nD τ).loc main_arg2)
def argV : S1x1024x64x128.Idx → EReal := m (((0 : Dev nD) : Thread nD τ).loc main_arg3)
def argO (c : Dev nD) : S1024x1024.Idx → EReal := m ((c : Thread nD τ).loc main_arg4)

theorem xV_at (c : Dev nD) (r e : Fin 1024) : xV m c (ix3 0 r e) = argX m c (ix3 0 r e) := by
  unfold xV argX
  exact congrFun (Memref.read_access_unit_zero (Elt Ideal) main_arg0 (by funext a; fin_cases a <;> rfl) _ _) _
theorem wqV_at (c : Dev nD) (r e : Fin 1024) : wqV m c (ix2 r e) = argQ m c (ix2 r e) := by
  unfold wqV argQ
  exact congrFun (Memref.read_access_unit_zero (Elt Ideal) main_arg1 (by funext a; fin_cases a <;> rfl) _ _) _
theorem woV_at (c : Dev nD) (r e : Fin 1024) : woV m c (ix2 r e) = argO m c (ix2 r e) := by
  unfold woV argO
  exact congrFun (Memref.read_access_unit_zero (Elt Ideal) main_arg4 (by funext a; fin_cases a <;> rfl) _ _) _

/-- A device's head of the keys or the values, from device 0's array. -/
theorem head_arr (c : Dev nD) (w : Fin 2) (h : Fin 8) (k : Fin 1024) (d : Fin 128) :
    headKV m c w h (ix3 k 0 d) = kvArr m w (ix4 0 k ⟨8 * c.val + h.val, by have : c.val < 8 := c.isLt; omega⟩ d) := by
  unfold headKV kvV kvBf
  have e0 : (((headR w h).emb (ix3 k 0 d)) 0).val = k.val := by
    show 0 + 1 * k.val = k.val; omega
  have e1 : (((headR w h).emb (ix3 k 0 d)) 1).val = 8 * w.val + h.val := by
    show 8 * w.val + h.val + 1 * 0 = 8 * w.val + h.val; omega
  have e2 : (((headR w h).emb (ix3 k 0 d)) 2).val = d.val := by
    show 0 + 1 * d.val = d.val; omega
  have ew : (if 8 * w.val + h.val < 8 then (0 : Fin 2) else 1) = w := by
    have : ∀ (w : Fin 2) (h : Fin 8), (if 8 * w.val + h.val < 8 then (0 : Fin 2) else 1) = w := by decide
    exact this w h
  have em : (8 * w.val + h.val) % 8 = h.val := by omega
  simp only [e0, e1, e2, ew, em]
  rfl

/-- A device's queries, the keys of its heads, the values. -/
def qOf (c : Dev nD) (r : Fin 1024) (h : Fin 8) (d : Fin 128) : EReal :=
  ∑ e : Fin 1024, argX m c (ix3 0 r e) * argQ m c (ix2 e ⟨h.val * 128 + d.val, by omega⟩)

theorem ctx_at (c : Dev nD) (r : Fin 1024) (h : Fin 8) (d : Fin 128) :
    ctxV m c (ix2 r ⟨h.val * 128 + d.val, by omega⟩)
      = attend (score scale (qOf m c r h) (fun (k : Fin 1024) e => argK m (ix4 0 k ⟨8 * c.val + h.val, by have : c.val < 8 := c.isLt; omega⟩ e)) r.val)
          (fun k : Fin 1024 => argV m (ix4 0 k ⟨8 * c.val + h.val, by have : c.val < 8 := c.isLt; omega⟩ d)) := by
  have e1 : (⟨(h.val * 128 + d.val) / 128, by omega⟩ : Fin 8) = h := Fin.ext (by show (h.val * 128 + d.val) / 128 = h.val; omega)
  have e2 : (⟨(h.val * 128 + d.val) % 128, by omega⟩ : Fin 128) = d := Fin.ext (by show (h.val * 128 + d.val) % 128 = d.val; omega)
  have e : ctxV m c (ix2 r ⟨h.val * 128 + d.val, by omega⟩) = headV m c h (ix2 r d) := by
    show headV m c (⟨(h.val * 128 + d.val) / 128, by omega⟩ : Fin 8) (ix2 r (⟨(h.val * 128 + d.val) % 128, by omega⟩ : Fin 128)) = _
    rw [e1, e2]
  rw [e]
  unfold headV
  rw [head_at]
  simp only [head_arr, qV, q_at, xV_at, wqV_at]
  rfl

/-- A device's product at an index: its heads' attention through its rows of the output matrix. -/
theorem prod_ctx (c : Dev nD) (r n : Fin 1024) : prodAt m c r n = ∑ j : Fin 1024, ctxV m c (ix2 r j) * argO m c (ix2 j n) := by
  unfold prodAt pV
  rw [prod_at]
  simp only [woV_at]
end

end Cert.KernelIdeal.Val

end
-- ==== Proof.RefTerm.lean ====
/- The reference over the extended reals, at an index. -/
module

public import proofs.«01_k».proof.Proof.Gen.ReferenceIdeal.Run
public import proofs.«01_k».proof.Proof.Attend

@[expose] public section

set_option maxRecDepth 65536

noncomputable section

namespace Cert.ReferenceIdeal.Ref

open Idealize.ShloMosaic Idealize.ShloMosaic.TcCoe
open Cert.ReferenceIdeal Cert.ReferenceIdeal.Gen Cert.Attend
open Facts

/-- The mask, the scores, their exponentials and the weights, as the reference's text has them. -/
def blocksR {s : Shape} (b : S_.BroadcastsInDim s (![] : Fin 0 → Fin s.rank)) (a : IVec s 32) : IVec s 32 :=
  select (andi (cmpi .ne (signi a) (broadcastInDim s ![] b (signi (constantI S_ 32 64#32))))
      (cmpi .ne (Host.remsi a (broadcastInDim s ![] b (constantI S_ 32 64#32))) (broadcastInDim s ![] b (constantI S_ 32 0#32))))
    (subi (Host.divsi a (broadcastInDim s ![] b (constantI S_ 32 64#32))) (broadcastInDim s ![] b (constantI S_ 32 1#32)))
    (Host.divsi a (broadcastInDim s ![] b (constantI S_ 32 64#32)))
def maskR : IVec S1024x8192 1 :=
  cmpi .sle (broadcastInDim S1024x8192 ![0, 1] bcast_S1x8192_S1024x8192_0_1 (broadcastInDim S1x8192 ![1] bcast_S8192_S1x8192_1 (blocksR bcast_S_S8192 (iotaInDim S8192 32 0))))
    (broadcastInDim S1024x8192 ![0, 1] bcast_S1024x1_S1024x8192_0_1 (broadcastInDim S1024x1 ![0] bcast_S1024_S1024x1_0 (blocksR bcast_S_S1024 (iotaInDim S1024 32 0))))
def keepR : IVec S1024 1 := Host.reduce IntOp.ori maskR (constantI S_ 1 0#1) reducesTo_S1024x8192_S1024_d1 h_S_
def scoresR (x : FVec Ideal S1x1024x1024 .f32) (w : FVec Ideal S1024x8192 .f32) (k : FVec Ideal S1x8192x64x128 .f32) : FVec Ideal S1x64x1024x8192 .f32 :=
  select (broadcastInDim S1x64x1024x8192 ![0, 1, 2, 3] bcast_S1x1x1024x8192_S1x64x1024x8192_0_1_2_3 (broadcastInDim S1x1x1024x8192 ![2, 3] bcast_S1024x8192_S1x1x1024x8192_2_3 maskR))
    (mulf (Host.dotGeneral dot_S1x1024x64x128_S1x8192x64x128_S1x64x1024x8192_3_3_1_1_02_02 none
        (shapeCast _ (Host.dotGeneral dot_S1x1024x1024_S1024x8192_S1x1024x8192_2_0_01_1_n_n none x w) shapeCasts_S1x1024x8192_S1x1024x64x128) k)
      (broadcastInDim S1x64x1024x8192 ![] bcast_S_S1x64x1024x8192 (constant S_ .f32 0x3DB504F3#32)))
    (broadcastInDim S1x64x1024x8192 ![] bcast_S_S1x64x1024x8192 (id (constant S_ .f32 0xFF800000#32)))
def expR (S : FVec Ideal S1x64x1024x8192 .f32) : FVec Ideal S1x64x1024x8192 .f32 :=
  Host.exp (subf S (broadcastInDim S1x64x1024x8192 ![0, 1, 2, 3] bcast_S1x64x1024x1_S1x64x1024x8192_0_1_2_3
    (broadcastInDim S1x64x1024x1 ![0, 1, 2] bcast_S1x64x1024_S1x64x1024x1_0_1_2
      (Host.reduce FloatOps.maximumf S (constant S_ .f32 0xFF800000#32) reducesTo_S1x64x1024x8192_S1x64x1024_d3 h_S_))))
def sumsR (E : FVec Ideal S1x64x1024x8192 .f32) : FVec Ideal S1x64x1024x1 .f32 :=
  select (broadcastInDim S1x64x1024x1 ![0, 1, 2, 3] bcast_S1x1x1024x1_S1x64x1024x1_0_1_2_3 (broadcastInDim S1x1x1024x1 ![2] bcast_S1024_S1x1x1024x1_2 keepR))
    (broadcastInDim S1x64x1024x1 ![0, 1, 2] bcast_S1x64x1024_S1x64x1024x1_0_1_2 (Host.reduceAdd E (constant S_ .f32 0x00000000#32) reducesTo_S1x64x1024x8192_S1x64x1024_d3 h_S_))
    (broadcastInDim S1x64x1024x1 ![] bcast_S_S1x64x1024x1 (id (constant S_ .f32 0x3F800000#32)))
def weightsR (E : FVec Ideal S1x64x1024x8192 .f32) (T : FVec Ideal S1x64x1024x1 .f32) : FVec Ideal S1x64x1024x8192 .f32 :=
  select (broadcastInDim S1x64x1024x8192 ![0, 1, 2, 3] bcast_S1x1x1024x1_S1x64x1024x8192_0_1_2_3 (broadcastInDim S1x1x1024x1 ![2] bcast_S1024_S1x1x1024x1_2 keepR))
    (Host.divf E (broadcastInDim S1x64x1024x8192 ![0, 1, 2, 3] bcast_S1x64x1024x1_S1x64x1024x8192_0_1_2_3 T))
    (broadcastInDim S1x64x1024x8192 ![] bcast_S_S1x64x1024x8192 (id (constant S_ .f32 0x00000000#32)))
def outR (W : FVec Ideal S1x64x1024x8192 .f32) (v : FVec Ideal S1x8192x64x128 .f32) (wo : FVec Ideal S8192x1024 .f32) : FVec Ideal S1x1024x1024 .f32 :=
  Host.dotGeneral dot_S1x1024x8192_S8192x1024_S1x1024x1024_2_0_01_1_n_n none
    (shapeCast _ (transpose S1x1024x64x128 [0, 3, 1, 2] (Host.dotGeneral dot_S1x8192x64x128_S1x64x1024x8192_S1x64x128x1024_1_3_3_2_02_01 none v W)
      transposes_S1x64x128x1024_S1x1024x64x128_0_3_1_2) shapeCasts_S1x1024x64x128_S1x1024x8192) wo

/-- Scores, exponentials and weights of one argument. -/
def expOf (x : FVec Ideal S1x1024x1024 .f32) (w : FVec Ideal S1024x8192 .f32) (k : FVec Ideal S1x8192x64x128 .f32) : FVec Ideal S1x64x1024x8192 .f32 :=
  expR (scoresR x w k)
def refOut (x : FVec Ideal S1x1024x1024 .f32) (w : FVec Ideal S1024x8192 .f32) (k v : FVec Ideal S1x8192x64x128 .f32) (wo : FVec Ideal S8192x1024 .f32) : FVec Ideal S1x1024x1024 .f32 :=
  outR (weightsR (expOf x w k) (sumsR (expOf x w k))) v wo

/-- The reference's result is the sections' composition. -/
theorem term_eq (m : (ℓ : Loc nD τ sig) → Buf (Elt Ideal) ℓ) (c : Dev nD) :
    Value.res_out0 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The host's floor division of a small word by 64. -/
def blockH (a : BitVec 32) : BitVec 32 :=
  Scalar.select
    (IntOp.andi (IntOp.cmpi .ne (if a = 0 then (0 : BitVec 32) else if a.msb = true then -1 else 1) (if (64#32) = 0 then (0 : BitVec 32) else if (64#32).msb = true then -1 else 1))
      (IntOp.cmpi .ne (IntOp.remsi .host a 64#32) 0#32))
    (IntOp.subi (IntOp.divsi .host a 64#32) 1#32) (IntOp.divsi .host a 64#32)

theorem blockH_eq : ∀ k : Fin 8192, blockH (BitVec.ofNat 32 k.val) = BitVec.ofNat 32 (k.val / 64) := by decide +kernel
theorem sle_all : ∀ a : Fin 128, ∀ b : Fin 16, IntOp.cmpi .sle (BitVec.ofNat 32 a.val) (BitVec.ofNat 32 b.val) = if a.val ≤ b.val then 1#1 else 0#1 := by decide +kernel

theorem mask_at (r : Fin 1024) (k : Fin 8192) : maskR (ix2 r k) = if k.val / 64 ≤ r.val / 64 then 1#1 else 0#1 := by
  have e : maskR (ix2 r k) = IntOp.cmpi .sle (blockH (BitVec.ofNat 32 k.val)) (blockH (BitVec.ofNat 32 r.val)) := by
    pointwise [maskR, blocksR]
    rfl
  rw [e, blockH_eq k, blockH_eq ⟨r.val, by omega⟩]
  exact sle_all ⟨k.val / 64, by omega⟩ ⟨r.val / 64, by omega⟩

theorem keep_at (r : Fin 1024) : keepR (ix1 r) = 1#1 := by
  have e : keepR (ix1 r) = Finset.fold IntOp.ori (0#1) (fun k => maskR (ix2 r k)) Finset.univ := by pointwise [keepR]
  rw [e, ← Finset.insert_erase (Finset.mem_univ (0 : Fin 8192)), Finset.fold_insert (Finset.notMem_erase _ _), mask_at, if_pos (by simp)]
  generalize Finset.fold IntOp.ori _ _ _ = b
  revert b; decide

theorem scores_at (x : FVec Ideal S1x1024x1024 .f32) (w : FVec Ideal S1024x8192 .f32) (k : FVec Ideal S1x8192x64x128 .f32) (h : Fin 64) (r : Fin 1024) (j : Fin 8192) :
    scoresR x w k (ix4 0 h r j) = score (Ideal.ofBits .f32 0x3DB504F3#32)
      (fun d => ∑ e, x (ix3 0 r e) * w (ix2 e ⟨h.val * 128 + d.val, by omega⟩)) (fun j d => k (ix4 0 j h d)) r.val j := by
  have e : scoresR x w k (ix4 0 h r j) = Scalar.select (maskR (ix2 r j)) ((∑ d : Fin 128, (∑ e, x (ix3 0 r e) * w (ix2 e ⟨h.val * 128 + d.val, by omega⟩)) * k (ix4 0 j h d)) * Ideal.ofBits .f32 0x3DB504F3#32)
      (Ideal.ofBits .f32 0xFF800000#32) := by
    pointwise [scoresR]
    rfl
  rw [e, mask_at, show Ideal.ofBits .f32 0xFF800000#32 = (⊥ : EReal) from by rfl]
  unfold score
  split <;> rfl

theorem exp_at (S : FVec Ideal S1x64x1024x8192 .f32) (h : Fin 64) (r : Fin 1024) (j : Fin 8192) :
    expR S (ix4 0 h r j) = Ideal.exp (S (ix4 0 h r j) - peak (fun j => S (ix4 0 h r j))) := by
  pointwise [expR]
  rfl

theorem sums_at (E : FVec Ideal S1x64x1024x8192 .f32) (h : Fin 64) (r : Fin 1024) : sumsR E (ix4 0 h r 0) = ∑ j, E (ix4 0 h r j) := by
  have e : sumsR E (ix4 0 h r 0) = Scalar.select (keepR (ix1 r)) (∑ j, E (ix4 0 h r j)) (id (constant (F := Ideal) S_ .f32 0x3F800000#32) ix0) := by
    pointwise [sumsR]
  rw [e, keep_at]; rfl

theorem weights_at (E : FVec Ideal S1x64x1024x8192 .f32) (T : FVec Ideal S1x64x1024x1 .f32) (h : Fin 64) (r : Fin 1024) (j : Fin 8192) :
    weightsR E T (ix4 0 h r j) = Ideal.div (E (ix4 0 h r j)) (T (ix4 0 h r 0)) := by
  have e : weightsR E T (ix4 0 h r j) = Scalar.select (keepR (ix1 r)) (Ideal.div (E (ix4 0 h r j)) (T (ix4 0 h r 0))) (id (constant (F := Ideal) S_ .f32 0#32) ix0) := by
    pointwise [weightsR]
  rw [e, keep_at]; rfl

theorem out_at (W : FVec Ideal S1x64x1024x8192 .f32) (v : FVec Ideal S1x8192x64x128 .f32) (wo : FVec Ideal S8192x1024 .f32) (r n : Fin 1024) :
    outR W v wo (ix3 0 r n) = ∑ J : Fin 8192, (∑ k, v (ix4 0 k ⟨J.val / 128, by omega⟩ ⟨J.val % 128, by omega⟩) * W (ix4 0 ⟨J.val / 128, by omega⟩ r k)) * wo (ix2 J n) := by
  pointwise [outR]

/-- The reference's result at a row and a column: every head's attention, through the output weights. -/
theorem ref_at (x : FVec Ideal S1x1024x1024 .f32) (w : FVec Ideal S1024x8192 .f32) (k v : FVec Ideal S1x8192x64x128 .f32) (wo : FVec Ideal S8192x1024 .f32) (r n : Fin 1024) :
    refOut x w k v wo (ix3 0 r n) = ∑ J : Fin 8192, attend
      (score (Ideal.ofBits .f32 0x3DB504F3#32)
        (fun d : Fin 128 => ∑ e, x (ix3 0 r e) * w (ix2 e ⟨J.val / 128 * 128 + d.val, by omega⟩)) (fun (j : Fin 8192) d => k (ix4 0 j ⟨J.val / 128, by omega⟩ d)) r.val)
      (fun j => v (ix4 0 j ⟨J.val / 128, by omega⟩ ⟨J.val % 128, by omega⟩)) * wo (ix2 J n) := by
  unfold refOut
  rw [out_at]
  refine Finset.sum_congr rfl fun J _ => congrArg (· * _) ?_
  unfold attend
  refine Finset.sum_congr rfl fun j _ => ?_
  rw [mul_comm, weights_at, sums_at]
  unfold expOf
  simp only [exp_at, scores_at]

end Cert.ReferenceIdeal.Ref

end
-- ==== Proof.Whole.lean ====
/- The devices' products add up to the reference's result, over the extended reals. -/
module

public import proofs.«01_k».proof.Proof.Ctx
public import proofs.«01_k».proof.Proof.RefTerm

@[expose] public section

set_option maxRecDepth 65536

noncomputable section

namespace Cert.Proof

open Idealize.ShloMosaic Idealize.ShloMosaic.TcCoe
open Cert.Attend Cert.KernelIdeal.Att Cert.KernelIdeal.Val

/-- A head of the whole problem at a row and a column. -/
def headOf (x : (⟨3, ![1, 1024, 1024]⟩ : Shape).Idx → EReal) (w : (⟨2, ![1024, 8192]⟩ : Shape).Idx → EReal) (k v : (⟨4, ![1, 8192, 64, 128]⟩ : Shape).Idx → EReal)
    (r : Fin 1024) (h : Fin 64) (d : Fin 128) : EReal :=
  attend (score scale (fun d : Fin 128 => ∑ e : Fin 1024, x (ix3 0 r e) * w (ix2 e ⟨h.val * 128 + d.val, by omega⟩)) (fun (j : Fin 8192) d => k (ix4 0 j h d)) r.val)
    (fun j => v (ix4 0 j h d))

theorem ref_heads (x : (⟨3, ![1, 1024, 1024]⟩ : Shape).Idx → EReal) (w : (⟨2, ![1024, 8192]⟩ : Shape).Idx → EReal) (k v : (⟨4, ![1, 8192, 64, 128]⟩ : Shape).Idx → EReal)
    (wo : (⟨2, ![8192, 1024]⟩ : Shape).Idx → EReal) (r n : Fin 1024) :
    Cert.ReferenceIdeal.Ref.refOut x w k v wo (ix3 0 r n)
      = ∑ J : Fin 8192, headOf x w k v r ⟨J.val / 128, by omega⟩ ⟨J.val % 128, by omega⟩ * wo (ix2 J n) :=
  Cert.ReferenceIdeal.Ref.ref_at x w k v wo r n

theorem blk_lt (c : Fin 8) (j : Fin 1024) : c.val * 1024 + j.val < 8192 := by omega
theorem first_lt (j : Fin 1024) : j.val < 8192 := by omega

section
open Cert.KernelIdeal
variable (m : (ℓ : Loc nD τ sig) → Buf (Elt Ideal) ℓ)
  (x : (⟨3, ![1, 1024, 1024]⟩ : Shape).Idx → EReal) (w : (⟨2, ![1024, 8192]⟩ : Shape).Idx → EReal) (k v : (⟨4, ![1, 8192, 64, 128]⟩ : Shape).Idx → EReal)
  (wo : (⟨2, ![8192, 1024]⟩ : Shape).Idx → EReal)
  (hx : ∀ (c : Dev nD) (r e : Fin 1024), argX m c (ix3 0 r e) = x (ix3 0 r e))
  (hw : ∀ (c : Fin 8) (e j : Fin 1024), argQ m c (ix2 e j) = w (ix2 e ⟨c.val * 1024 + j.val, blk_lt c j⟩))
  (hk : ∀ (j : Fin 1024) (h : Fin 64) (d : Fin 128), argK m (ix4 0 j h d) = k (ix4 0 ⟨j.val, first_lt j⟩ h d))
  (hv : ∀ (j : Fin 1024) (h : Fin 64) (d : Fin 128), argV m (ix4 0 j h d) = v (ix4 0 ⟨j.val, first_lt j⟩ h d))
  (ho : ∀ (c : Fin 8) (j n : Fin 1024), argO m c (ix2 j n) = wo (ix2 ⟨c.val * 1024 + j.val, blk_lt c j⟩ n))
  (fx : ∀ r e : Fin 1024, x (ix3 0 r e) ≠ ⊤ ∧ x (ix3 0 r e) ≠ ⊥)
  (fw : ∀ (e : Fin 1024) (j : Fin 8192), w (ix2 e j) ≠ ⊤ ∧ w (ix2 e j) ≠ ⊥)
  (fk : ∀ (j : Fin 8192) (h : Fin 64) (d : Fin 128), k (ix4 0 j h d) ≠ ⊤ ∧ k (ix4 0 j h d) ≠ ⊥)

include hx hw hk hv fx fw fk in
/-- A device's head is the whole problem's head: the rows attend to no key past the first block's. -/
theorem ctx_head (c : Fin 8) (r : Fin 1024) (h : Fin 8) (d : Fin 128) :
    ctxV m c (ix2 r ⟨h.val * 128 + d.val, by omega⟩) = headOf x w k v r ⟨8 * c.val + h.val, by omega⟩ d := by
  rw [ctx_at]
  unfold headOf
  rw [attend_score (a := 1024) (n := 8192) (by decide) (by decide) scale scale_real _ _ _ r.val
    (fun d => real_sum _ fun e => real_mul (fx r e) (fw e _)) (fun j d => fk j _ d) (fun j hj => by have := r.isLt; omega)]
  have hq : qOf m c r h = fun d : Fin 128 => ∑ e : Fin 1024, x (ix3 0 r e) * w (ix2 e ⟨(8 * c.val + h.val) * 128 + d.val, by omega⟩) := by
    funext d
    unfold qOf
    refine Finset.sum_congr rfl fun e _ => ?_
    rw [hx, hw]
    exact congrArg (fun i => x (ix3 0 r e) * w (ix2 e i)) (Fin.ext (by show c.val * 1024 + (h.val * 128 + d.val) = (8 * c.val + h.val) * 128 + d.val; omega))
  rw [hq]
  simp only [hk, hv]
  rfl

include hx hw hk hv ho fx fw fk in
theorem total_ref (r n : Fin 1024) : total (prodAt m) r n = Cert.ReferenceIdeal.Ref.refOut x w k v wo (ix3 0 r n) := by
  rw [ref_heads]
  unfold total
  refine Eq.trans (Finset.sum_congr rfl fun c _ => prod_ctx m c r n) ?_
  refine Fin.sum_mul_add_congr fun c j hj => ?_
  have hc : c.val < 8 := c.isLt
  have e := ctx_head m x w k v hx hw hk hv fx fw fk c r ⟨j.val / 128, by omega⟩ ⟨j.val % 128, by omega⟩
  rw [show (⟨j.val / 128 * 128 + j.val % 128, by omega⟩ : Fin 1024) = j from Fin.ext (Nat.div_add_mod' _ _)] at e
  rw [e, ho]
  have e1 : ∀ p q, (⟨8 * c.val + j.val / 128, p⟩ : Fin 64) = ⟨(c.val * 1024 + j.val) / 128, q⟩ := fun _ _ => Fin.ext (by dsimp only; omega)
  have e2 : ∀ p q, (⟨j.val % 128, p⟩ : Fin 128) = ⟨(c.val * 1024 + j.val) % 128, q⟩ := fun _ _ => Fin.ext (by dsimp only; omega)
  exact congrArg (· * _) (congr (congrArg (fun h d => headOf x w k v r h d) (e1 _ _)) (e2 _ _))
end

end Cert.Proof

end
-- ==== Proof.Pre.lean ====
/- The precondition read: the entries of the rows, of the queries' matrix and of the keys are reals. -/
module

public import proofs.«01_k».proof.Pre_finite_KernelIdeal
public import proofs.«01_k».proof.Pre_finite_ReferenceIdeal
public import Idealize.ShloMosaic.Lib.Pointwise
public import Idealize.ShloMosaic.Lib.ReduceAll

@[expose] public section

set_option maxRecDepth 65536

noncomputable section

namespace Cert.Proof

open Idealize.ShloMosaic Idealize.ShloMosaic.TcCoe

instance preKernel : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x64x128 := by decide
  reducesTo_S1x1024x64x128_S_d0_1_2_3 := by decide
instance preReference : Cert.Pre_finite_ReferenceIdeal.Facts where
  bcast_S_S1x1024x1024 := by decide
  reducesTo_S1x1024x1024_S_d0_1_2 := by decide
  h_S_ := by decide
  bcast_S_S1024x8192 := by decide
  reducesTo_S1024x8192_S_d0_1 := by decide
  bcast_S_S1x8192x64x128 := by decide
  reducesTo_S1x8192x64x128_S_d0_1_2_3 := by decide

open Cert.Pre_finite_KernelIdeal Cert.Pre_finite_KernelIdeal.Facts

/-- An extended real whose absolute value lies below plus infinity is a real. -/
theorem real_of (y : Ideal .f32) (h : BitVec.ofBool (decide (FloatOps.absf y < Ideal.ofBits .f32 0x7F800000#32)) = 1#1) :
    (y : EReal) ≠ ⊤ ∧ (y : EReal) ≠ ⊥ := by
  have ht : Ideal.ofBits .f32 0x7F800000#32 = (⊤ : EReal) := by simp [Ideal.ofBits, Ideal.ieee]
  rw [ht] at h
  constructor
  · rintro rfl
    revert h
    simp [FloatOps.absf]
  · rintro rfl
    revert h
    simp [FloatOps.absf]

theorem all_real {s : Shape} {axes : List (Fin s.rank)} (b : S_.BroadcastsInDim s (![] : Fin 0 → Fin s.rank)) (hr : s.ReducesTo axes S_) (hu : 0 < S_.numel) (x : FVec Ideal s .f32)
    (h : Host.reduce IntOp.andi (cmpf .olt (Host.absf x) (broadcastInDim s ![] b (constant S_ .f32 0x7F800000#32))) (constantI S_ 1 1#1) hr hu ix0 = 1#1) (i : s.Idx) :
    (x i : EReal) ≠ ⊤ ∧ (x i : EReal) ≠ ⊥ := by
  haveI : Subsingleton S_.Idx := ⟨fun a b => funext fun k => k.elim0⟩
  refine real_of _ (Eq.trans ?_ (Host.reduce_andi_all _ _ hr hu _ h i))
  rfl

theorem pre_real (a : FVec Ideal S1x1024x1024 .f32) (b : FVec Ideal S1024x1024 .f32) (k v : FVec Ideal S1x1024x64x128 .f32) (o : FVec Ideal S1024x1024 .f32)
    (h : fn (F := Ideal) a b k v o = fun _ => 1#1) :
    (∀ i, (a i : EReal) ≠ ⊤ ∧ (a i : EReal) ≠ ⊥) ∧ (∀ i, (b i : EReal) ≠ ⊤ ∧ (b i : EReal) ≠ ⊥) ∧ ∀ i, (k i : EReal) ≠ ⊤ ∧ (k i : EReal) ≠ ⊥ := by
  have h := congrFun h ix0
  obtain ⟨h, h3⟩ := IntOp.andi_eq_one.1 h
  obtain ⟨h1, h2⟩ := IntOp.andi_eq_one.1 h
  exact ⟨all_real _ _ _ a h1, all_real _ _ _ b h2, all_real _ _ _ k h3⟩

end Cert.Proof

end
-- ==== Proof.Value.lean ====
/- The value claim: every device's result is the reference's. -/
module

public import proofs.«01_k».proof.Defs
public import proofs.«01_k».proof.Proof.Frames
public import proofs.«01_k».proof.Proof.Whole
public import proofs.«01_k».proof.Proof.Pre
public import Idealize.ShloMosaic.Lib.Pipeline.ValueKit

@[expose] public section

set_option maxRecDepth 65536

noncomputable section

namespace Cert.Proof

open Idealize.ShloMosaic Idealize.ShloMosaic.TcCoe Idealize.SL.Sem
open Cert.KernelIdeal.Att (run_main QC finalA dats outV)
open Cert.KernelIdeal.Val (out_at)

section
open Cert.KernelIdeal
variable (m : (ℓ : Loc nD τ sig) → Buf (Elt Ideal) ℓ) (ρ : Dev nD → PrngReg)

/-- The result array ends holding what the body left in its block. -/
theorem final_out (c : Dev nD) : finalA m ρ c (3 : Fin 4) = outV m c := by
  unfold finalA
  have h : (cfg0.win (3 : Fin 4)).WholeAt (0 : Fin 1) :=
    ⟨rfl, fun t _ => Subsingleton.elim (α := Fin 1) _ _, fun a => ⟨by revert a; decide, by revert a; decide⟩⟩
  refine (dats m ρ 0 c).arrAt_eq_of_after_last (3 : Fin 4) (0 : Fin 1) h _ fun j => ?_
  rfl
end

theorem value : Cert.algebraic_KernelIdeal_ReferenceIdeal_pre_finite_KernelIdeal (hKernelIdeal := Cert.KernelIdeal.Gen.facts)
    (hReferenceIdeal := Cert.ReferenceIdeal.Gen.facts) (hPre_finite_KernelIdeal := preKernel) := by
  intro m g m' g' hpre hargs
  have hf := fun c => pre_real _ _ _ _ _ (hpre c)
  have out : ∀ c, outV m c = Cert.ReferenceIdeal.Value.res_out0 m' 0 := fun c => by
    rw [Cert.ReferenceIdeal.Ref.term_eq]
    funext i
    obtain ⟨r, n, rfl⟩ : ∃ r n : Fin 1024, i = ix3 0 r n := ⟨i 1, i 2, by
      funext a; fin_cases a
      · exact Fin.ext (by have : (i 0).val < 1 := (i 0).isLt; show (i 0).val = 0; omega)
      · rfl
      · rfl⟩
    rw [out_at]
    refine total_ref m _ _ _ _ _ (fun c r e => ?_) (fun c e j => ?_) (fun j h d => ?_) (fun j h d => ?_) (fun c j n => ?_)
      (fun r e => ?_) (fun e j => ?_) (fun j hd d => ?_) r n
    · exact congrFun (hargs c).1 _
    · refine (congrFun (hargs c).2.1 _).trans (congrArg (m' _) (funext fun a => ?_))
      fin_cases a <;> rfl
    · refine (congrFun (hargs 0).2.2.1 _).trans (congrArg (m' _) (funext fun a => ?_))
      fin_cases a <;> first | rfl | exact Fin.ext (Nat.zero_add _)
    · refine (congrFun (hargs 0).2.2.2.1 _).trans (congrArg (m' _) (funext fun a => ?_))
      fin_cases a <;> first | rfl | exact Fin.ext (Nat.zero_add _)
    · refine (congrFun (hargs c).2.2.2.2 _).trans (congrArg (m' _) (funext fun a => ?_))
      fin_cases a <;> rfl
    · have h := (hf 0).1 (ix3 0 r e)
      rw [(hargs 0).1] at h
      exact h
    · have h := (hf ⟨j.val / 1024, by have := j.isLt; show j.val / 1024 < 8; omega⟩).2.1 (ix2 e (⟨j.val % 1024, by omega⟩ : Fin 1024))
      rw [(hargs _).2.1, Layout.block_apply] at h
      refine (iff_of_eq (congrArg (fun y : EReal => y ≠ ⊤ ∧ y ≠ ⊥) (congrArg (m' ((0 : Dev Cert.ReferenceIdeal.nD).tc.loc Cert.ReferenceIdeal.main_arg1)) (funext fun a => ?_)))).mp h
      fin_cases a
      · rfl
      · exact Fin.ext (Nat.div_add_mod' j.val 1024)
    · have h := (hf ⟨j.val / 1024, by have := j.isLt; show j.val / 1024 < 8; omega⟩).2.2 (ix4 0 (⟨j.val % 1024, by omega⟩ : Fin 1024) hd d)
      rw [(hargs _).2.2.1, Layout.block_apply] at h
      refine (iff_of_eq (congrArg (fun y : EReal => y ≠ ⊤ ∧ y ≠ ⊥) (congrArg (m' ((0 : Dev Cert.ReferenceIdeal.nD).tc.loc Cert.ReferenceIdeal.main_arg2)) (funext fun a => ?_)))).mp h
      fin_cases a
      · rfl
      · exact Fin.ext (Nat.div_add_mod' j.val 1024)
      · rfl
      · rfl
  refine ⟨Cert.ReferenceIdeal.Value.res_out0 m' 0, (θ_run Cert.KernelIdeal.defs _ _).mono (fun r h c => ⟨?_, args_kept m g r h.1 c⟩) (run_main (F := Ideal) m g),
    (θ_run Cert.ReferenceIdeal.defs _ _).mono (fun r h => h 0) (Cert.ReferenceIdeal.Value.run (F := Ideal) m' g')⟩
  exact ((h.1 c).1 (3 : Fin 4)).trans ((final_out m g c).trans (out c))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preKernel, preReference, by
  exact ⟨frame_kernel, frame_ideal, fun m ρ _ => frame_ideal m ρ trivial, frame_reference, fun m ρ _ => frame_reference m ρ trivial,
    IdealRules.named_const.statement Cert.KernelIdeal.κ "mask" .f32 0xCE6E6B28#32 ⊥ rfl, value⟩⟩

end Cert.Proof

end
